-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ascending_and_finite [hPre_ascending_and_finite : Cert.Pre_ascending_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_ascending_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ascending_and_finite [hPre_ascending_and_finite : Cert.Pre_ascending_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ascending_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_ascending_and_finite [hKernelIdeal : Cert.KernelIdeal.Facts] [hPre_ascending_and_finite : Cert.Pre_ascending_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ascending_and_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_ascending_and_finite [hReferenceIdeal : Cert.ReferenceIdeal.Facts] [hPre_ascending_and_finite : Cert.Pre_ascending_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ascending_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_ascending_and_finite [hKernelIdeal : Cert.KernelIdeal.Facts] [hReferenceIdeal : Cert.ReferenceIdeal.Facts] [hPre_ascending_and_finite : Cert.Pre_ascending_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ascending_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_ascending_and_finite : Cert.Pre_ascending_and_finite.Facts),
    quiescent_Kernel (hKernel := hKernel)
    ∧ quiescent_KernelIdeal (hKernelIdeal := hKernelIdeal)
    ∧ quiescent_KernelIdeal_pre_ascending_and_finite (hKernelIdeal := hKernelIdeal) (hPre_ascending_and_finite := hPre_ascending_and_finite)
    ∧ quiescent_ReferenceIdeal (hReferenceIdeal := hReferenceIdeal)
    ∧ quiescent_ReferenceIdeal_pre_ascending_and_finite (hReferenceIdeal := hReferenceIdeal) (hPre_ascending_and_finite := hPre_ascending_and_finite)
    ∧ preserves_Kernel_KernelIdeal
    ∧ algebraic_KernelIdeal_ReferenceIdeal_pre_ascending_and_finite (hKernelIdeal := hKernelIdeal) (hReferenceIdeal := hReferenceIdeal) (hPre_ascending_and_finite := hPre_ascending_and_finite)
-- ==== Pre_ascending_and_finite.lean ====
abbrev S2048x1024 : Shape := ⟨2, ![2048, 1024]⟩
abbrev S2048 : Shape := ⟨1, ![2048]⟩
abbrev S_ : Shape := ⟨0, ![]⟩
abbrev S1024x1024 : Shape := ⟨2, ![1024, 1024]⟩
abbrev S1024 : Shape := ⟨1, ![1024]⟩
abbrev S2047 : Shape := ⟨1, ![2047]⟩

class Facts : Prop where
  slices_S2048_S2047_0 : S2048.Slices ![0] S2047
  slices_S2048_S2047_1 : S2048.Slices ![1] S2047
  reducesTo_S2047_S_d0 : S2047.ReducesTo [0] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg9 : FVec F S1024x1024 .f32) (main_arg10 : FVec F S1024 .f32) (main_v33 : IVec S_ 1) (main_v34 : FVec F S1024 .f32) : IVec S_ 1 :=
  let main_cst_11 : FVec F S_ .f32 := constant S_ .f32 0x7F800000#32
  let main_v35 : FVec F S1024 .f32 := broadcastInDim S1024 ![] bcast_S_S1024 main_cst_11
  let main_v36 : IVec S1024 1 := cmpf .olt main_v34 main_v35
  let main_c_12 : IVec S_ 1 := constantI S_ 1 1#1
  let main_v37 : IVec S_ 1 := (fun x v => Host.reduce IntOp.andi x v reducesTo_S1024_S_d0 h_S_) main_v36 main_c_12
  let main_v38 : IVec S_ 1 := andi main_v33 main_v37
  let main_v39 : FVec F S1024x1024 .f32 := Host.absf main_arg9
  let main_cst_13 : FVec F S_ .f32 := constant S_ .f32 0x7F800000#32
  let main_v40 : FVec F S1024x1024 .f32 := broadcastInDim S1024x1024 ![] bcast_S_S1024x1024 main_cst_13
  let main_v41 : IVec S1024x1024 1 := cmpf .olt main_v39 main_v40
  let main_c_14 : IVec S_ 1 := constantI S_ 1 1#1
  let main_v42 : IVec S_ 1 := (fun x v => Host.reduce IntOp.andi x v reducesTo_S1024x1024_S_d0_1 h_S_) main_v41 main_c_14
  let main_v43 : IVec S_ 1 := andi main_v38 main_v42
  let main_v44 : FVec F S1024 .f32 := Host.absf main_arg10
  let main_cst_15 : FVec F S_ .f32 := constant S_ .f32 0x7F800000#32
  let main_v45 : FVec F S1024 .f32 := broadcastInDim S1024 ![] bcast_S_S1024 main_cst_15
  let main_v46 : IVec S1024 1 := cmpf .olt main_v44 main_v45
  let main_c_16 : IVec S_ 1 := constantI S_ 1 1#1
  let main_v47 : IVec S_ 1 := (fun x v => Host.reduce IntOp.andi x v reducesTo_S1024_S_d0 h_S_) main_v46 main_c_16
  let main_v48 : IVec S_ 1 := andi main_v43 main_v47
  main_v48

def fn_part1 {F : FTy → Type} [FloatOps F] (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_v13 : IVec S_ 1) (main_v16 : IVec S1024 1) (main_c_4 : IVec S_ 1) : IVec S_ 1 :=
  let main_v17 : IVec S_ 1 := (fun x v => Host.reduce IntOp.andi x v reducesTo_S1024_S_d0 h_S_) main_v16 main_c_4
  let main_v18 : IVec S_ 1 := andi main_v13 main_v17
  let main_v19 : FVec F S1024x1024 .f32 := Host.absf main_arg5
  let main_cst_5 : FVec F S_ .f32 := constant S_ .f32 0x7F800000#32
  let main_v20 : FVec F S1024x1024 .f32 := broadcastInDim S1024x1024 ![] bcast_S_S1024x1024 main_cst_5
  let main_v21 : IVec S1024x1024 1 := cmpf .olt main_v19 main_v20
  let main_c_6 : IVec S_ 1 := constantI S_ 1 1#1
  let main_v22 : IVec S_ 1 := (fun x v => Host.reduce IntOp.andi x v reducesTo_S1024x1024_S_d0_1 h_S_) main_v21 main_c_6
  let main_v23 : IVec S_ 1 := andi main_v18 main_v22
  let main_v24 : FVec F S1024 .f32 := Host.absf main_arg6
  let main_cst_7 : FVec F S_ .f32 := constant S_ .f32 0x7F800000#32
  let main_v25 : FVec F S1024 .f32 := broadcastInDim S1024 ![] bcast_S_S1024 main_cst_7
  let main_v26 : IVec S1024 1 := cmpf .olt main_v24 main_v25
  let main_c_8 : IVec S_ 1 := constantI S_ 1 1#1
  let main_v27 : IVec S_ 1 := (fun x v => Host.reduce IntOp.andi x v reducesTo_S1024_S_d0 h_S_) main_v26 main_c_8
  let main_v28 : IVec S_ 1 := andi main_v23 main_v27
  let main_v29 : FVec F S1024x1024 .f32 := Host.absf main_arg7
  let main_cst_9 : FVec F S_ .f32 := constant S_ .f32 0x7F800000#32
  let main_v30 : FVec F S1024x1024 .f32 := broadcastInDim S1024x1024 ![] bcast_S_S1024x1024 main_cst_9
  let main_v31 : IVec S1024x1024 1 := cmpf .olt main_v29 main_v30
  let main_c_10 : IVec S_ 1 := constantI S_ 1 1#1
  let main_v32 : IVec S_ 1 := (fun x v => Host.reduce IntOp.andi x v reducesTo_S1024x1024_S_d0_1 h_S_) main_v31 main_c_10
  let main_v33 : IVec S_ 1 := andi main_v28 main_v32
  let main_v34 : FVec F S1024 .f32 := Host.absf main_arg8
  fn_part2 (F := F) main_arg9 main_arg10 main_v33 main_v34

def fn {F : FTy → Type} [FloatOps F] (main_arg0 : FVec F S2048x1024 .f32) (main_arg1 : IVec S2048 32) (main_arg2 : IVec S_ 32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) : IVec S_ 1 :=
  let main_v0 : IVec S2047 32 := (extractStridedSlice S2047 ![0] · slices_S2048_S2047_0) main_arg1
  let main_v1 : IVec S2047 32 := (extractStridedSlice S2047 ![1] · slices_S2048_S2047_1) main_arg1
  let main_v2 : IVec S2047 1 := cmpi .sle main_v0 main_v1
  let main_c : IVec S_ 1 := constantI S_ 1 1#1
  let main_v3 : IVec S_ 1 := (fun x v => Host.reduce IntOp.andi x v reducesTo_S2047_S_d0 h_S_) main_v2 main_c
  let main_v4 : FVec F S2048x1024 .f32 := Host.absf main_arg0
  let main_cst : FVec F S_ .f32 := constant S_ .f32 0x7F800000#32
  let main_v5 : FVec F S2048x1024 .f32 := broadcastInDim S2048x1024 ![] bcast_S_S2048x1024 main_cst
  let main_v6 : IVec S2048x1024 1 := cmpf .olt main_v4 main_v5
  let main_c_0 : IVec S_ 1 := constantI S_ 1 1#1
  let main_v7 : IVec S_ 1 := (fun x v => Host.reduce IntOp.andi x v reducesTo_S2048x1024_S_d0_1 h_S_) main_v6 main_c_0
  let main_v8 : IVec S_ 1 := andi main_v3 main_v7
  let main_v9 : FVec F S1024x1024 .f32 := Host.absf main_arg3
  let main_cst_1 : FVec F S_ .f32 := constant S_ .f32 0x7F800000#32
  let main_v10 : FVec F S1024x1024 .f32 := broadcastInDim S1024x1024 ![] bcast_S_S1024x1024 main_cst_1
  let main_v11 : IVec S1024x1024 1 := cmpf .olt main_v9 main_v10
  let main_c_2 : IVec S_ 1 := constantI S_ 1 1#1
  let main_v12 : IVec S_ 1 := (fun x v => Host.reduce IntOp.andi x v reducesTo_S1024x1024_S_d0_1 h_S_) main_v11 main_c_2
  let main_v13 : IVec S_ 1 := andi main_v8 main_v12
  let main_v14 : FVec F S1024 .f32 := Host.absf main_arg4
  let main_cst_3 : FVec F S_ .f32 := constant S_ .f32 0x7F800000#32
  let main_v15 : FVec F S1024 .f32 := broadcastInDim S1024 ![] bcast_S_S1024 main_cst_3
  let main_v16 : IVec S1024 1 := cmpf .olt main_v14 main_v15
  let main_c_4 : IVec S_ 1 := constantI S_ 1 1#1
  fn_part1 (F := F) main_arg5 main_arg6 main_arg7 main_arg8 main_arg9 main_arg10 main_v13 main_v16 main_c_4
-- ==== Kernel.lean ====
abbrev S2048x1024 : Shape := ⟨2, ![2048, 1024]⟩
abbrev S2048 : Shape := ⟨1, ![2048]⟩
abbrev S_ : Shape := ⟨0, ![]⟩
abbrev S1024x1024 : Shape := ⟨2, ![1024, 1024]⟩
abbrev S1024 : Shape := ⟨1, ![1024]⟩
abbrev S1 : Shape := ⟨1, ![1]⟩
abbrev S16 : Shape := ⟨1, ![16]⟩
abbrev S32x16 : Shape := ⟨2, ![32, 16]⟩
abbrev S64 : Shape := ⟨1, ![64]⟩
abbrev S1x16 : Shape := ⟨2, ![1, 16]⟩
abbrev S1x1024 : Shape := ⟨2, ![1, 1024]⟩
abbrev S128x1024 : Shape := ⟨2, ![128, 1024]⟩
abbrev S8 : Shape := ⟨1, ![8]⟩
abbrev S128x16 : Shape := ⟨2, ![128, 16]⟩
abbrev S1x32x16 : Shape := ⟨3, ![1, 32, 16]⟩
abbrev S1x1x1 : Shape := ⟨3, ![1, 1, 1]⟩
abbrev S128x1 : Shape := ⟨2, ![128, 1]⟩
abbrev S1x128 : Shape := ⟨2, ![1, 128]⟩
abbrev S128x64 : Shape := ⟨2, ![128, 64]⟩
abbrev S128x128 : Shape := ⟨2, ![128, 128]⟩
abbrev S128 : Shape := ⟨1, ![128]⟩
abbrev S1x64 : Shape := ⟨2, ![1, 64]⟩

abbrev nBuf : Table → Nat
  | .hbm => 27
  | .local .tc .vmem => 23
  | .local .tc .smem => 1
  | .local .scVector .vmem => 4
  | _ => 0

abbrev bufTy : (tb : Table) → Fin (nBuf tb) → BufTy
  | .hbm, ⟨0, _⟩ => ⟨S2048x1024, .f32⟩
  | .hbm, ⟨1, _⟩ => ⟨S2048, .i32⟩
  | .hbm, ⟨2, _⟩ => ⟨S_, .i32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S_, .i32⟩
  | .hbm, ⟨12, _⟩ => ⟨S_, .i1⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S1, .i32⟩
  | .hbm, ⟨17, _⟩ => ⟨S_, .i32⟩
  | .hbm, ⟨18, _⟩ => ⟨S16, .i32⟩
  | .hbm, ⟨19, _⟩ => ⟨S32x16, .i32⟩
  | .hbm, ⟨20, _⟩ => ⟨S32x16, .i32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S1024, .f32⟩
  | .local .tc .vmem, ⟨0, _⟩ => ⟨S32x16, .i32⟩
  | .local .tc .vmem, ⟨1, _⟩ => ⟨S32x16, .i32⟩
  | .local .tc .vmem, ⟨2, _⟩ => ⟨S128x1024, .f32⟩
  | .local .tc .vmem, ⟨3, _⟩ => ⟨S128x1024, .f32⟩
  | .local .tc .vmem, ⟨4, _⟩ => ⟨S1024x1024, .f32⟩
  | .local .tc .vmem, ⟨5, _⟩ => ⟨S1024x1024, .f32⟩
  | .local .tc .vmem, ⟨6, _⟩ => ⟨S1024x1024, .f32⟩
  | .local .tc .vmem, ⟨7, _⟩ => ⟨S1024x1024, .f32⟩
  | .local .tc .vmem, ⟨8, _⟩ => ⟨S1x1024, .f32⟩
  | .local .tc .vmem, ⟨9, _⟩ => ⟨S1x1024, .f32⟩
  | .local .tc .vmem, ⟨10, _⟩ => ⟨S1x1024, .f32⟩
  | .local .tc .vmem, ⟨11, _⟩ => ⟨S1x1024, .f32⟩
  | .local .tc .vmem, ⟨12, _⟩ => ⟨S1x1024, .f32⟩
  | .local .tc .vmem, ⟨13, _⟩ => ⟨S2048x1024, .f32⟩
  | .local .tc .vmem, ⟨14, _⟩ => ⟨S2048x1024, .f32⟩
  | .local .tc .vmem, ⟨15, _⟩ => ⟨S2048x1024, .f32⟩
  | .local .tc .vmem, ⟨16, _⟩ => ⟨S1x1024, .f32⟩
  | .local .tc .vmem, ⟨17, _⟩ => ⟨S1x1024, .f32⟩
  | .local .tc .vmem, ⟨18, _⟩ => ⟨S1x1024, .f32⟩
  | .local .tc .vmem, ⟨19, _⟩ => ⟨S128x16, .f32⟩
  | .local .tc .vmem, ⟨20, _⟩ => ⟨S128x16, .f32⟩
  | .local .tc .vmem, ⟨21, _⟩ => ⟨S128x1024, .f32⟩
  | .local .tc .vmem, ⟨22, _⟩ => ⟨S1x1024, .f32⟩
  | .local .tc .smem, ⟨0, _⟩ => ⟨S8, .i32⟩
  | .local .scVector .vmem, ⟨0, _⟩ => ⟨S64, .i32⟩
  | .local .scVector .vmem, ⟨1, _⟩ => ⟨S16, .i32⟩
  | .local .scVector .vmem, ⟨2, _⟩ => ⟨S16, .i32⟩
  | .local .scVector .vmem, ⟨3, _⟩ => ⟨S16, .i32⟩
  | _, _ => ⟨S2048x1024, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 17 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTables nBuf rfl bufTy 4 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_c : Ref sig .tc := ⟨.hbm, 11, rfl⟩
abbrev main_call0_v0 : Ref sig .tc := ⟨.hbm, 12, rfl⟩
abbrev main_call0_c_0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_v0 : Ref sig .tc := ⟨.hbm, 17, rfl⟩
abbrev main_v1 : Ref sig .tc := ⟨.hbm, 18, rfl⟩
abbrev main_v2_0 : Ref sig .tc := ⟨.hbm, 19, rfl⟩
abbrev main_v2_1 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_arg1_scv : Ref sig .scVector := ⟨.hbm, 1, rfl⟩
abbrev main_v1_scv : Ref sig .scVector := ⟨.hbm, 18, rfl⟩
abbrev main_v2_0_scv : Ref sig .scVector := ⟨.hbm, 19, rfl⟩
abbrev main_v2_1_scv : Ref sig .scVector := ⟨.hbm, 20, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg2_1 : Ref sig .tc := ⟨.vmem, 3, rfl⟩
abbrev cc1_stg3_0 : Ref sig .tc := ⟨.vmem, 4, rfl⟩
abbrev cc1_stg4_0 : Ref sig .tc := ⟨.vmem, 5, rfl⟩
abbrev cc1_stg5_0 : Ref sig .tc := ⟨.vmem, 6, rfl⟩
abbrev cc1_stg6_0 : Ref sig .tc := ⟨.vmem, 7, rfl⟩
abbrev cc1_stg7_0 : Ref sig .tc := ⟨.vmem, 8, rfl⟩
abbrev cc1_stg8_0 : Ref sig .tc := ⟨.vmem, 9, rfl⟩
abbrev cc1_stg9_0 : Ref sig .tc := ⟨.vmem, 10, rfl⟩
abbrev cc1_stg10_0 : Ref sig .tc := ⟨.vmem, 11, rfl⟩
abbrev cc1_stg11_0 : Ref sig .tc := ⟨.vmem, 12, rfl⟩
abbrev cc1_scratch1 : Ref sig .tc := ⟨.vmem, 13, rfl⟩
abbrev cc1_scratch2 : Ref sig .tc := ⟨.vmem, 14, rfl⟩
abbrev cc1_scratch3 : Ref sig .tc := ⟨.vmem, 15, rfl⟩
abbrev cc1_scratch4 : Ref sig .tc := ⟨.vmem, 16, rfl⟩
abbrev cc1_scratch5 : Ref sig .tc := ⟨.vmem, 17, rfl⟩
abbrev cc1_scratch6 : Ref sig .tc := ⟨.vmem, 18, rfl⟩
abbrev cc1_scratch7 : Ref sig .tc := ⟨.vmem, 19, rfl⟩
abbrev cc1_scratch8 : Ref sig .tc := ⟨.vmem, 20, rfl⟩
abbrev cc1_scratch9 : Ref sig .tc := ⟨.vmem, 21, rfl⟩
abbrev cc1_scratch10 : Ref sig .tc := ⟨.vmem, 22, rfl⟩
abbrev cc1_scratch0 : Ref sig .tc := ⟨.smem, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 4
abbrev cc1_sem1_0 : DmaSem sig := 5
abbrev cc1_sem2_0 : DmaSem sig := 6
abbrev cc1_sem2_1 : DmaSem sig := 7
abbrev cc1_sem3_0 : DmaSem sig := 8
abbrev cc1_sem4_0 : DmaSem sig := 9
abbrev cc1_sem5_0 : DmaSem sig := 10
abbrev cc1_sem6_0 : DmaSem sig := 11
abbrev cc1_sem7_0 : DmaSem sig := 12
abbrev cc1_sem8_0 : DmaSem sig := 13
abbrev cc1_sem9_0 : DmaSem sig := 14
abbrev cc1_sem10_0 : DmaSem sig := 15
abbrev cc1_sem11_0 : DmaSem sig := 16
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_19_r2 : BitVec 32 := 0#32
  ![v1.toNat, 0]
abbrev grid1 : Pipeline.Grid := ⟨1, ![16], ![false]⟩

def k1_off1 (i : grid1.Coords) : Fin 2 → Nat :=
  let arg0 : BitVec 32 := BitVec.ofNat 32 (i 0).val
  let c128_i32 : BitVec 32 := 128#32
  let v45 : BitVec 32 := Scalar.muli arg0 c128_i32
  let v46 : Index := Scalar.indexCast v45
  let c0_26 : Index := 0#32
  ![v46.toNat, 0]
def k1_cond4 (i : grid1.Coords) : BitVec 1 :=
  let arg0 : BitVec 32 := BitVec.ofNat 32 (i 0).val
  let c15_i32 : BitVec 32 := 15#32
  let v24 : BitVec 1 := Scalar.cmpi .eq arg0 c15_i32
  let v25 : BitVec 32 := Scalar.extui v24
  let c0_i32_10 : BitVec 32 := 0#32
  let v26 : BitVec 1 := Scalar.cmpi .ne v25 c0_i32_10
  v26

@[reducible] def k1_t1_loop (v5 : BitVec 32) (v6 : BitVec 32) : Scf.Loop 32 :=
  let c0_i32_27 : BitVec 32 := 0#32
  let v7 : BitVec 32 := Scalar.subi v6 v5
  let c1_i32 : BitVec 32 := 1#32
  let v47 : BitVec 32 := Scalar.addi v7 c1_i32
  let v48 : BitVec 32 := Scalar.subi v47 c0_i32_27
  let c1_i32_28 : BitVec 32 := 1#32
  let v50 : BitVec 32 := Scalar.divsi v48 c1_i32_28
  let v51 : BitVec 32 := Scalar.muli v50 c1_i32_28
  let v52 : BitVec 32 := Scalar.addi c0_i32_27 v51
  let c1_i32_29 : BitVec 32 := 1#32
  ⟨c0_i32_27, v52, c1_i32_29⟩

def k1_off2 (v5 : BitVec 32) (v6 : BitVec 32) (k1_t1 : Fin (k1_t1_loop v5 v6).trips) : Fin 2 → Nat :=
  let c0_i32_27 : BitVec 32 := 0#32
  let c1_i32_29 : BitVec 32 := 1#32
  let arg24 : BitVec 32 := Scf.iv c0_i32_27 c1_i32_29 k1_t1
  let v76 : BitVec 32 := Scalar.addi v5 arg24
  let c128_i32 : BitVec 32 := 128#32
  let v77 : BitVec 32 := Scalar.muli v76 c128_i32
  let v78 : Index := Scalar.indexCast v77
  let c0_49 : Index := 0#32
  ![v78.toNat, 0]
@[reducible] def k1_t2_loop (v5 : BitVec 32) (v6 : BitVec 32) : Scf.Loop 32 :=
  let c0_i32_52 : BitVec 32 := 0#32
  let v7 : BitVec 32 := Scalar.subi v6 v5
  let c1_i32_50 : BitVec 32 := 1#32
  let v80 : BitVec 32 := Scalar.addi v7 c1_i32_50
  let v81 : BitVec 32 := Scalar.subi v80 c0_i32_52
  let c1_i32_53 : BitVec 32 := 1#32
  let v83 : BitVec 32 := Scalar.divsi v81 c1_i32_53
  let v84 : BitVec 32 := Scalar.muli v83 c1_i32_53
  let v85 : BitVec 32 := Scalar.addi c0_i32_52 v84
  let c1_i32_54 : BitVec 32 := 1#32
  ⟨c0_i32_52, v85, c1_i32_54⟩
def k1_off3 (v5 : BitVec 32) (v6 : BitVec 32) (k1_t2 : Fin (k1_t2_loop v5 v6).trips) : Fin 2 → Nat :=
  let c0_i32_52 : BitVec 32 := 0#32
  let c1_i32_54 : BitVec 32 := 1#32
  let arg25 : BitVec 32 := Scf.iv c0_i32_52 c1_i32_54 k1_t2
  let v527 : BitVec 32 := Scalar.addi v5 arg25
  let c128_i32_270 : BitVec 32 := 128#32
  let v528 : BitVec 32 := Scalar.muli v527 c128_i32_270
  let v529 : Index := Scalar.indexCast v528
  let c0_271 : Index := 0#32
  ![v529.toNat, 0]
@[reducible] def k1_t3_loop (v5 : BitVec 32) (v6 : BitVec 32) : Scf.Loop 32 :=
  let c0_i32_52 : BitVec 32 := 0#32
  let v7 : BitVec 32 := Scalar.subi v6 v5
  let c1_i32_50 : BitVec 32 := 1#32
  let v80 : BitVec 32 := Scalar.addi v7 c1_i32_50
  let v81 : BitVec 32 := Scalar.subi v80 c0_i32_52
  let c1_i32_53 : BitVec 32 := 1#32
  let v83 : BitVec 32 := Scalar.divsi v81 c1_i32_53
  let v84 : BitVec 32 := Scalar.muli v83 c1_i32_53
  let v85 : BitVec 32 := Scalar.addi c0_i32_52 v84
  let v82 : BitVec 32 := Scalar.addi c0_i32_52 v81
  let c1_i32_55 : BitVec 32 := 1#32
  ⟨v85, v82, c1_i32_55⟩
def k1_off4 (v5 : BitVec 32) (v6 : BitVec 32) (k1_t3 : Fin (k1_t3_loop v5 v6).trips) : Fin 2 → Nat :=
  let c0_i32_52 : BitVec 32 := 0#32
  let v7 : BitVec 32 := Scalar.subi v6 v5
  let c1_i32_50 : BitVec 32 := 1#32
  let v80 : BitVec 32 := Scalar.addi v7 c1_i32_50
  let v81 : BitVec 32 := Scalar.subi v80 c0_i32_52
  let c1_i32_53 : BitVec 32 := 1#32
  let v83 : BitVec 32 := Scalar.divsi v81 c1_i32_53
  let v84 : BitVec 32 := Scalar.muli v83 c1_i32_53
  let v85 : BitVec 32 := Scalar.addi c0_i32_52 v84
  let c1_i32_55 : BitVec 32 := 1#32
  let arg25 : BitVec 32 := Scf.iv v85 c1_i32_55 k1_t3
  let v527 : BitVec 32 := Scalar.addi v5 arg25
  let c128_i32_270 : BitVec 32 := 128#32
  let v528 : BitVec 32 := Scalar.muli v527 c128_i32_270
  let v529 : Index := Scalar.indexCast v528
  let c0_271 : Index := 0#32
  ![v529.toNat, 0]
@[reducible] def k1_t4_loop (v5 : BitVec 32) (v6 : BitVec 32) : Scf.Loop 32 :=
  let c0_i32_27 : BitVec 32 := 0#32
  let v7 : BitVec 32 := Scalar.subi v6 v5
  let c1_i32 : BitVec 32 := 1#32
  let v47 : BitVec 32 := Scalar.addi v7 c1_i32
  let v48 : BitVec 32 := Scalar.subi v47 c0_i32_27
  let c1_i32_28 : BitVec 32 := 1#32
  let v50 : BitVec 32 := Scalar.divsi v48 c1_i32_28
  let v51 : BitVec 32 := Scalar.muli v50 c1_i32_28
  let v52 : BitVec 32 := Scalar.addi c0_i32_27 v51
  let v49 : BitVec 32 := Scalar.addi c0_i32_27 v48
  let c1_i32_30 : BitVec 32 := 1#32
  ⟨v52, v49, c1_i32_30⟩
def k1_off5 (v5 : BitVec 32) (v6 : BitVec 32) (k1_t4 : Fin (k1_t4_loop v5 v6).trips) : Fin 2 → Nat :=
  let c0_i32_27 : BitVec 32 := 0#32
  let v7 : BitVec 32 := Scalar.subi v6 v5
  let c1_i32 : BitVec 32 := 1#32
  let v47 : BitVec 32 := Scalar.addi v7 c1_i32
  let v48 : BitVec 32 := Scalar.subi v47 c0_i32_27
  let c1_i32_28 : BitVec 32 := 1#32
  let v50 : BitVec 32 := Scalar.divsi v48 c1_i32_28
  let v51 : BitVec 32 := Scalar.muli v50 c1_i32_28
  let v52 : BitVec 32 := Scalar.addi c0_i32_27 v51
  let c1_i32_30 : BitVec 32 := 1#32
  let arg24 : BitVec 32 := Scf.iv v52 c1_i32_30 k1_t4
  let v76 : BitVec 32 := Scalar.addi v5 arg24
  let c128_i32 : BitVec 32 := 128#32
  let v77 : BitVec 32 := Scalar.muli v76 c128_i32
  let v78 : Index := Scalar.indexCast v77
  let c0_49 : Index := 0#32
  ![v78.toNat, 0]
@[reducible] def k1_t5_loop (v5 : BitVec 32) (v6 : BitVec 32) : Scf.Loop 32 :=
  let c0_i32_52 : BitVec 32 := 0#32
  let v7 : BitVec 32 := Scalar.subi v6 v5
  let c1_i32_50 : BitVec 32 := 1#32
  let v80 : BitVec 32 := Scalar.addi v7 c1_i32_50
  let v81 : BitVec 32 := Scalar.subi v80 c0_i32_52
  let c1_i32_53 : BitVec 32 := 1#32
  let v83 : BitVec 32 := Scalar.divsi v81 c1_i32_53
  let v84 : BitVec 32 := Scalar.muli v83 c1_i32_53
  let v85 : BitVec 32 := Scalar.addi c0_i32_52 v84
  let c1_i32_54 : BitVec 32 := 1#32
  ⟨c0_i32_52, v85, c1_i32_54⟩
def k1_off6 (v5 : BitVec 32) (v6 : BitVec 32) (k1_t5 : Fin (k1_t5_loop v5 v6).trips) : Fin 2 → Nat :=
  let c0_i32_52 : BitVec 32 := 0#32
  let c1_i32_54 : BitVec 32 := 1#32
  let arg25 : BitVec 32 := Scf.iv c0_i32_52 c1_i32_54 k1_t5
  let v527 : BitVec 32 := Scalar.addi v5 arg25
  let c128_i32_270 : BitVec 32 := 128#32
  let v528 : BitVec 32 := Scalar.muli v527 c128_i32_270
  let v529 : Index := Scalar.indexCast v528
  let c0_271 : Index := 0#32
  ![v529.toNat, 0]
@[reducible] def k1_t6_loop (v5 : BitVec 32) (v6 : BitVec 32) : Scf.Loop 32 :=
  let c0_i32_52 : BitVec 32 := 0#32
  let v7 : BitVec 32 := Scalar.subi v6 v5
  let c1_i32_50 : BitVec 32 := 1#32
  let v80 : BitVec 32 := Scalar.addi v7 c1_i32_50
  let v81 : BitVec 32 := Scalar.subi v80 c0_i32_52
  let c1_i32_53 : BitVec 32 := 1#32
  let v83 : BitVec 32 := Scalar.divsi v81 c1_i32_53
  let v84 : BitVec 32 := Scalar.muli v83 c1_i32_53
  let v85 : BitVec 32 := Scalar.addi c0_i32_52 v84
  let v82 : BitVec 32 := Scalar.addi c0_i32_52 v81
  let c1_i32_55 : BitVec 32 := 1#32
  ⟨v85, v82, c1_i32_55⟩
def k1_off7 (v5 : BitVec 32) (v6 : BitVec 32) (k1_t6 : Fin (k1_t6_loop v5 v6).trips) : Fin 2 → Nat :=
  let c0_i32_52 : BitVec 32 := 0#32
  let v7 : BitVec 32 := Scalar.subi v6 v5
  let c1_i32_50 : BitVec 32 := 1#32
  let v80 : BitVec 32 := Scalar.addi v7 c1_i32_50
  let v81 : BitVec 32 := Scalar.subi v80 c0_i32_52
  let c1_i32_53 : BitVec 32 := 1#32
  let v83 : BitVec 32 := Scalar.divsi v81 c1_i32_53
  let v84 : BitVec 32 := Scalar.muli v83 c1_i32_53
  let v85 : BitVec 32 := Scalar.addi c0_i32_52 v84
  let c1_i32_55 : BitVec 32 := 1#32
  let arg25 : BitVec 32 := Scf.iv v85 c1_i32_55 k1_t6
  let v527 : BitVec 32 := Scalar.addi v5 arg25
  let c128_i32_270 : BitVec 32 := 128#32
  let v528 : BitVec 32 := Scalar.muli v527 c128_i32_270
  let v529 : Index := Scalar.indexCast v528
  let c0_271 : Index := 0#32
  ![v529.toNat, 0]

def k1_chk1 (i : grid1.Coords) (v5 : BitVec 32) (v6 : BitVec 32) : Prop :=
  (∀ (k1_h4 : k1_cond4 i = 1#1), (k1_t1_loop v5 v6).OK) ∧
  (∀ k1_t1 : Fin (k1_t1_loop v5 v6).trips, ∀ (k1_h4 : k1_cond4 i = 1#1), ∀ a, (k1_off2 v5 v6 k1_t1) a + S128x1024.size a ≤ S2048x1024.size a) ∧
  (∀ k1_t1 : Fin (k1_t1_loop v5 v6).trips, ∀ (k1_h4 : k1_cond4 i = 1#1), (k1_t2_loop v5 v6).OK) ∧
  (∀ (k1_t1 : Fin (k1_t1_loop v5 v6).trips) (k1_t2 : Fin (k1_t2_loop v5 v6).trips), ∀ (k1_h4 : k1_cond4 i = 1#1), ∀ a, (k1_off3 v5 v6 k1_t2) a + S128x1024.size a ≤ S2048x1024.size a) ∧
  (∀ k1_t1 : Fin (k1_t1_loop v5 v6).trips, ∀ (k1_h4 : k1_cond4 i = 1#1), (k1_t3_loop v5 v6).OK) ∧
  (∀ (k1_t1 : Fin (k1_t1_loop v5 v6).trips) (k1_t3 : Fin (k1_t3_loop v5 v6).trips), ∀ (k1_h4 : k1_cond4 i = 1#1), ∀ a, (k1_off4 v5 v6 k1_t3) a + S128x1024.size a ≤ S2048x1024.size a) ∧
  (∀ (k1_h4 : k1_cond4 i = 1#1), (k1_t4_loop v5 v6).OK) ∧
  (∀ k1_t4 : Fin (k1_t4_loop v5 v6).trips, ∀ (k1_h4 : k1_cond4 i = 1#1), ∀ a, (k1_off5 v5 v6 k1_t4) a + S128x1024.size a ≤ S2048x1024.size a) ∧
  (∀ k1_t4 : Fin (k1_t4_loop v5 v6).trips, ∀ (k1_h4 : k1_cond4 i = 1#1), (k1_t5_loop v5 v6).OK) ∧
  (∀ (k1_t4 : Fin (k1_t4_loop v5 v6).trips) (k1_t5 : Fin (k1_t5_loop v5 v6).trips), ∀ (k1_h4 : k1_cond4 i = 1#1), ∀ a, (k1_off6 v5 v6 k1_t5) a + S128x1024.size a ≤ S2048x1024.size a) ∧
  (∀ k1_t4 : Fin (k1_t4_loop v5 v6).trips, ∀ (k1_h4 : k1_cond4 i = 1#1), (k1_t6_loop v5 v6).OK) ∧
  (∀ (k1_t4 : Fin (k1_t4_loop v5 v6).trips) (k1_t6 : Fin (k1_t6_loop v5 v6).trips), ∀ (k1_h4 : k1_cond4 i = 1#1), ∀ a, (k1_off7 v5 v6 k1_t6) a + S128x1024.size a ≤ S2048x1024.size a)
theorem k1_t1_ok : ∀ (i : grid1.Coords) (v5 : BitVec 32) (v6 : BitVec 32) (k1_hw1 : k1_chk1 i v5 v6), ∀ (k1_h4 : k1_cond4 i = 1#1), (k1_t1_loop v5 v6).OK := fun i v5 v6 k1_hw1 k1_h4 => k1_hw1.1 k1_h4
theorem k1_off2_inb : ∀ (i : grid1.Coords) (v5 : BitVec 32) (v6 : BitVec 32) (k1_hw1 : k1_chk1 i v5 v6) (k1_t1 : Fin (k1_t1_loop v5 v6).trips), ∀ (k1_h4 : k1_cond4 i = 1#1), ∀ a, (k1_off2 v5 v6 k1_t1) a + S128x1024.size a ≤ S2048x1024.size a := fun i v5 v6 k1_hw1 k1_t1 k1_h4 => k1_hw1.2.1 k1_t1 k1_h4
theorem k1_t2_ok : ∀ (i : grid1.Coords) (v5 : BitVec 32) (v6 : BitVec 32) (k1_hw1 : k1_chk1 i v5 v6) (k1_t1 : Fin (k1_t1_loop v5 v6).trips), ∀ (k1_h4 : k1_cond4 i = 1#1), (k1_t2_loop v5 v6).OK := fun i v5 v6 k1_hw1 k1_t1 k1_h4 => k1_hw1.2.2.1 k1_t1 k1_h4
theorem k1_off3_inb : ∀ (i : grid1.Coords) (v5 : BitVec 32) (v6 : BitVec 32) (k1_hw1 : k1_chk1 i v5 v6) (k1_t1 : Fin (k1_t1_loop v5 v6).trips) (k1_t2 : Fin (k1_t2_loop v5 v6).trips), ∀ (k1_h4 : k1_cond4 i = 1#1), ∀ a, (k1_off3 v5 v6 k1_t2) a + S128x1024.size a ≤ S2048x1024.size a := fun i v5 v6 k1_hw1 k1_t1 k1_t2 k1_h4 => k1_hw1.2.2.2.1 k1_t1 k1_t2 k1_h4
theorem k1_t3_ok : ∀ (i : grid1.Coords) (v5 : BitVec 32) (v6 : BitVec 32) (k1_hw1 : k1_chk1 i v5 v6) (k1_t1 : Fin (k1_t1_loop v5 v6).trips), ∀ (k1_h4 : k1_cond4 i = 1#1), (k1_t3_loop v5 v6).OK := fun i v5 v6 k1_hw1 k1_t1 k1_h4 => k1_hw1.2.2.2.2.1 k1_t1 k1_h4
theorem k1_off4_inb : ∀ (i : grid1.Coords) (v5 : BitVec 32) (v6 : BitVec 32) (k1_hw1 : k1_chk1 i v5 v6) (k1_t1 : Fin (k1_t1_loop v5 v6).trips) (k1_t3 : Fin (k1_t3_loop v5 v6).trips), ∀ (k1_h4 : k1_cond4 i = 1#1), ∀ a, (k1_off4 v5 v6 k1_t3) a + S128x1024.size a ≤ S2048x1024.size a := fun i v5 v6 k1_hw1 k1_t1 k1_t3 k1_h4 => k1_hw1.2.2.2.2.2.1 k1_t1 k1_t3 k1_h4
theorem k1_t4_ok : ∀ (i : grid1.Coords) (v5 : BitVec 32) (v6 : BitVec 32) (k1_hw1 : k1_chk1 i v5 v6), ∀ (k1_h4 : k1_cond4 i = 1#1), (k1_t4_loop v5 v6).OK := fun i v5 v6 k1_hw1 k1_h4 => k1_hw1.2.2.2.2.2.2.1 k1_h4
theorem k1_off5_inb : ∀ (i : grid1.Coords) (v5 : BitVec 32) (v6 : BitVec 32) (k1_hw1 : k1_chk1 i v5 v6) (k1_t4 : Fin (k1_t4_loop v5 v6).trips), ∀ (k1_h4 : k1_cond4 i = 1#1), ∀ a, (k1_off5 v5 v6 k1_t4) a + S128x1024.size a ≤ S2048x1024.size a := fun i v5 v6 k1_hw1 k1_t4 k1_h4 => k1_hw1.2.2.2.2.2.2.2.1 k1_t4 k1_h4
theorem k1_t5_ok : ∀ (i : grid1.Coords) (v5 : BitVec 32) (v6 : BitVec 32) (k1_hw1 : k1_chk1 i v5 v6) (k1_t4 : Fin (k1_t4_loop v5 v6).trips), ∀ (k1_h4 : k1_cond4 i = 1#1), (k1_t5_loop v5 v6).OK := fun i v5 v6 k1_hw1 k1_t4 k1_h4 => k1_hw1.2.2.2.2.2.2.2.2.1 k1_t4 k1_h4
theorem k1_off6_inb : ∀ (i : grid1.Coords) (v5 : BitVec 32) (v6 : BitVec 32) (k1_hw1 : k1_chk1 i v5 v6) (k1_t4 : Fin (k1_t4_loop v5 v6).trips) (k1_t5 : Fin (k1_t5_loop v5 v6).trips), ∀ (k1_h4 : k1_cond4 i = 1#1), ∀ a, (k1_off6 v5 v6 k1_t5) a + S128x1024.size a ≤ S2048x1024.size a := fun i v5 v6 k1_hw1 k1_t4 k1_t5 k1_h4 => k1_hw1.2.2.2.2.2.2.2.2.2.1 k1_t4 k1_t5 k1_h4
theorem k1_t6_ok : ∀ (i : grid1.Coords) (v5 : BitVec 32) (v6 : BitVec 32) (k1_hw1 : k1_chk1 i v5 v6) (k1_t4 : Fin (k1_t4_loop v5 v6).trips), ∀ (k1_h4 : k1_cond4 i = 1#1), (k1_t6_loop v5 v6).OK := fun i v5 v6 k1_hw1 k1_t4 k1_h4 => k1_hw1.2.2.2.2.2.2.2.2.2.2.1 k1_t4 k1_h4
theorem k1_off7_inb : ∀ (i : grid1.Coords) (v5 : BitVec 32) (v6 : BitVec 32) (k1_hw1 : k1_chk1 i v5 v6) (k1_t4 : Fin (k1_t4_loop v5 v6).trips) (k1_t6 : Fin (k1_t6_loop v5 v6).trips), ∀ (k1_h4 : k1_cond4 i = 1#1), ∀ a, (k1_off7 v5 v6 k1_t6) a + S128x1024.size a ≤ S2048x1024.size a := fun i v5 v6 k1_hw1 k1_t4 k1_t6 k1_h4 => k1_hw1.2.2.2.2.2.2.2.2.2.2.2 k1_t4 k1_t6 k1_h4

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S32x16 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S32x16 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S128x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1024x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1024x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1024x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1024x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x1024 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x1024 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x1024 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x1024 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2048x1024 : Shape := ⟨2, ![2048, 1024]⟩
abbrev S2048 : Shape := ⟨1, ![2048]⟩
abbrev S_ : Shape := ⟨0, ![]⟩
abbrev S1024x1024 : Shape := ⟨2, ![1024, 1024]⟩
abbrev S1024 : Shape := ⟨1, ![1024]⟩
abbrev S1x1024 : Shape := ⟨2, ![1, 1024]⟩
abbrev S2048x16x64 : Shape := ⟨3, ![2048, 16, 64]⟩
abbrev S16x2048x64 : Shape := ⟨3, ![16, 2048, 64]⟩
abbrev S16x2048x2048 : Shape := ⟨3, ![16, 2048, 2048]⟩
abbrev S2048x1 : Shape := ⟨2, ![2048, 1]⟩
abbrev S1x2048 : Shape := ⟨2, ![1, 2048]⟩
abbrev S2048x2048 : Shape := ⟨2, ![2048, 2048]⟩
abbrev S1x2048x2048 : Shape := ⟨3, ![1, 2048, 2048]⟩
abbrev S16x2048 : Shape := ⟨2, ![16, 2048]⟩
abbrev S16x2048x1 : Shape := ⟨3, ![16, 2048, 1]⟩
abbrev S1 : Shape := ⟨1, ![1]⟩

abbrev nBuf : Space → Nat
  | .hbm => 85
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048, .i32⟩
  | .hbm, ⟨2, _⟩ => ⟨S_, .i32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S2048x1024, .f32⟩
  | .hbm, ⟨13, _⟩ => ⟨S1x1024, .f32⟩
  | .hbm, ⟨14, _⟩ => ⟨S2048x1024, .f32⟩
  | .hbm, ⟨15, _⟩ => ⟨S2048x1024, .f32⟩
  | .hbm, ⟨16, _⟩ => ⟨S1024x1024, .f32⟩
  | .hbm, ⟨17, _⟩ => ⟨S2048x1024, .f32⟩
  | .hbm, ⟨18, _⟩ => ⟨S1x1024, .f32⟩
  | .hbm, ⟨19, _⟩ => ⟨S2048x1024, .f32⟩
  | .hbm, ⟨20, _⟩ => ⟨S2048x1024, .f32⟩
  | .hbm, ⟨21, _⟩ => ⟨S1024x1024, .f32⟩
  | .hbm, ⟨22, _⟩ => ⟨S2048x1024, .f32⟩
  | .hbm, ⟨23, _⟩ => ⟨S1x1024, .f32⟩
  | .hbm, ⟨24, _⟩ => ⟨S2048x1024, .f32⟩
  | .hbm, ⟨25, _⟩ => ⟨S2048x1024, .f32⟩
  | .hbm, ⟨26, _⟩ => ⟨S2048x16x64, .f32⟩
  | .hbm, ⟨27, _⟩ => ⟨S16x2048x64, .f32⟩
  | .hbm, ⟨28, _⟩ => ⟨S2048x16x64, .f32⟩
  | .hbm, ⟨29, _⟩ => ⟨S16x2048x64, .f32⟩
  | .hbm, ⟨30, _⟩ => ⟨S2048x16x64, .f32⟩
  | .hbm, ⟨31, _⟩ => ⟨S16x2048x64, .f32⟩
  | .hbm, ⟨32, _⟩ => ⟨S16x2048x2048, .f32⟩
  | .hbm, ⟨33, _⟩ => ⟨S2048x1, .i32⟩
  | .hbm, ⟨34, _⟩ => ⟨S1x2048, .i32⟩
  | .hbm, ⟨35, _⟩ => ⟨S2048x2048, .i32⟩
  | .hbm, ⟨36, _⟩ => ⟨S2048x2048, .i32⟩
  | .hbm, ⟨37, _⟩ => ⟨S2048x2048, .i1⟩
  | .hbm, ⟨38, _⟩ => ⟨S1x2048x2048, .i1⟩
  | .hbm, ⟨39, _⟩ => ⟨S_, .f32⟩
  | .hbm, ⟨40, _⟩ => ⟨S_, .f32⟩
  | .hbm, ⟨41, _⟩ => ⟨S16x2048x2048, .i1⟩
  | .hbm, ⟨42, _⟩ => ⟨S16x2048x2048, .f32⟩
  | .hbm, ⟨43, _⟩ => ⟨S16x2048x2048, .f32⟩
  | .hbm, ⟨44, _⟩ => ⟨S_, .f32⟩
  | .hbm, ⟨45, _⟩ => ⟨S16x2048, .f32⟩
  | .hbm, ⟨46, _⟩ => ⟨S_, .f32⟩
  | .hbm, ⟨47, _⟩ => ⟨S16x2048, .f32⟩
  | .hbm, ⟨48, _⟩ => ⟨S16x2048, .f32⟩
  | .hbm, ⟨49, _⟩ => ⟨S16x2048x1, .f32⟩
  | .hbm, ⟨50, _⟩ => ⟨S16x2048x2048, .f32⟩
  | .hbm, ⟨51, _⟩ => ⟨S16x2048x2048, .f32⟩
  | .hbm, ⟨52, _⟩ => ⟨S16x2048x2048, .f32⟩
  | .hbm, ⟨53, _⟩ => ⟨S_, .f32⟩
  | .hbm, ⟨54, _⟩ => ⟨S16x2048, .f32⟩
  | .hbm, ⟨55, _⟩ => ⟨S16x2048x1, .f32⟩
  | .hbm, ⟨56, _⟩ => ⟨S16x2048x2048, .f32⟩
  | .hbm, ⟨57, _⟩ => ⟨S16x2048x2048, .f32⟩
  | .hbm, ⟨58, _⟩ => ⟨S16x2048x64, .f32⟩
  | .hbm, ⟨59, _⟩ => ⟨S2048x16x64, .f32⟩
  | .hbm, ⟨60, _⟩ => ⟨S2048x1024, .f32⟩
  | .hbm, ⟨61, _⟩ => ⟨S1024x1024, .f32⟩
  | .hbm, ⟨62, _⟩ => ⟨S2048x1024, .f32⟩
  | .hbm, ⟨63, _⟩ => ⟨S1x1024, .f32⟩
  | .hbm, ⟨64, _⟩ => ⟨S2048x1024, .f32⟩
  | .hbm, ⟨65, _⟩ => ⟨S2048x1024, .f32⟩
  | .hbm, ⟨66, _⟩ => ⟨S_, .i32⟩
  | .hbm, ⟨67, _⟩ => ⟨S_, .i1⟩
  | .hbm, ⟨68, _⟩ => ⟨S_, .i32⟩
  | .hbm, ⟨69, _⟩ => ⟨S_, .i32⟩
  | .hbm, ⟨70, _⟩ => ⟨S_, .i32⟩
  | .hbm, ⟨71, _⟩ => ⟨S1, .i32⟩
  | .hbm, ⟨72, _⟩ => ⟨S_, .i32⟩
  | .hbm, ⟨73, _⟩ => ⟨S2048, .i32⟩
  | .hbm, ⟨74, _⟩ => ⟨S2048, .i1⟩
  | .hbm, ⟨75, _⟩ => ⟨S2048, .f32⟩
  | .hbm, ⟨76, _⟩ => ⟨S2048x1, .f32⟩
  | .hbm, ⟨77, _⟩ => ⟨S2048x1024, .f32⟩
  | .hbm, ⟨78, _⟩ => ⟨S2048x1024, .f32⟩
  | .hbm, ⟨79, _⟩ => ⟨S_, .f32⟩
  | .hbm, ⟨80, _⟩ => ⟨S1024, .f32⟩
  | .hbm, ⟨81, _⟩ => ⟨S_, .f32⟩
  | .hbm, ⟨82, _⟩ => ⟨S_, .f32⟩
  | .hbm, ⟨83, _⟩ => ⟨S1024, .f32⟩
  | .hbm, ⟨84, _⟩ => ⟨S1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_v28 : Ref sig .tc := ⟨.hbm, 43, rfl⟩
abbrev main_cst_0 : Ref sig .tc := ⟨.hbm, 44, rfl⟩
abbrev main_v29 : Ref sig .tc := ⟨.hbm, 45, rfl⟩
abbrev main_cst_1 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_2 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_c : Ref sig .tc := ⟨.hbm, 66, rfl⟩
abbrev main_v48 : Ref sig .tc := ⟨.hbm, 67, rfl⟩
abbrev main_c_3 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_4 : Ref sig .tc := ⟨.hbm, 79, rfl⟩
abbrev main_v59 : Ref sig .tc := ⟨.hbm, 80, rfl⟩
abbrev main_cst_5 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩

abbrev nD : Nat := 1
abbrev τ : Topo := Topo.v7x

variable {F : FTy → Type} [FloatOps F]
-- ==== Proof.M.Real.lean ====
/-
  The mathematics of attention within one segment, over the reals: a softmax taken block by block, with the running
  maximum as its shift, is the softmax over all keys at once; and what a step of it does to extended reals.
-/
module

public import Idealize.ShloMosaic.Lib.Pointwise
public import Idealize.ShloMosaic.Lib.IdealHost

@[expose] public section

noncomputable section

namespace Cert.Proof.RealMath

open Idealize.ShloMosaic

theorem ofBits_neg_inf : Ideal.ofBits .f32 0xFF800000#32 = ⊥ := by simp [Ideal.ofBits, Ideal.ieee]
theorem ofBits_2048 : Ideal.ofBits .f32 0x45000000#32 = ((2048 : ℝ) : EReal) := by
  simp [Ideal.ofBits, Ideal.ieee, -EReal.coe_mul]; norm_num

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of products of reals. -/
theorem sum_mul_coe {ι : Type*} [Fintype ι] (f g : ι → EReal) (a b : ι → ℝ) (hf : ∀ i, f i = a i) (hg : ∀ i, g i = b i) :
    ∑ i, f i * g i = ((∑ i, a i * b i : ℝ) : EReal) := by
  rw [coe_sum]; exact Finset.sum_congr rfl fun i _ => by rw [hf, hg, EReal.coe_mul]

theorem sum_coe {ι : Type*} [Fintype ι] (f : ι → EReal) (a : ι → ℝ) (hf : ∀ i, f i = a i) :
    ∑ i, f i = ((∑ i, a i : ℝ) : EReal) := by
  rw [coe_sum]; exact Finset.sum_congr rfl fun i _ => hf i

theorem div_coe (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

theorem exp_coe (a : ℝ) : Ideal.exp (a : EReal) = ((Real.exp a : ℝ) : EReal) := rfl
theorem exp_bot : Ideal.exp ⊥ = 0 := rfl

theorem select_eq {α : Type} (c : BitVec 1) (P : Prop) [Decidable P] (h : c = 1#1 ↔ P) (a b : α) : Scalar.select c a b = if P then a else b := by
  unfold Scalar.select
  by_cases hP : P
  · rw [if_pos hP, h.mpr hP]; rfl
  · have hc : c ≠ 1#1 := fun e => hP (h.mp e)
    rw [if_neg hP]
    have : c = 0#1 := by clear h; revert hc; revert c; decide
    rw [this]; rfl

/-- A running maximum that starts from a real, over reals and `⊥`, is real. -/
theorem max_fold_real {ι : Type*} (s : Finset ι) (f : ι → EReal) (hf : ∀ i, f i = ⊥ ∨ ∃ r : ℝ, f i = r) (m : ℝ) :
    ∃ r : ℝ, max (m : EReal) (s.fold max ⊥ f) = r := by
  classical
  have h : s.fold max ⊥ f = ⊥ ∨ ∃ r : ℝ, s.fold max ⊥ f = r := by
    induction s using Finset.induction_on with
    | empty => exact .inl (by simp)
    | insert a s ha ih =>
      rw [Finset.fold_insert ha]
      rcases hf a with e | ⟨r, e⟩ <;> rcases ih with e' | ⟨r', e'⟩ <;> rw [e, e']
      · exact .inl (by simp)
      · exact .inr ⟨r', by simp⟩
      · exact .inr ⟨r, by simp⟩
      · exact .inr ⟨max r r', (EReal.coe_strictMono.monotone.map_max).symm⟩
  rcases h with e | ⟨r, e⟩ <;> rw [e]
  · exact ⟨m, by simp⟩
  · exact ⟨max m r, (EReal.coe_strictMono.monotone.map_max).symm⟩

/-- The maximum of a nonempty family of reals is real. -/
theorem fold_real {ι : Type*} [Fintype ι] [Nonempty ι] (f : ι → ℝ) : ∃ r : ℝ, (Finset.univ : Finset ι).fold max (⊥ : EReal) (fun i => (f i : EReal)) = r := by
  classical
  obtain ⟨i⟩ := ‹Nonempty ι›
  obtain ⟨r, hr⟩ := max_fold_real (Finset.univ.erase i) (fun i => (f i : EReal)) (fun j => .inr ⟨f j, rfl⟩) (f i)
  have h := Finset.fold_insert (op := max) (b := (⊥ : EReal)) (f := fun i => (f i : EReal)) (Finset.notMem_erase i Finset.univ)
  rw [Finset.insert_erase (Finset.mem_univ i)] at h
  exact ⟨r, h.trans hr⟩

/-! ## One block of keys -/

section Step
variable {ι : Type*} [Fintype ι] (P : ι → Prop) [DecidablePred P] (S : ι → ℝ)

/-- The new maximum is real. -/
theorem step_max (m : ℝ) : ∃ r : ℝ, max (m : EReal) (Finset.univ.fold max ⊥ fun x => if P x then (S x : EReal) else ⊥) = r :=
  max_fold_real _ _ (fun i => by by_cases h : P i
                                 · exact .inr ⟨S i, if_pos h⟩
                                 · exact .inl (if_neg h)) m

theorem step_p (μ : ℝ) (x : ι) : Ideal.exp ((if P x then (S x : EReal) else ⊥) - (μ : EReal)) = ((if P x then Real.exp (S x - μ) else 0 : ℝ) : EReal) := by
  by_cases h : P x
  · rw [if_pos h, if_pos h, ← EReal.coe_sub]; rfl
  · rw [if_neg h, if_neg h]
    rfl

end Step

/-! ## The softmax -/

/-- The softmax of `s`, weighing `v`. -/
def soft {ι : Type*} [Fintype ι] (s v : ι → ℝ) : ℝ := (∑ j, Real.exp (s j) * v j) / ∑ j, Real.exp (s j)

theorem soft_shift {ι : Type*} [Fintype ι] (s v : ι → ℝ) (M : ℝ) :
    ∑ j, Real.exp (s j - M) / (∑ j', Real.exp (s j' - M)) * v j = soft s v := by
  have h : ∀ j, Real.exp (s j - M) = Real.exp (s j) * Real.exp (-M) := fun j => by rw [sub_eq_add_neg, Real.exp_add]
  unfold soft
  simp only [h, ← Finset.sum_mul]
  rw [Finset.sum_div]
  refine Finset.sum_congr rfl fun j _ => ?_
  rw [mul_div_mul_right _ _ (Real.exp_ne_zero _), div_mul_eq_mul_div]

/-- What the kernel divides is the softmax of the scores with zero outside the segment. -/
theorem soft_seg {ι : Type*} [Fintype ι] (P : ι → Prop) [DecidablePred P] (s v : ι → ℝ) (m L A off rest : ℝ)
    (hL : L = ∑ j, if P j then Real.exp (s j - m) else 0) (hA : A = ∑ j, (if P j then Real.exp (s j - m) else 0) * v j)
    (hoff : off = ∑ j, v j - ∑ j, if P j then v j else 0) (hrest : rest = ∑ j, if P j then 0 else 1) :
    (A + Real.exp (0 - m) * off) / (L + Real.exp (0 - m) * rest) = soft (fun j => if P j then s j else 0) v := by
  have e1 : A + Real.exp (0 - m) * off = Real.exp (0 - m) * ∑ j, Real.exp (if P j then s j else 0) * v j := by
    rw [hA, hoff, ← Finset.sum_sub_distrib, Finset.mul_sum, Finset.mul_sum, ← Finset.sum_add_distrib]
    refine Finset.sum_congr rfl fun j _ => ?_
    by_cases h : P j
    · simp only [if_pos h, sub_self, mul_zero, add_zero]
      rw [← mul_assoc, ← Real.exp_add]; congr 2; ring
    · simp only [if_neg h, Real.exp_zero, sub_zero, zero_mul, zero_add, one_mul]
  have e2 : L + Real.exp (0 - m) * rest = Real.exp (0 - m) * ∑ j, Real.exp (if P j then s j else 0) := by
    rw [hL, hrest, Finset.mul_sum, Finset.mul_sum, ← Finset.sum_add_distrib]
    refine Finset.sum_congr rfl fun j _ => ?_
    by_cases h : P j
    · simp only [if_pos h, mul_zero, add_zero]
      rw [← Real.exp_add]; congr 1; ring
    · simp only [if_neg h, Real.exp_zero, zero_add]
  rw [e1, e2, mul_div_mul_left _ _ (Real.exp_ne_zero _)]
  rfl

theorem den_pos {ι : Type*} [Fintype ι] (P : ι → Prop) [DecidablePred P] (s : ι → ℝ) (m L rest : ℝ) (i : ι) (hi : P i)
    (hL : L = ∑ j, if P j then Real.exp (s j - m) else 0) (hrest : rest = ∑ j, if P j then 0 else 1) :
    L + Real.exp (0 - m) * rest ≠ 0 := by
  have h1 : 0 < L := by
    rw [hL]
    refine Finset.sum_pos' (fun j _ => by by_cases h : P j <;> simp [h, Real.exp_nonneg]) ⟨i, Finset.mem_univ i, by rw [if_pos hi]; exact Real.exp_pos _⟩
  have h2 : 0 ≤ rest := by
    rw [hrest]; exact Finset.sum_nonneg fun j _ => by by_cases h : P j <;> simp [h]
  have := mul_nonneg (Real.exp_nonneg (0 - m)) h2
  linarith

/-! ## The layer, over the reals -/

/-- A projection. -/
def proj (x : Fin 2048 → Fin 1024 → ℝ) (w : Fin 1024 → Fin 1024 → ℝ) (b : Fin 1024 → ℝ) (i : Fin 2048) (c : Fin 1024) : ℝ := ∑ k, x i k * w c k + b c
/-- Column `d` of head `h`, -/
def col (h : Fin 16) (d : Fin 64) : Fin 1024 := ⟨h.val * 64 + d.val, by have := h.isLt; have := d.isLt; omega⟩
/-- and the head of a column. -/
def hdc (c : Fin 1024) : Fin 16 := ⟨c.val / 64, by have := c.isLt; omega⟩
/-- The score of row `j` for row `i`. -/
def scr (q k : Fin 2048 → Fin 1024 → ℝ) (h : Fin 16) (i j : Fin 2048) : ℝ := ∑ d, q i (col h d) * k j (col h d)
/-- The attention's value for row `i`, when the rows of `i`'s segment are those `P` holds of. -/
def att (P : Fin 2048 → Prop) [DecidablePred P] (q k v : Fin 2048 → Fin 1024 → ℝ) (i : Fin 2048) (c : Fin 1024) : ℝ :=
  soft (fun j => if P j then scr q k (hdc c) i j else 0) (fun j => v j c)

/-! ## Blocks -/

/-- Row `x` of the block `t` after block `p`. -/
def bi (p t : ℕ) (x : Fin 128) : Fin 2048 := ⟨(128 * (p + t) + x.val) % 2048, Nat.mod_lt _ (by decide)⟩

/-- A sum over all rows of something that vanishes outside blocks `p … p + T - 1`, block by block. -/
theorem sum_blocks (p T : ℕ) (hT : p + T ≤ 16) (f : Fin 2048 → ℝ) (hf : ∀ j : Fin 2048, f j ≠ 0 → 128 * p ≤ j.val ∧ j.val < 128 * (p + T)) :
    ∑ t ∈ Finset.range T, ∑ x : Fin 128, f (bi p t x) = ∑ j, f j := by
  have h1 : ∀ n : ℕ, n ≤ T → ∑ t ∈ Finset.range n, ∑ x : Fin 128, f (bi p t x) = ∑ j ∈ Finset.univ.filter (fun j : Fin 2048 => 128 * p ≤ j.val ∧ j.val < 128 * (p + n)), f j := by
    intro n
    induction n with
    | zero => intro _; rw [Finset.range_zero, Finset.sum_empty, Finset.filter_false_of_mem (fun j _ => by omega), Finset.sum_empty]
    | succ n ih =>
      intro hn
      rw [Finset.sum_range_succ, ih (by omega)]
      have hs : (Finset.univ.filter (fun j : Fin 2048 => 128 * p ≤ j.val ∧ j.val < 128 * (p + (n + 1))))
          = (Finset.univ.filter (fun j : Fin 2048 => 128 * p ≤ j.val ∧ j.val < 128 * (p + n))) ∪ (Finset.univ.image (bi p n)) := by
        ext j
        simp only [Finset.mem_filter, Finset.mem_univ, true_and, Finset.mem_union, Finset.mem_image]
        constructor
        · intro h
          by_cases hj : j.val < 128 * (p + n)
          · exact .inl ⟨h.1, hj⟩
          · refine .inr ⟨⟨j.val - 128 * (p + n), by omega⟩, Fin.ext ?_⟩
            show (128 * (p + n) + (j.val - 128 * (p + n))) % 2048 = j.val
            have := j.isLt; omega
        · rintro (h | ⟨x, rfl⟩)
          · omega
          · have := x.isLt
            show 128 * p ≤ (128 * (p + n) + x.val) % 2048 ∧ (128 * (p + n) + x.val) % 2048 < _
            omega
      rw [hs, Finset.sum_union, Finset.sum_image]
      · intro x _ y _ e
        have e' : (128 * (p + n) + x.val) % 2048 = (128 * (p + n) + y.val) % 2048 := congrArg Fin.val e
        have := x.isLt; have := y.isLt
        exact Fin.ext (by omega)
      · rw [Finset.disjoint_left]
        intro j hj hj'
        obtain ⟨x, _, rfl⟩ := Finset.mem_image.mp hj'
        have h2 := (Finset.mem_filter.mp hj).2.2
        have := x.isLt
        have h3 : (128 * (p + n) + x.val) % 2048 < 128 * (p + n) := h2
        omega
  rw [h1 T le_rfl]
  exact Finset.sum_subset (Finset.filter_subset _ _) fun j _ hj => by
    by_contra h
    exact hj (Finset.mem_filter.mpr ⟨Finset.mem_univ _, hf j h⟩)

end Cert.Proof.RealMath

end
-- ==== Proof.M.Ref.lean ====
/-
  The reference, stage by stage, read at an index: over real arguments every stage is real.
-/
module

public import proofs.«01_k».proof.Proof.Gen.ReferenceIdeal
public import proofs.«01_k».proof.Proof.M.Real

@[expose] public section

set_option maxRecDepth 8192
set_option maxHeartbeats 1000000

noncomputable section

namespace Cert.Proof.Ref

open Cert.Proof Cert.ReferenceIdeal Cert.ReferenceIdeal.Gen
open Idealize.ShloMosaic Idealize.ShloMosaic.TcCoe Idealize.SL.Sem

variable {F : FTy → Type} [FloatOps F]

/-- A projection `x · wᵀ + b`, -/
def rP (x : FVec F S2048x1024 .f32) (w : FVec F S1024x1024 .f32) (b : FVec F S1024 .f32) : FVec F S2048x1024 .f32 :=
  addf (Host.dotGeneral dot_S2048x1024_S1024x1024_S2048x1024_1_0_0_1_n_n none x (transpose S1024x1024 [1, 0] w transposes_S1024x1024_S1024x1024_1_0))
    (broadcastInDim S2048x1024 ![0, 1] bcast_S1x1024_S2048x1024_0_1 (broadcastInDim S1x1024 ![1] bcast_S1024_S1x1024_1 b))
/-- cut into heads, -/
def rH (p : FVec F S2048x1024 .f32) : FVec F S16x2048x64 .f32 :=
  transpose S16x2048x64 [1, 0, 2] (shapeCast _ p shapeCasts_S2048x1024_S2048x16x64) transposes_S2048x16x64_S16x2048x64_1_0_2
/-- the scores, zero outside a row's own segment, -/
def rS (ids : IVec S2048 32) (q k : FVec F S16x2048x64 .f32) : FVec F S16x2048x2048 .f32 :=
  select (broadcastInDim S16x2048x2048 ![0, 1, 2] bcast_S1x2048x2048_S16x2048x2048_0_1_2 (broadcastInDim S1x2048x2048 ![1, 2] bcast_S2048x2048_S1x2048x2048_1_2
      (cmpi .eq (broadcastInDim S2048x2048 ![0, 1] bcast_S2048x1_S2048x2048_0_1 (broadcastInDim S2048x1 ![0] bcast_S2048_S2048x1_0 ids))
        (broadcastInDim S2048x2048 ![0, 1] bcast_S1x2048_S2048x2048_0_1 (broadcastInDim S1x2048 ![1] bcast_S2048_S1x2048_1 ids)))))
    (Host.dotGeneral dot_S16x2048x64_S16x2048x64_S16x2048x2048_2_2_1_1_0_0 none q k)
    (broadcastInDim S16x2048x2048 ![] bcast_S_S16x2048x2048 (id (constant S_ .f32 0x00000000#32)))
/-- the row's maximum, -/
def rMx (s : FVec F S16x2048x2048 .f32) : FVec F S16x2048 .f32 :=
  Host.reduce FloatOps.maximumf s (constant S_ .f32 0xFF800000#32) reducesTo_S16x2048x2048_S16x2048_d2 h_S_
/-- the scores' exponentials, the row's maximum subtracted, -/
def rE (s : FVec F S16x2048x2048 .f32) (mx : FVec F S16x2048 .f32) : FVec F S16x2048x2048 .f32 :=
  Host.exp (subf s (broadcastInDim S16x2048x2048 ![0, 1, 2] bcast_S16x2048x1_S16x2048x2048_0_1_2 (broadcastInDim S16x2048x1 ![0, 1] bcast_S16x2048_S16x2048x1_0_1
    (maximumf (broadcastInDim S16x2048 ![] bcast_S_S16x2048 (constant S_ .f32 0xFF800000#32)) mx))))
/-- the weights, -/
def rD (e : FVec F S16x2048x2048 .f32) : FVec F S16x2048x2048 .f32 :=
  Host.divf e (broadcastInDim S16x2048x2048 ![0, 1, 2] bcast_S16x2048x1_S16x2048x2048_0_1_2 (broadcastInDim S16x2048x1 ![0, 1] bcast_S16x2048_S16x2048x1_0_1
    (Host.reduceAdd e (constant S_ .f32 0x00000000#32) reducesTo_S16x2048x2048_S16x2048_d2 h_S_)))
/-- the weighted values, the heads side by side, -/
def rW (d : FVec F S16x2048x2048 .f32) (v : FVec F S16x2048x64 .f32) : FVec F S2048x1024 .f32 :=
  shapeCast _ (transpose S2048x16x64 [1, 0, 2] (Host.dotGeneral dot_S16x2048x2048_S16x2048x64_S16x2048x64_2_1_1_2_0_0 none d v) transposes_S16x2048x64_S2048x16x64_1_0_2) shapeCasts_S2048x16x64_S2048x1024
/-- the segment asked for, -/
def rSid (ids : IVec S2048 32) (pos : IVec S_ 32) : IVec S_ 32 :=
  shapeCast _ (Host.dynamicSlice S1 ids (fun k => (((![select (cmpi .slt pos (constantI S_ 32 0#32)) (addi pos (constantI S_ 32 2048#32)) pos] : Fin 1 → IVec S_ 32)) k (Shape.Idx.first h_S_)).toInt) sliceFits_S2048_S1) shapeCasts_S1_S_
/-- one on its rows and zero elsewhere, -/
def rI (ids : IVec S2048 32) (sid : IVec S_ 32) : FVec F S2048 .f32 :=
  uitofp .f32 (cmpi .eq ids (broadcastInDim S2048 ![] bcast_S_S2048 sid))
/-- and the mean over them. -/
def rMean (y : FVec F S2048x1024 .f32) (i : FVec F S2048 .f32) : FVec F S1024 .f32 :=
  Host.divf (Host.reduceAdd (mulf y (broadcastInDim S2048x1024 ![0, 1] bcast_S2048x1_S2048x1024_0_1 (broadcastInDim S2048x1 ![0] bcast_S2048_S2048x1_0 i))) (constant S_ .f32 0x00000000#32) reducesTo_S2048x1024_S1024_d0 h_S_)
    (broadcastInDim S1024 ![] bcast_S_S1024 (Host.reduceAdd i (constant S_ .f32 0x00000000#32) reducesTo_S2048_S_d0 h_S_))

/-- The exponentials of the scores. -/
def rX (s : FVec F S16x2048x2048 .f32) : FVec F S16x2048x2048 .f32 := rE s (rMx s)

/-- The reference's result of its arguments. -/
def rOut (x : FVec F S2048x1024 .f32) (ids : IVec S2048 32) (pos : IVec S_ 32) (wq : FVec F S1024x1024 .f32) (bq : FVec F S1024 .f32) (wk : FVec F S1024x1024 .f32) (bk : FVec F S1024 .f32)
    (wv : FVec F S1024x1024 .f32) (bv : FVec F S1024 .f32) (wo : FVec F S1024x1024 .f32) (bo : FVec F S1024 .f32) : FVec F S1024 .f32 :=
  rMean (rP (rW (rD (rX (rS ids (rH (rP x wq bq)) (rH (rP x wk bk))))) (rH (rP x wv bv))) wo bo) (rI ids (rSid ids pos))

/-! ## The stages at an index -/

theorem rP_at (x : FVec Ideal S2048x1024 .f32) (w : FVec Ideal S1024x1024 .f32) (b : FVec Ideal S1024 .f32) (r : Fin 2048) (c : Fin 1024) :
    rP x w b (ix2 r c) = ∑ k : Fin 1024, x (ix2 r k) * w (ix2 c k) + b (ix1 c) := by
  pointwise [rP]
theorem rH_at (x : FVec Ideal S2048x1024 .f32) (h : Fin 16) (r : Fin 2048) (d : Fin 64) : rH x (ix3 h r d) = x (ix2 r (RealMath.col h d)) := by
  pointwise [rH]
  rfl
theorem rS_at (ids : IVec S2048 32) (x y : FVec Ideal S16x2048x64 .f32) (h : Fin 16) (r c : Fin 2048) :
    rS ids x y (ix3 h r c) = Scalar.select (IntOp.cmpi CmpIPredicate.eq (ids (ix1 r)) (ids (ix1 c))) (∑ d : Fin 64, x (ix3 h r d) * y (ix3 h c d)) (0 : EReal) := by
  pointwise [rS]
  rw [show (id (constant S_ FTy.f32 0#32) ix0 : Ideal .f32) = 0 from Ideal.ofBits_zero_f32]
theorem rE_at (s : FVec Ideal S16x2048x2048 .f32) (mx : FVec Ideal S16x2048 .f32) (h : Fin 16) (r c : Fin 2048) :
    rE s mx (ix3 h r c) = Ideal.exp (s (ix3 h r c) - max (Ideal.ofBits .f32 0xFF800000#32) (mx (ix2 h r))) := by
  pointwise [rE]
theorem rD_at (x : FVec Ideal S16x2048x2048 .f32) (h : Fin 16) (r c : Fin 2048) : rD x (ix3 h r c) = Ideal.div (x (ix3 h r c)) (∑ j : Fin 2048, x (ix3 h r j)) := by
  pointwise [rD]
theorem rW_at (x : FVec Ideal S16x2048x2048 .f32) (v : FVec Ideal S16x2048x64 .f32) (r : Fin 2048) (c : Fin 1024) :
    rW x v (ix2 r c) = ∑ j : Fin 2048, x (ix3 (RealMath.hdc c) r j) * v (ix3 (RealMath.hdc c) j ⟨c.val % 64, Nat.mod_lt _ (by decide)⟩) := by
  pointwise [rW]
  rfl
theorem rI_at (ids : IVec S2048 32) (s : IVec S_ 32) (r : Fin 2048) :
    rI (F := Ideal) ids s (ix1 r) = FloatOps.uitofp FTy.f32 (IntOp.cmpi CmpIPredicate.eq (ids (ix1 r)) (s ix0)) := by
  pointwise [rI]
theorem rMean_at (y : FVec Ideal S2048x1024 .f32) (i : FVec Ideal S2048 .f32) (r : Fin 1024) :
    rMean y i (ix1 r) = Ideal.div (∑ x : Fin 2048, y (ix2 x r) * i (ix1 x)) (∑ k : Fin 2048, i (ix1 k)) := by
  pointwise [rMean]

/-! ## Over the reals -/

theorem reduce_max_real {n0 n1 n2 : ℕ} (hn : 0 < n2) {t u : Shape} (h : (⟨3, ![n0, n1, n2]⟩ : Shape).ReducesTo [2] t) (s : FVec Ideal ⟨3, ![n0, n1, n2]⟩ .f32)
    (hs : ∀ i, ∃ r : ℝ, s i = (r : EReal)) (init : FVec Ideal u .f32) (hi : ∀ i, init i = (⊥ : EReal)) (hu : 0 < u.numel) (j : t.Idx) :
    ∃ r : ℝ, Host.reduce FloatOps.maximumf s init h hu j = (r : EReal) := by
  haveI : Nonempty (Fin n2) := ⟨⟨0, hn⟩⟩
  choose f hf using hs
  obtain ⟨r, hr⟩ := RealMath.fold_real fun k : Fin n2 => f (ix3 ⟨(j ⟨0, h.lt_r3_a2_0⟩).val, Shape.coordLt (j ⟨0, h.lt_r3_a2_0⟩) h.size_r3_a2_0⟩ ⟨(j ⟨1, h.lt_r3_a2_1⟩).val, Shape.coordLt (j ⟨1, h.lt_r3_a2_1⟩) h.size_r3_a2_1⟩ k)
  refine ⟨r, ?_⟩
  rw [Host.reduce_eq_fold, Shape.ReducesTo.fold_fiber_r3_a2, hi]
  simp only [hf]
  exact hr

theorem rMx_real (s : FVec Ideal S16x2048x2048 .f32) (hs : ∀ i, ∃ r : ℝ, s i = (r : EReal)) (j : S16x2048.Idx) : ∃ r : ℝ, rMx s j = (r : EReal) := by
  unfold rMx
  exact reduce_max_real (by decide) _ s hs _ (fun _ => RealMath.ofBits_neg_inf) _ j

section
variable (x : FVec Ideal S2048x1024 .f32) (xr : Fin 2048 → Fin 1024 → ℝ) (hx : ∀ i k, x (ix2 i k) = ((xr i k : ℝ) : EReal))
include hx
theorem rP_real (w : FVec Ideal S1024x1024 .f32) (b : FVec Ideal S1024 .f32) (wr : Fin 1024 → Fin 1024 → ℝ) (br : Fin 1024 → ℝ)
    (hw : ∀ i k, w (ix2 i k) = ((wr i k : ℝ) : EReal)) (hb : ∀ i, b (ix1 i) = ((br i : ℝ) : EReal)) (i : Fin 2048) (c : Fin 1024) :
    rP x w b (ix2 i c) = ((RealMath.proj xr wr br i c : ℝ) : EReal) := by
  rw [rP_at, hb]
  unfold RealMath.proj
  rw [EReal.coe_add]
  exact congrArg (· + _) (RealMath.sum_mul_coe _ _ _ _ (fun k => hx i k) (fun k => hw c k))
end

theorem cmpi_eq_iff (a b : BitVec 32) : IntOp.cmpi CmpIPredicate.eq a b = 1#1 ↔ a = b := by
  unfold IntOp.cmpi
  by_cases h : a = b
  · simp [h]
  · refine iff_of_false ?_ h
    show ¬ BitVec.ofBool (a == b) = 1#1
    rw [beq_eq_false_iff_ne.mpr h]; decide

theorem rS_real (ids : IVec S2048 32) (q k : FVec Ideal S2048x1024 .f32) (qr kr : Fin 2048 → Fin 1024 → ℝ) (hq : ∀ i c, q (ix2 i c) = ((qr i c : ℝ) : EReal))
    (hk : ∀ i c, k (ix2 i c) = ((kr i c : ℝ) : EReal)) (h : Fin 16) (i j : Fin 2048) :
    rS ids (rH q) (rH k) (ix3 h i j) = (((if ids (ix1 j) = ids (ix1 i) then RealMath.scr qr kr h i j else 0 : ℝ)) : EReal) := by
  rw [rS_at, RealMath.select_eq _ (ids (ix1 j) = ids (ix1 i)) ((cmpi_eq_iff _ _).trans eq_comm)]
  have e : ∑ d : Fin 64, rH q (ix3 h i d) * rH k (ix3 h j d) = ((RealMath.scr qr kr h i j : ℝ) : EReal) :=
    RealMath.sum_mul_coe _ _ _ _ (fun d => (rH_at q h i d).trans (hq _ _)) (fun d => (rH_at k h j d).trans (hk _ _))
  rw [e]
  by_cases hh : ids (ix1 j) = ids (ix1 i)
  · rw [if_pos hh, if_pos hh]
  · rw [if_neg hh, if_neg hh]; rfl

theorem ix3_eta (i : S16x2048x2048.Idx) : ix3 (n0 := 16) (n1 := 2048) (n2 := 2048) (i 0) (i 1) (i 2) = i := by
  funext a
  match a with
  | 0 => rfl
  | 1 => rfl
  | 2 => rfl

/-- The attention's value for a row. -/
theorem rW_real (s : FVec Ideal S16x2048x2048 .f32) (v : FVec Ideal S2048x1024 .f32) (sr : Fin 16 → Fin 2048 → Fin 2048 → ℝ) (vr : Fin 2048 → Fin 1024 → ℝ)
    (hs : ∀ h i j, s (ix3 h i j) = ((sr h i j : ℝ) : EReal)) (hv : ∀ i c, v (ix2 i c) = ((vr i c : ℝ) : EReal)) (i : Fin 2048) (c : Fin 1024) :
    rW (rD (rX s)) (rH v) (ix2 i c) = ((RealMath.soft (sr (RealMath.hdc c) i) (fun j => vr j c) : ℝ) : EReal) := by
  have hs' : ∀ y, ∃ r : ℝ, s y = (r : EReal) := fun y => ⟨sr (y 0) (y 1) (y 2), (congrArg s (ix3_eta y).symm).trans (hs _ _ _)⟩
  obtain ⟨M, hM⟩ := rMx_real s hs' (ix2 (RealMath.hdc c) i)
  have hX : ∀ j, rX s (ix3 (RealMath.hdc c) i j) = ((Real.exp (sr (RealMath.hdc c) i j - M) : ℝ) : EReal) := by
    intro j
    unfold rX
    rw [rE_at, hM, hs, RealMath.ofBits_neg_inf, max_eq_right bot_le, ← EReal.coe_sub]
    rfl
  have hsum : (∑ j : Fin 2048, rX s (ix3 (RealMath.hdc c) i j) : EReal) = ((∑ j, Real.exp (sr (RealMath.hdc c) i j - M) : ℝ) : EReal) := RealMath.sum_coe _ _ hX
  have hpos : (∑ j, Real.exp (sr (RealMath.hdc c) i j - M)) ≠ 0 := (Finset.sum_pos (fun j _ => Real.exp_pos _) ⟨i, Finset.mem_univ i⟩).ne'
  have hD : ∀ j, rD (rX s) (ix3 (RealMath.hdc c) i j) = ((Real.exp (sr (RealMath.hdc c) i j - M) / (∑ j', Real.exp (sr (RealMath.hdc c) i j' - M)) : ℝ) : EReal) := by
    intro j
    rw [rD_at]
    refine (congrArg₂ Ideal.div (hX j) hsum).trans ?_
    exact RealMath.div_coe _ _ hpos
  rw [rW_at, ← RealMath.soft_shift _ _ M]
  refine RealMath.sum_mul_coe _ _ _ _ hD fun j => ?_
  rw [rH_at, show RealMath.col (RealMath.hdc c) ⟨c.val % 64, Nat.mod_lt _ (by decide)⟩ = c from Fin.ext (by show c.val / 64 * 64 + c.val % 64 = c.val; omega), hv]

theorem rI_real (ids : IVec S2048 32) (s : IVec S_ 32) (i : Fin 2048) : rI (F := Ideal) ids s (ix1 i) = (((if ids (ix1 i) = s ix0 then 1 else 0 : ℝ)) : EReal) := by
  rw [rI_at]
  by_cases h : ids (ix1 i) = s ix0
  · rw [if_pos h, (cmpi_eq_iff _ _).mpr h]
    show (((1#1 : BitVec 1).toNat : ℝ) : EReal) = _
    norm_num
  · rw [if_neg h]
    have : IntOp.cmpi CmpIPredicate.eq (ids (ix1 i)) (s ix0) = 0#1 := by
      have h1 : IntOp.cmpi CmpIPredicate.eq (ids (ix1 i)) (s ix0) ≠ 1#1 := fun e => h ((cmpi_eq_iff _ _).mp e)
      revert h1; generalize IntOp.cmpi CmpIPredicate.eq (ids (ix1 i)) (s ix0) = b; revert b; decide
    rw [this]
    show (((0#1 : BitVec 1).toNat : ℝ) : EReal) = _
    norm_num

/-- The reference over the reals. -/
theorem rOut_real (x : FVec Ideal S2048x1024 .f32) (ids : IVec S2048 32) (pos : IVec S_ 32) (wq wk wv wo : FVec Ideal S1024x1024 .f32) (bq bk bv bo : FVec Ideal S1024 .f32)
    (xr : Fin 2048 → Fin 1024 → ℝ) (wqr wkr wvr wor : Fin 1024 → Fin 1024 → ℝ) (bqr bkr bvr bor : Fin 1024 → ℝ)
    (hx : ∀ i k, x (ix2 i k) = ((xr i k : ℝ) : EReal)) (hwq : ∀ i k, wq (ix2 i k) = ((wqr i k : ℝ) : EReal)) (hwk : ∀ i k, wk (ix2 i k) = ((wkr i k : ℝ) : EReal))
    (hwv : ∀ i k, wv (ix2 i k) = ((wvr i k : ℝ) : EReal)) (hwo : ∀ i k, wo (ix2 i k) = ((wor i k : ℝ) : EReal)) (hbq : ∀ i, bq (ix1 i) = ((bqr i : ℝ) : EReal))
    (hbk : ∀ i, bk (ix1 i) = ((bkr i : ℝ) : EReal)) (hbv : ∀ i, bv (ix1 i) = ((bvr i : ℝ) : EReal)) (hbo : ∀ i, bo (ix1 i) = ((bor i : ℝ) : EReal))
    (hne : ∃ i : Fin 2048, ids (ix1 i) = rSid ids pos ix0) (c : Fin 1024) :
    rOut x ids pos wq bq wk bk wv bv wo bo (ix1 c) = (((∑ i : Fin 2048, (∑ e, RealMath.soft (fun j => if ids (ix1 j) = ids (ix1 i) then RealMath.scr (RealMath.proj xr wqr bqr) (RealMath.proj xr wkr bkr) (RealMath.hdc e) i j else 0)
        (fun j => RealMath.proj xr wvr bvr j e) * wor c e + bor c) * (if ids (ix1 i) = rSid ids pos ix0 then 1 else 0)) / (∑ i : Fin 2048, if ids (ix1 i) = rSid ids pos ix0 then 1 else 0) : ℝ) : EReal) := by
  unfold rOut
  rw [rMean_at]
  have hq := rP_real x xr hx wq bq wqr bqr hwq hbq
  have hk := rP_real x xr hx wk bk wkr bkr hwk hbk
  have hv := rP_real x xr hx wv bv wvr bvr hwv hbv
  have hW := rW_real _ _ _ _ (rS_real ids _ _ _ _ hq hk) hv
  have hY := rP_real _ _ hW wo bo wor bor hwo hbo
  have h0 : (∑ i : Fin 2048, if ids (ix1 i) = rSid ids pos ix0 then (1 : ℝ) else 0) ≠ 0 := by
    obtain ⟨i, hi⟩ := hne
    refine (Finset.sum_pos' (fun j _ => by split <;> norm_num) ⟨i, Finset.mem_univ i, by rw [if_pos hi]; norm_num⟩).ne'
  rw [RealMath.sum_coe _ _ (fun i => rI_real ids _ i), RealMath.sum_mul_coe _ _ _ _ (fun i => hY i c) (fun i => rI_real ids _ i)]
  exact RealMath.div_coe _ _ h0

end Cert.Proof.Ref

end
-- ==== Proof.M.RefRun.lean ====
/-
  The reference's run: its operations in stages, each stage's result by name, every argument as it was.
-/
module

public import proofs.«01_k».proof.Proof.M.Ref
public import Idealize.ShloMosaic.Lib.StableHlo.RunClose

@[expose] public section

set_option maxRecDepth 8192

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

/-- The contents of a buffer. -/
abbrev C (F : FTy → Type) (s : Shape) (e : EltTy) := (⟨s, e⟩ : BufTy).Contents (Elt F)

def opsA : List (HloOp τ sig (Elt F)) :=
  [ unary main_arg3 main_v0 ((transpose S1024x1024 [1, 0] · transposes_S1024x1024_S1024x1024_1_0) : C F S1024x1024 .f32 → C F S1024x1024 .f32),
    binary main_arg0 main_v0 main_v1 ((fun l r => Host.dotGeneral dot_S2048x1024_S1024x1024_S2048x1024_1_0_0_1_n_n none l r) : C F S2048x1024 .f32 → C F S1024x1024 .f32 → C F S2048x1024 .f32),
    unary main_arg4 main_v2 (broadcastInDim S1x1024 ![1] bcast_S1024_S1x1024_1 : C F S1024 .f32 → C F S1x1024 .f32),
    unary main_v2 main_v3 (broadcastInDim S2048x1024 ![0, 1] bcast_S1x1024_S2048x1024_0_1 : C F S1x1024 .f32 → C F S2048x1024 .f32),
    binary main_v1 main_v3 main_v4 (addf : C F S2048x1024 .f32 → C F S2048x1024 .f32 → C F S2048x1024 .f32),
    unary main_arg5 main_v5 ((transpose S1024x1024 [1, 0] · transposes_S1024x1024_S1024x1024_1_0) : C F S1024x1024 .f32 → C F S1024x1024 .f32),
    binary main_arg0 main_v5 main_v6 ((fun l r => Host.dotGeneral dot_S2048x1024_S1024x1024_S2048x1024_1_0_0_1_n_n none l r) : C F S2048x1024 .f32 → C F S1024x1024 .f32 → C F S2048x1024 .f32),
    unary main_arg6 main_v7 (broadcastInDim S1x1024 ![1] bcast_S1024_S1x1024_1 : C F S1024 .f32 → C F S1x1024 .f32),
    unary main_v7 main_v8 (broadcastInDim S2048x1024 ![0, 1] bcast_S1x1024_S2048x1024_0_1 : C F S1x1024 .f32 → C F S2048x1024 .f32),
    binary main_v6 main_v8 main_v9 (addf : C F S2048x1024 .f32 → C F S2048x1024 .f32 → C F S2048x1024 .f32),
    unary main_arg7 main_v10 ((transpose S1024x1024 [1, 0] · transposes_S1024x1024_S1024x1024_1_0) : C F S1024x1024 .f32 → C F S1024x1024 .f32),
    binary main_arg0 main_v10 main_v11 ((fun l r => Host.dotGeneral dot_S2048x1024_S1024x1024_S2048x1024_1_0_0_1_n_n none l r) : C F S2048x1024 .f32 → C F S1024x1024 .f32 → C F S2048x1024 .f32),
    unary main_arg8 main_v12 (broadcastInDim S1x1024 ![1] bcast_S1024_S1x1024_1 : C F S1024 .f32 → C F S1x1024 .f32),
    unary main_v12 main_v13 (broadcastInDim S2048x1024 ![0, 1] bcast_S1x1024_S2048x1024_0_1 : C F S1x1024 .f32 → C F S2048x1024 .f32),
    binary main_v11 main_v13 main_v14 (addf : C F S2048x1024 .f32 → C F S2048x1024 .f32 → C F S2048x1024 .f32) ]
def opsB : List (HloOp τ sig (Elt F)) :=
  [ reshape main_v4 main_v15 rfl shapeCasts_S2048x1024_S2048x16x64,
    unary main_v15 main_v16 ((transpose S16x2048x64 [1, 0, 2] · transposes_S2048x16x64_S16x2048x64_1_0_2) : C F S2048x16x64 .f32 → C F S16x2048x64 .f32),
    reshape main_v9 main_v17 rfl shapeCasts_S2048x1024_S2048x16x64,
    unary main_v17 main_v18 ((transpose S16x2048x64 [1, 0, 2] · transposes_S2048x16x64_S16x2048x64_1_0_2) : C F S2048x16x64 .f32 → C F S16x2048x64 .f32),
    reshape main_v14 main_v19 rfl shapeCasts_S2048x1024_S2048x16x64,
    unary main_v19 main_v20 ((transpose S16x2048x64 [1, 0, 2] · transposes_S2048x16x64_S16x2048x64_1_0_2) : C F S2048x16x64 .f32 → C F S16x2048x64 .f32) ]
def opsC : List (HloOp τ sig (Elt F)) :=
  [ binary main_v16 main_v18 main_v21 ((fun l r => Host.dotGeneral dot_S16x2048x64_S16x2048x64_S16x2048x2048_2_2_1_1_0_0 none l r) : C F S16x2048x64 .f32 → C F S16x2048x64 .f32 → C F S16x2048x2048 .f32),
    unary main_arg1 main_v22 (broadcastInDim S2048x1 ![0] bcast_S2048_S2048x1_0 : C F S2048 .i32 → C F S2048x1 .i32),
    unary main_arg1 main_v23 (broadcastInDim S1x2048 ![1] bcast_S2048_S1x2048_1 : C F S2048 .i32 → C F S1x2048 .i32),
    unary main_v22 main_v24 (broadcastInDim S2048x2048 ![0, 1] bcast_S2048x1_S2048x2048_0_1 : C F S2048x1 .i32 → C F S2048x2048 .i32),
    unary main_v23 main_v25 (broadcastInDim S2048x2048 ![0, 1] bcast_S1x2048_S2048x2048_0_1 : C F S1x2048 .i32 → C F S2048x2048 .i32),
    binary main_v24 main_v25 main_v26 (cmpi .eq : C F S2048x2048 .i32 → C F S2048x2048 .i32 → C F S2048x2048 .i1),
    unary main_v26 main_v27 (broadcastInDim S1x2048x2048 ![1, 2] bcast_S2048x2048_S1x2048x2048_1_2 : C F S2048x2048 .i1 → C F S1x2048x2048 .i1),
    nullary main_cst (constant S_ .f32 0x00000000#32),
    TRef.unary (TRef.of (T := ⟨S_, .f32⟩) main_cst) (TRef.of (T := ⟨S_, .f32⟩) main_call0_v0) id,
    TRef.unary (TRef.of (T := ⟨S1x2048x2048, .i1⟩) main_v27) (TRef.of (T := ⟨S16x2048x2048, .i1⟩) main_call0_v1) (broadcastInDim S16x2048x2048 ![0, 1, 2] bcast_S1x2048x2048_S16x2048x2048_0_1_2),
    TRef.unary (TRef.of (T := ⟨S_, .f32⟩) main_call0_v0) (TRef.of (T := ⟨S16x2048x2048, .f32⟩) main_call0_v2) (broadcastInDim S16x2048x2048 ![] bcast_S_S16x2048x2048),
    TRef.ternary (TRef.of (T := ⟨S16x2048x2048, .i1⟩) main_call0_v1) (TRef.of (T := ⟨S16x2048x2048, .f32⟩) main_v21) (TRef.of (T := ⟨S16x2048x2048, .f32⟩) main_call0_v2) (TRef.of (T := ⟨S16x2048x2048, .f32⟩) main_v28) select ]
def opsD : List (HloOp τ sig (Elt F)) :=
  [ nullary main_cst_0 (constant S_ .f32 0xFF800000#32),
    binary main_v28 main_cst_0 main_v29 ((fun x v => Host.reduce FloatOps.maximumf x v reducesTo_S16x2048x2048_S16x2048_d2 h_S_) : C F S16x2048x2048 .f32 → C F S_ .f32 → C F S16x2048 .f32),
    nullary main_cst_1 (constant S_ .f32 0xFF800000#32),
    unary main_cst_1 main_v30 (broadcastInDim S16x2048 ![] bcast_S_S16x2048 : C F S_ .f32 → C F S16x2048 .f32),
    binary main_v30 main_v29 main_v31 (maximumf : C F S16x2048 .f32 → C F S16x2048 .f32 → C F S16x2048 .f32),
    unary main_v31 main_v32 (broadcastInDim S16x2048x1 ![0, 1] bcast_S16x2048_S16x2048x1_0_1 : C F S16x2048 .f32 → C F S16x2048x1 .f32),
    unary main_v32 main_v33 (broadcastInDim S16x2048x2048 ![0, 1, 2] bcast_S16x2048x1_S16x2048x2048_0_1_2 : C F S16x2048x1 .f32 → C F S16x2048x2048 .f32),
    binary main_v28 main_v33 main_v34 (subf : C F S16x2048x2048 .f32 → C F S16x2048x2048 .f32 → C F S16x2048x2048 .f32),
    unary main_v34 main_v35 (Host.exp : C F S16x2048x2048 .f32 → C F S16x2048x2048 .f32) ]
def opsE : List (HloOp τ sig (Elt F)) :=
  [ nullary main_cst_2 (constant S_ .f32 0x00000000#32),
    binary main_v35 main_cst_2 main_v36 ((fun x v => Host.reduceAdd x v reducesTo_S16x2048x2048_S16x2048_d2 h_S_) : C F S16x2048x2048 .f32 → C F S_ .f32 → C F S16x2048 .f32),
    unary main_v36 main_v37 (broadcastInDim S16x2048x1 ![0, 1] bcast_S16x2048_S16x2048x1_0_1 : C F S16x2048 .f32 → C F S16x2048x1 .f32),
    unary main_v37 main_v38 (broadcastInDim S16x2048x2048 ![0, 1, 2] bcast_S16x2048x1_S16x2048x2048_0_1_2 : C F S16x2048x1 .f32 → C F S16x2048x2048 .f32),
    binary main_v35 main_v38 main_v39 (Host.divf : C F S16x2048x2048 .f32 → C F S16x2048x2048 .f32 → C F S16x2048x2048 .f32) ]
def opsG : List (HloOp τ sig (Elt F)) :=
  [ binary main_v39 main_v20 main_v40 ((fun l r => Host.dotGeneral dot_S16x2048x2048_S16x2048x64_S16x2048x64_2_1_1_2_0_0 none l r) : C F S16x2048x2048 .f32 → C F S16x2048x64 .f32 → C F S16x2048x64 .f32),
    unary main_v40 main_v41 ((transpose S2048x16x64 [1, 0, 2] · transposes_S16x2048x64_S2048x16x64_1_0_2) : C F S16x2048x64 .f32 → C F S2048x16x64 .f32),
    reshape main_v41 main_v42 rfl shapeCasts_S2048x16x64_S2048x1024 ]
def opsH : List (HloOp τ sig (Elt F)) :=
  [ unary main_arg9 main_v43 ((transpose S1024x1024 [1, 0] · transposes_S1024x1024_S1024x1024_1_0) : C F S1024x1024 .f32 → C F S1024x1024 .f32),
    binary main_v42 main_v43 main_v44 ((fun l r => Host.dotGeneral dot_S2048x1024_S1024x1024_S2048x1024_1_0_0_1_n_n none l r) : C F S2048x1024 .f32 → C F S1024x1024 .f32 → C F S2048x1024 .f32),
    unary main_arg10 main_v45 (broadcastInDim S1x1024 ![1] bcast_S1024_S1x1024_1 : C F S1024 .f32 → C F S1x1024 .f32),
    unary main_v45 main_v46 (broadcastInDim S2048x1024 ![0, 1] bcast_S1x1024_S2048x1024_0_1 : C F S1x1024 .f32 → C F S2048x1024 .f32),
    binary main_v44 main_v46 main_v47 (addf : C F S2048x1024 .f32 → C F S2048x1024 .f32 → C F S2048x1024 .f32) ]
def opsI : List (HloOp τ sig (Elt F)) :=
  [ nullary main_c (constantI S_ 32 0#32),
    binary main_arg2 main_c main_v48 (cmpi .slt : C F S_ .i32 → C F S_ .i32 → C F S_ .i1),
    nullary main_c_3 (constantI S_ 32 2048#32),
    binary main_arg2 main_c_3 main_v49 (addi : C F S_ .i32 → C F S_ .i32 → C F S_ .i32),
    ternary main_v48 main_v49 main_arg2 main_v50 (select : C F S_ .i1 → C F S_ .i32 → C F S_ .i32 → C F S_ .i32),
    unaryIndexed main_arg1 ![main_v50] ⟨S_, .i32⟩ main_v51 ((fun x i => Host.dynamicSlice S1 x (fun k => (i k (Shape.Idx.first h_S_)).toInt) sliceFits_S2048_S1) : C F S2048 .i32 → (Fin 1 → C F S_ .i32) → C F S1 .i32),
    reshape main_v51 main_v52 rfl shapeCasts_S1_S_ ]
def opsJ : List (HloOp τ sig (Elt F)) :=
  [ unary main_v52 main_v53 (broadcastInDim S2048 ![] bcast_S_S2048 : C F S_ .i32 → C F S2048 .i32),
    binary main_arg1 main_v53 main_v54 (cmpi .eq : C F S2048 .i32 → C F S2048 .i32 → C F S2048 .i1),
    unary main_v54 main_v55 (uitofp .f32 : C F S2048 .i1 → C F S2048 .f32) ]
def opsK : List (HloOp τ sig (Elt F)) :=
  [ unary main_v55 main_v56 (broadcastInDim S2048x1 ![0] bcast_S2048_S2048x1_0 : C F S2048 .f32 → C F S2048x1 .f32),
    unary main_v56 main_v57 (broadcastInDim S2048x1024 ![0, 1] bcast_S2048x1_S2048x1024_0_1 : C F S2048x1 .f32 → C F S2048x1024 .f32),
    binary main_v47 main_v57 main_v58 (mulf : C F S2048x1024 .f32 → C F S2048x1024 .f32 → C F S2048x1024 .f32),
    nullary main_cst_4 (constant S_ .f32 0x00000000#32),
    binary main_v58 main_cst_4 main_v59 ((fun x v => Host.reduceAdd x v reducesTo_S2048x1024_S1024_d0 h_S_) : C F S2048x1024 .f32 → C F S_ .f32 → C F S1024 .f32),
    nullary main_cst_5 (constant S_ .f32 0x00000000#32),
    binary main_v55 main_cst_5 main_v60 ((fun x v => Host.reduceAdd x v reducesTo_S2048_S_d0 h_S_) : C F S2048 .f32 → C F S_ .f32 → C F S_ .f32),
    unary main_v60 main_v61 (broadcastInDim S1024 ![] bcast_S_S1024 : C F S_ .f32 → C F S1024 .f32),
    binary main_v59 main_v61 main_v62 (Host.divf : C F S1024 .f32 → C F S1024 .f32 → C F S1024 .f32) ]

/-- The reference's operations, in order. -/
def opsAll : List (HloOp τ sig (Elt F)) := opsA ++ (opsB ++ (opsC ++ (opsD ++ (opsE ++ (opsG ++ (opsH ++ (opsI ++ (opsJ ++ opsK))))))))

set_option maxHeartbeats 4000000 in
theorem main_all (c : Dev nD) : main (F := F) c = seq opsAll := rfl
theorem no_scoped : (Finset.univ.filter fun b : Ref sig .tc => b.isScoped) = ∅ := by decide
theorem no_scoped_sems : (Finset.univ.filter fun sm : SemLoc sig => sm.isScoped .tc) = ∅ := by decide

theorem subA : ∀ op ∈ (opsA : List (HloOp τ sig (Elt F))), op.bufs ⊆ tcRefs τ sig :=
  List.forall_iff_forall_mem.mp ⟨unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., unary_bufs_sub .., unary_bufs_sub .., binary_bufs_sub ..⟩
theorem freshA : ∀ op ∈ (opsA : List (HloOp τ sig (Elt F))), op.fresh = ∅ := by
  intro _ h; (repeat (cases h with | head => rfl | tail _ h => ?_)); exact nomatch h
theorem subB : ∀ op ∈ (opsB : List (HloOp τ sig (Elt F))), op.bufs ⊆ tcRefs τ sig :=
  List.forall_iff_forall_mem.mp ⟨reshape_bufs_sub .., unary_bufs_sub .., reshape_bufs_sub .., unary_bufs_sub .., reshape_bufs_sub .., unary_bufs_sub ..⟩
theorem freshB : ∀ op ∈ (opsB : List (HloOp τ sig (Elt F))), op.fresh = ∅ := by
  intro _ h; (repeat (cases h with | head => rfl | tail _ h => ?_)); exact nomatch h
theorem subC : ∀ op ∈ (opsC : List (HloOp τ sig (Elt F))), op.bufs ⊆ tcRefs τ sig :=
  List.forall_iff_forall_mem.mp ⟨binary_bufs_sub .., unary_bufs_sub .., unary_bufs_sub .., unary_bufs_sub .., unary_bufs_sub .., binary_bufs_sub .., unary_bufs_sub .., nullary_bufs_sub .., unary_bufs_sub .., unary_bufs_sub .., unary_bufs_sub .., ternary_bufs_sub ..⟩
theorem freshC : ∀ op ∈ (opsC : List (HloOp τ sig (Elt F))), op.fresh = ∅ := by
  intro _ h; (repeat (cases h with | head => rfl | tail _ h => ?_)); exact nomatch h
theorem subD : ∀ op ∈ (opsD : List (HloOp τ sig (Elt F))), op.bufs ⊆ tcRefs τ sig :=
  List.forall_iff_forall_mem.mp ⟨nullary_bufs_sub .., binary_bufs_sub .., nullary_bufs_sub .., unary_bufs_sub .., binary_bufs_sub .., unary_bufs_sub .., unary_bufs_sub .., binary_bufs_sub .., unary_bufs_sub ..⟩
theorem freshD : ∀ op ∈ (opsD : List (HloOp τ sig (Elt F))), op.fresh = ∅ := by
  intro _ h; (repeat (cases h with | head => rfl | tail _ h => ?_)); exact nomatch h
theorem subE : ∀ op ∈ (opsE : List (HloOp τ sig (Elt F))), op.bufs ⊆ tcRefs τ sig :=
  List.forall_iff_forall_mem.mp ⟨nullary_bufs_sub .., binary_bufs_sub .., unary_bufs_sub .., unary_bufs_sub .., binary_bufs_sub ..⟩
theorem freshE : ∀ op ∈ (opsE : List (HloOp τ sig (Elt F))), op.fresh = ∅ := by
  intro _ h; (repeat (cases h with | head => rfl | tail _ h => ?_)); exact nomatch h
theorem subG : ∀ op ∈ (opsG : List (HloOp τ sig (Elt F))), op.bufs ⊆ tcRefs τ sig :=
  List.forall_iff_forall_mem.mp ⟨binary_bufs_sub .., unary_bufs_sub .., reshape_bufs_sub ..⟩
theorem freshG : ∀ op ∈ (opsG : List (HloOp τ sig (Elt F))), op.fresh = ∅ := by
  intro _ h; (repeat (cases h with | head => rfl | tail _ h => ?_)); exact nomatch h
theorem subH : ∀ op ∈ (opsH : List (HloOp τ sig (Elt F))), op.bufs ⊆ tcRefs τ sig :=
  List.forall_iff_forall_mem.mp ⟨unary_bufs_sub .., binary_bufs_sub .., unary_bufs_sub .., unary_bufs_sub .., binary_bufs_sub ..⟩
theorem freshH : ∀ op ∈ (opsH : List (HloOp τ sig (Elt F))), op.fresh = ∅ := by
  intro _ h; (repeat (cases h with | head => rfl | tail _ h => ?_)); exact nomatch h
theorem subI : ∀ op ∈ (opsI : List (HloOp τ sig (Elt F))), op.bufs ⊆ tcRefs τ sig :=
  List.forall_iff_forall_mem.mp ⟨nullary_bufs_sub .., binary_bufs_sub .., nullary_bufs_sub .., binary_bufs_sub .., ternary_bufs_sub .., unaryIndexed_bufs_sub .., reshape_bufs_sub ..⟩
theorem freshI : ∀ op ∈ (opsI : List (HloOp τ sig (Elt F))), op.fresh = ∅ := by
  intro _ h; (repeat (cases h with | head => rfl | tail _ h => ?_)); exact nomatch h
theorem subJ : ∀ op ∈ (opsJ : List (HloOp τ sig (Elt F))), op.bufs ⊆ tcRefs τ sig :=
  List.forall_iff_forall_mem.mp ⟨unary_bufs_sub .., binary_bufs_sub .., unary_bufs_sub ..⟩
theorem freshJ : ∀ op ∈ (opsJ : List (HloOp τ sig (Elt F))), op.fresh = ∅ := by
  intro _ h; (repeat (cases h with | head => rfl | tail _ h => ?_)); exact nomatch h
theorem subK : ∀ op ∈ (opsK : List (HloOp τ sig (Elt F))), op.bufs ⊆ tcRefs τ sig :=
  List.forall_iff_forall_mem.mp ⟨unary_bufs_sub .., unary_bufs_sub .., binary_bufs_sub .., nullary_bufs_sub .., binary_bufs_sub .., nullary_bufs_sub .., binary_bufs_sub .., unary_bufs_sub .., binary_bufs_sub ..⟩
theorem freshK : ∀ op ∈ (opsK : List (HloOp τ sig (Elt F))), op.fresh = ∅ := by
  intro _ h; (repeat (cases h with | head => rfl | tail _ h => ?_)); exact nomatch h
theorem sub_all : (opsAll : List (HloOp τ sig (Elt F))).Forall fun op => op.bufs ⊆ tcRefs τ sig := by
  refine List.forall_iff_forall_mem.mpr ?_
  intro op h
  simp only [opsAll, List.mem_append] at h
  rcases h with h | h | h | h | h | h | h | h | h | h
  · exact subA op h
  · exact subB op h
  · exact subC op h
  · exact subD op h
  · exact subE op h
  · exact subG op h
  · exact subH op h
  · exact subI op h
  · exact subJ op h
  · exact subK op h

theorem fresh_all : ∀ op ∈ (opsAll : List (HloOp τ sig (Elt F))), op.fresh = ∅ := by
  intro op h
  simp only [opsAll, List.mem_append] at h
  rcases h with h | h | h | h | h | h | h | h | h | h
  · exact freshA op h
  · exact freshB op h
  · exact freshC op h
  · exact freshD op h
  · exact freshE op h
  · exact freshG op h
  · exact freshH op h
  · exact freshI op h
  · exact freshJ op h
  · exact freshK op h

variable (V : Valuation τ sig (Elt F))

theorem keepA (r : Ref sig .tc) (h : r ∉ [main_v0, main_v1, main_v2, main_v3, main_v4, main_v5, main_v6, main_v7, main_v8, main_v9, main_v10, main_v11, main_v12, main_v13, main_v14]) : after opsA V (Proc.devRef .tc r) = V (Proc.devRef .tc r) :=
  after_of_writes_sub (W := [main_v0, main_v1, main_v2, main_v3, main_v4, main_v5, main_v6, main_v7, main_v8, main_v9, main_v10, main_v11, main_v12, main_v13, main_v14]) opsA V (forall_writes_sub_of_map rfl) h
theorem keepB (r : Ref sig .tc) (h : r ∉ [main_v15, main_v16, main_v17, main_v18, main_v19, main_v20]) : after opsB V (Proc.devRef .tc r) = V (Proc.devRef .tc r) :=
  after_of_writes_sub (W := [main_v15, main_v16, main_v17, main_v18, main_v19, main_v20]) opsB V (forall_writes_sub_of_map rfl) h
theorem keepC (r : Ref sig .tc) (h : r ∉ [main_v21, main_v22, main_v23, main_v24, main_v25, main_v26, main_v27, main_cst, main_call0_v0, main_call0_v1, main_call0_v2, main_v28]) : after opsC V (Proc.devRef .tc r) = V (Proc.devRef .tc r) :=
  after_of_writes_sub (W := [main_v21, main_v22, main_v23, main_v24, main_v25, main_v26, main_v27, main_cst, main_call0_v0, main_call0_v1, main_call0_v2, main_v28]) opsC V (forall_writes_sub_of_map rfl) h
theorem keepD (r : Ref sig .tc) (h : r ∉ [main_cst_0, main_v29, main_cst_1, main_v30, main_v31, main_v32, main_v33, main_v34, main_v35]) : after opsD V (Proc.devRef .tc r) = V (Proc.devRef .tc r) :=
  after_of_writes_sub (W := [main_cst_0, main_v29, main_cst_1, main_v30, main_v31, main_v32, main_v33, main_v34, main_v35]) opsD V (forall_writes_sub_of_map rfl) h
theorem keepE (r : Ref sig .tc) (h : r ∉ [main_cst_2, main_v36, main_v37, main_v38, main_v39]) : after opsE V (Proc.devRef .tc r) = V (Proc.devRef .tc r) :=
  after_of_writes_sub (W := [main_cst_2, main_v36, main_v37, main_v38, main_v39]) opsE V (forall_writes_sub_of_map rfl) h
theorem keepG (r : Ref sig .tc) (h : r ∉ [main_v40, main_v41, main_v42]) : after opsG V (Proc.devRef .tc r) = V (Proc.devRef .tc r) :=
  after_of_writes_sub (W := [main_v40, main_v41, main_v42]) opsG V (forall_writes_sub_of_map rfl) h
theorem keepH (r : Ref sig .tc) (h : r ∉ [main_v43, main_v44, main_v45, main_v46, main_v47]) : after opsH V (Proc.devRef .tc r) = V (Proc.devRef .tc r) :=
  after_of_writes_sub (W := [main_v43, main_v44, main_v45, main_v46, main_v47]) opsH V (forall_writes_sub_of_map rfl) h
theorem keepI (r : Ref sig .tc) (h : r ∉ [main_c, main_v48, main_c_3, main_v49, main_v50, main_v51, main_v52]) : after opsI V (Proc.devRef .tc r) = V (Proc.devRef .tc r) :=
  after_of_writes_sub (W := [main_c, main_v48, main_c_3, main_v49, main_v50, main_v51, main_v52]) opsI V (forall_writes_sub_of_map rfl) h
theorem keepJ (r : Ref sig .tc) (h : r ∉ [main_v53, main_v54, main_v55]) : after opsJ V (Proc.devRef .tc r) = V (Proc.devRef .tc r) :=
  after_of_writes_sub (W := [main_v53, main_v54, main_v55]) opsJ V (forall_writes_sub_of_map rfl) h
theorem keepK (r : Ref sig .tc) (h : r ∉ [main_v56, main_v57, main_v58, main_cst_4, main_v59, main_cst_5, main_v60, main_v61, main_v62]) : after opsK V (Proc.devRef .tc r) = V (Proc.devRef .tc r) :=
  after_of_writes_sub (W := [main_v56, main_v57, main_v58, main_cst_4, main_v59, main_cst_5, main_v60, main_v61, main_v62]) opsK V (forall_writes_sub_of_map rfl) h
theorem outA_v4 : after opsA V (Proc.devRef .tc main_v4) = rP (V (Proc.devRef .tc main_arg0)) (V (Proc.devRef .tc main_arg3)) (V (Proc.devRef .tc main_arg4)) := by
  unfold opsA
  simp only [TRef.ternary, TRef.unary, TRef.binary, TRef.nullary, TRef.toBuf, TRef.ofBuf, cast_eq]
  after_results_simp_entrywise
  rfl
theorem outA_v9 : after opsA V (Proc.devRef .tc main_v9) = rP (V (Proc.devRef .tc main_arg0)) (V (Proc.devRef .tc main_arg5)) (V (Proc.devRef .tc main_arg6)) := by
  unfold opsA
  simp only [TRef.ternary, TRef.unary, TRef.binary, TRef.nullary, TRef.toBuf, TRef.ofBuf, cast_eq]
  after_results_simp_entrywise
  rfl
theorem outA_v14 : after opsA V (Proc.devRef .tc main_v14) = rP (V (Proc.devRef .tc main_arg0)) (V (Proc.devRef .tc main_arg7)) (V (Proc.devRef .tc main_arg8)) := by
  unfold opsA
  simp only [TRef.ternary, TRef.unary, TRef.binary, TRef.nullary, TRef.toBuf, TRef.ofBuf, cast_eq]
  after_results_simp_entrywise
  rfl
theorem outB_v16 : after opsB V (Proc.devRef .tc main_v16) = rH (V (Proc.devRef .tc main_v4)) := by
  unfold opsB
  simp only [TRef.ternary, TRef.unary, TRef.binary, TRef.nullary, TRef.toBuf, TRef.ofBuf, cast_eq]
  after_results_simp_entrywise
  rfl
theorem outB_v18 : after opsB V (Proc.devRef .tc main_v18) = rH (V (Proc.devRef .tc main_v9)) := by
  unfold opsB
  simp only [TRef.ternary, TRef.unary, TRef.binary, TRef.nullary, TRef.toBuf, TRef.ofBuf, cast_eq]
  after_results_simp_entrywise
  rfl
theorem outB_v20 : after opsB V (Proc.devRef .tc main_v20) = rH (V (Proc.devRef .tc main_v14)) := by
  unfold opsB
  simp only [TRef.ternary, TRef.unary, TRef.binary, TRef.nullary, TRef.toBuf, TRef.ofBuf, cast_eq]
  after_results_simp_entrywise
  rfl
theorem outC_v28 : after opsC V (Proc.devRef .tc main_v28) = rS (V (Proc.devRef .tc main_arg1)) (V (Proc.devRef .tc main_v16)) (V (Proc.devRef .tc main_v18)) := by
  unfold opsC
  simp only [TRef.ternary, TRef.unary, TRef.binary, TRef.nullary, TRef.toBuf, TRef.ofBuf, cast_eq]
  after_results_simp_entrywise
  rfl
theorem outD_v35 : after opsD V (Proc.devRef .tc main_v35) = rX (V (Proc.devRef .tc main_v28)) := by
  unfold opsD
  simp only [TRef.ternary, TRef.unary, TRef.binary, TRef.nullary, TRef.toBuf, TRef.ofBuf, cast_eq]
  after_results_simp_entrywise
  rfl
theorem outE_v39 : after opsE V (Proc.devRef .tc main_v39) = rD (V (Proc.devRef .tc main_v35)) := by
  unfold opsE
  simp only [TRef.ternary, TRef.unary, TRef.binary, TRef.nullary, TRef.toBuf, TRef.ofBuf, cast_eq]
  after_results_simp_entrywise
  rfl
theorem outG_v42 : after opsG V (Proc.devRef .tc main_v42) = rW (V (Proc.devRef .tc main_v39)) (V (Proc.devRef .tc main_v20)) := by
  unfold opsG
  simp only [TRef.ternary, TRef.unary, TRef.binary, TRef.nullary, TRef.toBuf, TRef.ofBuf, cast_eq]
  after_results_simp_entrywise
  rfl
theorem outH_v47 : after opsH V (Proc.devRef .tc main_v47) = rP (V (Proc.devRef .tc main_v42)) (V (Proc.devRef .tc main_arg9)) (V (Proc.devRef .tc main_arg10)) := by
  unfold opsH
  simp only [TRef.ternary, TRef.unary, TRef.binary, TRef.nullary, TRef.toBuf, TRef.ofBuf, cast_eq]
  after_results_simp_entrywise
  rfl
theorem outI_v52 : after opsI V (Proc.devRef .tc main_v52) = rSid (V (Proc.devRef .tc main_arg1)) (V (Proc.devRef .tc main_arg2)) := by
  unfold opsI
  simp only [TRef.ternary, TRef.unary, TRef.binary, TRef.nullary, TRef.toBuf, TRef.ofBuf, cast_eq]
  after_results_simp_entrywise
  rfl
theorem outJ_v55 : after opsJ V (Proc.devRef .tc main_v55) = rI (V (Proc.devRef .tc main_arg1)) (V (Proc.devRef .tc main_v52)) := by
  unfold opsJ
  simp only [TRef.ternary, TRef.unary, TRef.binary, TRef.nullary, TRef.toBuf, TRef.ofBuf, cast_eq]
  after_results_simp_entrywise
  rfl
theorem outK_v62 : after opsK V (Proc.devRef .tc main_v62) = rMean (V (Proc.devRef .tc main_v47)) (V (Proc.devRef .tc main_v55)) := by
  unfold opsK
  simp only [TRef.ternary, TRef.unary, TRef.binary, TRef.nullary, TRef.toBuf, TRef.ofBuf, cast_eq]
  after_results_simp_entrywise
  rfl

/-- After a number of stages. -/
def atA : Valuation τ sig (Elt F) := after opsA V
def atB : Valuation τ sig (Elt F) := after opsB (atA V)
def atC : Valuation τ sig (Elt F) := after opsC (atB V)
def atD : Valuation τ sig (Elt F) := after opsD (atC V)
def atE : Valuation τ sig (Elt F) := after opsE (atD V)
def atG : Valuation τ sig (Elt F) := after opsG (atE V)
def atH : Valuation τ sig (Elt F) := after opsH (atG V)
def atI : Valuation τ sig (Elt F) := after opsI (atH V)
def atJ : Valuation τ sig (Elt F) := after opsJ (atI V)
def atK : Valuation τ sig (Elt F) := after opsK (atJ V)
theorem all_eq : after opsAll V = atK V := rfl
def args : List (Ref sig .tc) := [main_arg0, main_arg1, main_arg2, main_arg3, main_arg4, main_arg5, main_arg6, main_arg7, main_arg8, main_arg9, main_arg10]
theorem argsA (r : Ref sig .tc) (h : r ∈ args) : atA V (Proc.devRef .tc r) = V (Proc.devRef .tc r) :=
  (keepA V r ((by decide : ∀ r ∈ args, r ∉ [main_v0, main_v1, main_v2, main_v3, main_v4, main_v5, main_v6, main_v7, main_v8, main_v9, main_v10, main_v11, main_v12, main_v13, main_v14]) r h)).trans rfl
theorem argsB (r : Ref sig .tc) (h : r ∈ args) : atB V (Proc.devRef .tc r) = V (Proc.devRef .tc r) :=
  (keepB (atA V) r ((by decide : ∀ r ∈ args, r ∉ [main_v15, main_v16, main_v17, main_v18, main_v19, main_v20]) r h)).trans (argsA V r h)
theorem argsC (r : Ref sig .tc) (h : r ∈ args) : atC V (Proc.devRef .tc r) = V (Proc.devRef .tc r) :=
  (keepC (atB V) r ((by decide : ∀ r ∈ args, r ∉ [main_v21, main_v22, main_v23, main_v24, main_v25, main_v26, main_v27, main_cst, main_call0_v0, main_call0_v1, main_call0_v2, main_v28]) r h)).trans (argsB V r h)
theorem argsD (r : Ref sig .tc) (h : r ∈ args) : atD V (Proc.devRef .tc r) = V (Proc.devRef .tc r) :=
  (keepD (atC V) r ((by decide : ∀ r ∈ args, r ∉ [main_cst_0, main_v29, main_cst_1, main_v30, main_v31, main_v32, main_v33, main_v34, main_v35]) r h)).trans (argsC V r h)
theorem argsE (r : Ref sig .tc) (h : r ∈ args) : atE V (Proc.devRef .tc r) = V (Proc.devRef .tc r) :=
  (keepE (atD V) r ((by decide : ∀ r ∈ args, r ∉ [main_cst_2, main_v36, main_v37, main_v38, main_v39]) r h)).trans (argsD V r h)
theorem argsG (r : Ref sig .tc) (h : r ∈ args) : atG V (Proc.devRef .tc r) = V (Proc.devRef .tc r) :=
  (keepG (atE V) r ((by decide : ∀ r ∈ args, r ∉ [main_v40, main_v41, main_v42]) r h)).trans (argsE V r h)
theorem argsH (r : Ref sig .tc) (h : r ∈ args) : atH V (Proc.devRef .tc r) = V (Proc.devRef .tc r) :=
  (keepH (atG V) r ((by decide : ∀ r ∈ args, r ∉ [main_v43, main_v44, main_v45, main_v46, main_v47]) r h)).trans (argsG V r h)
theorem argsI (r : Ref sig .tc) (h : r ∈ args) : atI V (Proc.devRef .tc r) = V (Proc.devRef .tc r) :=
  (keepI (atH V) r ((by decide : ∀ r ∈ args, r ∉ [main_c, main_v48, main_c_3, main_v49, main_v50, main_v51, main_v52]) r h)).trans (argsH V r h)
theorem argsJ (r : Ref sig .tc) (h : r ∈ args) : atJ V (Proc.devRef .tc r) = V (Proc.devRef .tc r) :=
  (keepJ (atI V) r ((by decide : ∀ r ∈ args, r ∉ [main_v53, main_v54, main_v55]) r h)).trans (argsI V r h)
theorem argsK (r : Ref sig .tc) (h : r ∈ args) : atK V (Proc.devRef .tc r) = V (Proc.devRef .tc r) :=
  (keepK (atJ V) r ((by decide : ∀ r ∈ args, r ∉ [main_v56, main_v57, main_v58, main_cst_4, main_v59, main_cst_5, main_v60, main_v61, main_v62]) r h)).trans (argsJ V r h)
theorem atB_v16 : atB V (Proc.devRef .tc main_v16) = rH (rP (V (Proc.devRef .tc main_arg0)) (V (Proc.devRef .tc main_arg3)) (V (Proc.devRef .tc main_arg4))) := by
  unfold atB
  rw [outB_v16, atA, outA_v4]
theorem atB_v18 : atB V (Proc.devRef .tc main_v18) = rH (rP (V (Proc.devRef .tc main_arg0)) (V (Proc.devRef .tc main_arg5)) (V (Proc.devRef .tc main_arg6))) := by
  unfold atB
  rw [outB_v18, atA, outA_v9]
theorem atB_v20 : atB V (Proc.devRef .tc main_v20) = rH (rP (V (Proc.devRef .tc main_arg0)) (V (Proc.devRef .tc main_arg7)) (V (Proc.devRef .tc main_arg8))) := by
  unfold atB
  rw [outB_v20, atA, outA_v14]
theorem atC_v28 : atC V (Proc.devRef .tc main_v28) = (rS (V (Proc.devRef .tc main_arg1)) (rH (rP (V (Proc.devRef .tc main_arg0)) (V (Proc.devRef .tc main_arg3)) (V (Proc.devRef .tc main_arg4)))) (rH (rP (V (Proc.devRef .tc main_arg0)) (V (Proc.devRef .tc main_arg5)) (V (Proc.devRef .tc main_arg6))))) := by
  unfold atC
  rw [outC_v28, argsB V main_arg1 (by decide), atB_v16, atB_v18]
theorem atD_v35 : atD V (Proc.devRef .tc main_v35) = rX (rS (V (Proc.devRef .tc main_arg1)) (rH (rP (V (Proc.devRef .tc main_arg0)) (V (Proc.devRef .tc main_arg3)) (V (Proc.devRef .tc main_arg4)))) (rH (rP (V (Proc.devRef .tc main_arg0)) (V (Proc.devRef .tc main_arg5)) (V (Proc.devRef .tc main_arg6))))) := by
  unfold atD
  rw [outD_v35, atC_v28]
theorem atE_v39 : atE V (Proc.devRef .tc main_v39) = rD (rX (rS (V (Proc.devRef .tc main_arg1)) (rH (rP (V (Proc.devRef .tc main_arg0)) (V (Proc.devRef .tc main_arg3)) (V (Proc.devRef .tc main_arg4)))) (rH (rP (V (Proc.devRef .tc main_arg0)) (V (Proc.devRef .tc main_arg5)) (V (Proc.devRef .tc main_arg6)))))) := by
  unfold atE
  rw [outE_v39, atD_v35]
theorem atC_v20 : atC V (Proc.devRef .tc main_v20) = rH (rP (V (Proc.devRef .tc main_arg0)) (V (Proc.devRef .tc main_arg7)) (V (Proc.devRef .tc main_arg8))) := by
  unfold atC
  rw [keepC _ main_v20 (by decide), atB_v20]
theorem atD_v20 : atD V (Proc.devRef .tc main_v20) = rH (rP (V (Proc.devRef .tc main_arg0)) (V (Proc.devRef .tc main_arg7)) (V (Proc.devRef .tc main_arg8))) := by
  unfold atD
  rw [keepD _ main_v20 (by decide), atC_v20]
theorem atE_v20 : atE V (Proc.devRef .tc main_v20) = rH (rP (V (Proc.devRef .tc main_arg0)) (V (Proc.devRef .tc main_arg7)) (V (Proc.devRef .tc main_arg8))) := by
  unfold atE
  rw [keepE _ main_v20 (by decide), atD_v20]
theorem atG_v42 : atG V (Proc.devRef .tc main_v42) = (rW (rD (rX (rS (V (Proc.devRef .tc main_arg1)) (rH (rP (V (Proc.devRef .tc main_arg0)) (V (Proc.devRef .tc main_arg3)) (V (Proc.devRef .tc main_arg4)))) (rH (rP (V (Proc.devRef .tc main_arg0)) (V (Proc.devRef .tc main_arg5)) (V (Proc.devRef .tc main_arg6))))))) (rH (rP (V (Proc.devRef .tc main_arg0)) (V (Proc.devRef .tc main_arg7)) (V (Proc.devRef .tc main_arg8))))) := by
  unfold atG
  rw [outG_v42, atE_v39, atE_v20]
theorem atH_v47 : atH V (Proc.devRef .tc main_v47) = (rP (rW (rD (rX (rS (V (Proc.devRef .tc main_arg1)) (rH (rP (V (Proc.devRef .tc main_arg0)) (V (Proc.devRef .tc main_arg3)) (V (Proc.devRef .tc main_arg4)))) (rH (rP (V (Proc.devRef .tc main_arg0)) (V (Proc.devRef .tc main_arg5)) (V (Proc.devRef .tc main_arg6))))))) (rH (rP (V (Proc.devRef .tc main_arg0)) (V (Proc.devRef .tc main_arg7)) (V (Proc.devRef .tc main_arg8))))) (V (Proc.devRef .tc main_arg9)) (V (Proc.devRef .tc main_arg10))) := by
  unfold atH
  rw [outH_v47, atG_v42, argsG V main_arg9 (by decide), argsG V main_arg10 (by decide)]
theorem atI_v47 : atI V (Proc.devRef .tc main_v47) = (rP (rW (rD (rX (rS (V (Proc.devRef .tc main_arg1)) (rH (rP (V (Proc.devRef .tc main_arg0)) (V (Proc.devRef .tc main_arg3)) (V (Proc.devRef .tc main_arg4)))) (rH (rP (V (Proc.devRef .tc main_arg0)) (V (Proc.devRef .tc main_arg5)) (V (Proc.devRef .tc main_arg6))))))) (rH (rP (V (Proc.devRef .tc main_arg0)) (V (Proc.devRef .tc main_arg7)) (V (Proc.devRef .tc main_arg8))))) (V (Proc.devRef .tc main_arg9)) (V (Proc.devRef .tc main_arg10))) := by
  unfold atI
  rw [keepI _ main_v47 (by decide), atH_v47]
theorem atJ_v47 : atJ V (Proc.devRef .tc main_v47) = (rP (rW (rD (rX (rS (V (Proc.devRef .tc main_arg1)) (rH (rP (V (Proc.devRef .tc main_arg0)) (V (Proc.devRef .tc main_arg3)) (V (Proc.devRef .tc main_arg4)))) (rH (rP (V (Proc.devRef .tc main_arg0)) (V (Proc.devRef .tc main_arg5)) (V (Proc.devRef .tc main_arg6))))))) (rH (rP (V (Proc.devRef .tc main_arg0)) (V (Proc.devRef .tc main_arg7)) (V (Proc.devRef .tc main_arg8))))) (V (Proc.devRef .tc main_arg9)) (V (Proc.devRef .tc main_arg10))) := by
  unfold atJ
  rw [keepJ _ main_v47 (by decide), atI_v47]
theorem atI_v52 : atI V (Proc.devRef .tc main_v52) = rSid (V (Proc.devRef .tc main_arg1)) (V (Proc.devRef .tc main_arg2)) := by
  unfold atI
  rw [outI_v52, argsH V main_arg1 (by decide), argsH V main_arg2 (by decide)]
theorem atJ_v55 : atJ V (Proc.devRef .tc main_v55) = rI (V (Proc.devRef .tc main_arg1)) (rSid (V (Proc.devRef .tc main_arg1)) (V (Proc.devRef .tc main_arg2))) := by
  unfold atJ
  rw [outJ_v55, atI_v52, argsI V main_arg1 (by decide)]
theorem all_out : after opsAll V (Proc.devRef .tc main_v62) = rOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  rw [all_eq, atK, outK_v62, atJ_v47, atJ_v55]
  rfl

/-- Every run of the reference ends with its result by name and its arguments as they were. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v62) = rOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ ∀ b ∈ args, r.2.mem ((c.tc : Thread nD τ).loc b) = m ((c.tc : Thread nD τ).loc b) :=
  (θ_run defs _ _).mono (fun _ h c => ⟨(h c main_v62).trans (all_out _), fun b hb => (h c b).trans (argsK _ b hb)⟩)
    (run_seq no_scoped no_scoped_sems defs main (fun _ => opsAll) main_all (fun _ => sub_all) m ρ (fun _ => fresh_all))

end Cert.Proof.Ref

end
-- ==== Proof.Base.lean ====
/-
  The program as the launch theorem sees it, and the ghost state every part of the proof shares.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Pipeline.Value
public import Idealize.ShloMosaic.Lib.Pipeline.Regions
public import Idealize.ShloMosaic.Lib.Exec
public import Idealize.ShloMosaic.Lib.Tactic
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem scFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the TensorCore pipeline's rounds, the transfers' counters -/

abbrev UH : Type := URounds (GSem nD τ sig) ℕ
abbrev UP : Type := URounds (GSem nD τ sig) Unit
abbrev UU : Type := UH × (UP × Counters)

abbrev EH : Emb UH (MT nD τ sig (HIx 1) (Elt F) ℕ UU ℕ) := embL
abbrev EP : Emb UP (MT nD τ sig (HIx 1) (Elt F) ℕ UU ℕ) := (Emb.inl : Emb UP (UP × Counters)).trans embR

instance EP_lands : (EP (F := F)).LandsIn (upEmb : UEmb _ (MT nD τ sig (HIx 1) (Elt F) ℕ UU ℕ)) := by
  unfold EP; infer_instance

example : Idealize.ShloMosaic.CountersIn UU := inferInstance

end Cert.Proof.Run

end
-- ==== Proof.Tc.Head.lean ====
/-
  One head of the attention, as the kernel computes it on a block of keys, and the running maximum, sum and weighted
  sum of all sixteen heads as functions of what was there before.
-/
module

public import proofs.«01_k».proof.Proof.Base

@[expose] public section

set_option maxRecDepth 8192

noncomputable section

namespace Cert.Proof.Run

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## The places of a head -/

theorem inbCol : ∀ h : Fin 16, ∀ a, (![0, h.val] : Fin 2 → Nat) a + S128x1.size a ≤ S128x16.size a := by decide
theorem inbBlk : ∀ h : Fin 16, ∀ a, (![0, 64 * h.val] : Fin 2 → Nat) a + S128x64.size a ≤ S128x1024.size a := by decide
theorem inbRow : ∀ h : Fin 16, ∀ a, (![0, 64 * h.val] : Fin 2 → Nat) a + S1x64.size a ≤ S1x1024.size a := by decide
theorem slicesBlk : ∀ h : Fin 16, S128x1024.Slices ![0, 64 * h.val] S128x64 := by decide

/-- Column `h` of a table of sixteen columns. -/
abbrev colRect (h : Fin 16) : Rect S128x16 := Rect.unit (s := S128x16) ![0, h.val] S128x1.size (inbCol h)
/-- The 64 columns of head `h`. -/
abbrev blkRect (h : Fin 16) : Rect S128x1024 := Rect.unit (s := S128x1024) ![0, 64 * h.val] S128x64.size (inbBlk h)
abbrev rowRect (h : Fin 16) : Rect S1x1024 := Rect.unit (s := S1x1024) ![0, 64 * h.val] S1x64.size (inbRow h)

def colOf (h : Fin 16) (m : Vec F S128x16 .f32) : Vec F S128x1 .f32 := fun x => m ((colRect h).emb x)
def blkOf (h : Fin 16) (a : Vec F S128x1024 .f32) : Vec F S128x64 .f32 := fun x => a ((blkRect h).emb x)
def rowOf (h : Fin 16) (a : Vec F S1x1024 .f32) : Vec F S1x64 .f32 := fun x => a ((rowRect h).emb x)
/-- The 64 columns of head `h`, cut out of a block held as a value. -/
def sl (h : Fin 16) (X : Vec F S128x1024 .f32) : Vec F S128x64 .f32 := extractStridedSlice S128x64 ![0, 64 * h.val] X (slicesBlk h)

/-! ## One head on one block of keys -/

def hS (val : IVec S1x128 1) (q k : Vec F S128x64 .f32) : FVec F S128x128 .f32 :=
  select (broadcastTo S128x128 (shapeCast S1x128 val shapeCasts_S1x128_S1x128) broadcasts_S1x128_S128x128)
    (matmul dot_S128x64_S128x64_S128x128_1_1_0_0_n_n none q k (constant S128x128 .f32 0x00000000#32))
    (broadcast S128x128 (Scalar.ofBits .f32 0xFF800000#32))

def hMax (val : IVec S1x128 1) (q k : Vec F S128x64 .f32) (mo : Vec F S128x1 .f32) : FVec F S128x1 .f32 :=
  maximumf mo (shapeCast S128x1 (multiReduction .maximumf [1] S128 (hS val q k) 0xFF800000#32 reduces_S128x128_S128 (.inl rfl) rfl) shapeCasts_S128_S128x1)

def hAl (val : IVec S1x128 1) (q k : Vec F S128x64 .f32) (mo : Vec F S128x1 .f32) : FVec F S128x1 .f32 :=
  exp (subf mo (hMax val q k mo))

def hP (val : IVec S1x128 1) (q k : Vec F S128x64 .f32) (mo : Vec F S128x1 .f32) : FVec F S128x128 .f32 :=
  exp (subf (hS val q k) (broadcastTo S128x128 (hMax val q k mo) broadcasts_S128x1_S128x128))

/-- The new maximum, -/
def hM (val : IVec S1x128 1) (q k : Vec F S128x64 .f32) (mo : Vec F S128x1 .f32) : FVec F S128x1 .f32 :=
  shapeCast S128x1 (hMax val q k mo) shapeCasts_S128x1_S128x1

/-- the new sum, -/
def hL (val : IVec S1x128 1) (q k : Vec F S128x64 .f32) (mo lo : Vec F S128x1 .f32) : FVec F S128x1 .f32 :=
  shapeCast S128x1 (addf (mulf lo (hAl val q k mo))
    (shapeCast S128x1 (multiReduction .add [1] S128 (hP val q k mo) 0x00000000#32 reduces_S128x128_S128 (.inl rfl) rfl) shapeCasts_S128_S128x1))
    shapeCasts_S128x1_S128x1

/-- the new weighted sum. -/
def hA (val : IVec S1x128 1) (q k v : Vec F S128x64 .f32) (mo : Vec F S128x1 .f32) (ao : Vec F S128x64 .f32) : FVec F S128x64 .f32 :=
  shapeCast S128x64 (addf (mulf ao (broadcastTo S128x64 (hAl val q k mo) broadcasts_S128x1_S128x64))
    (matmul dot_S128x128_S128x64_S128x64_1_0_0_1_n_n none (hP val q k mo) v (constant S128x64 .f32 0x00000000#32)))
    shapeCasts_S128x64_S128x64

/-- A head's contribution to the sum over the rows of one block of queries. -/
def hO (rest : F .f32) (ival : IVec S128x1 1) (m l : Vec F S128x1 .f32) (a : Vec F S128x64 .f32) (off os : Vec F S1x64 .f32) : FVec F S1x64 .f32 :=
  shapeCast S1x64 (addf os (shapeCast S1x64 (multiReduction .add [0] S64
    (select (broadcastTo S128x64 (shapeCast S128x1 ival shapeCasts_S128x1_S128x1) broadcasts_S128x1_S128x64)
      (divf (addf a (mulf (broadcastTo S128x64 (exp (subf (broadcast S128x1 (Scalar.ofBits .f32 0x00000000#32)) m)) broadcasts_S128x1_S128x64)
          (broadcastTo S128x64 off broadcasts_S1x64_S128x64)))
        (broadcastTo S128x64 (addf l (mulf (exp (subf (broadcast S128x1 (Scalar.ofBits .f32 0x00000000#32)) m)) (broadcast S128x1 rest))) broadcasts_S128x1_S128x64))
      (broadcast S128x64 (Scalar.ofBits .f32 0x00000000#32)))
    0x00000000#32 reduces_S128x64_S64 (.inl rfl) rfl) shapeCasts_S64_S1x64)) shapeCasts_S1x64_S1x64

/-! ## All heads -/

def i128x1 (r : Fin 128) : S128x1.Idx := fun | 0 => r | 1 => (0 : Fin 1)
def i128x64 (r : Fin 128) (c : Fin 64) : S128x64.Idx := fun | 0 => r | 1 => c
def i1x64 (c : Fin 64) : S1x64.Idx := fun | 0 => (0 : Fin 1) | 1 => c
/-- The head of a column, and the column within the head. -/
def hd (c : Fin 1024) : Fin 16 := ⟨c.val / 64, by have := c.isLt; omega⟩
def lane (c : Fin 1024) : Fin 64 := ⟨c.val % 64, by have := c.isLt; omega⟩

def nextM (val : IVec S1x128 1) (q k : Vec F S128x1024 .f32) (m : Vec F S128x16 .f32) : Vec F S128x16 .f32 := fun j =>
  hM val (sl (j 1) q) (sl (j 1) k) (colOf (j 1) m) (i128x1 (j 0))
def nextL (val : IVec S1x128 1) (q k : Vec F S128x1024 .f32) (m l : Vec F S128x16 .f32) : Vec F S128x16 .f32 := fun j =>
  hL val (sl (j 1) q) (sl (j 1) k) (colOf (j 1) m) (colOf (j 1) l) (i128x1 (j 0))
def nextA (val : IVec S1x128 1) (q k v : Vec F S128x1024 .f32) (m : Vec F S128x16 .f32) (a : Vec F S128x1024 .f32) : Vec F S128x1024 .f32 := fun j =>
  hA val (sl (hd (j 1)) q) (sl (hd (j 1)) k) (sl (hd (j 1)) v) (colOf (hd (j 1)) m) (blkOf (hd (j 1)) a) (i128x64 (j 0) (lane (j 1)))
def nextO (rest : F .f32) (ival : IVec S128x1 1) (m l : Vec F S128x16 .f32) (a : Vec F S128x1024 .f32) (off os : Vec F S1x1024 .f32) : Vec F S1x1024 .f32 := fun j =>
  hO rest ival (colOf (hd (j 1)) m) (colOf (hd (j 1)) l) (blkOf (hd (j 1)) a) (rowOf (hd (j 1)) off) (rowOf (hd (j 1)) os) (i1x64 (lane (j 1)))

theorem col_emb (h : Fin 16) (x : S128x1.Idx) : ((colRect h).emb x 1 : Fin 16) = h ∧ i128x1 ((colRect h).emb x 0) = x := by
  have h1 : (x 1).val < 1 := (x 1).isLt
  refine ⟨Fin.ext ?_, funext fun | 0 => Fin.ext ?_ | 1 => Fin.ext ?_⟩
  · show h.val + 1 * (x 1).val = h.val; omega
  · show 0 + 1 * (x 0).val = (x 0).val; omega
  · show 0 = (x 1).val; omega

theorem blk_emb (h : Fin 16) (x : S128x64.Idx) : hd ((blkRect h).emb x 1) = h ∧ i128x64 ((blkRect h).emb x 0) (lane ((blkRect h).emb x 1)) = x := by
  have h1 : (x 1).val < 64 := (x 1).isLt
  refine ⟨Fin.ext ?_, funext fun | 0 => Fin.ext ?_ | 1 => Fin.ext ?_⟩
  · show (64 * h.val + 1 * (x 1).val) / 64 = h.val; omega
  · show 0 + 1 * (x 0).val = (x 0).val; omega
  · show (64 * h.val + 1 * (x 1).val) % 64 = (x 1).val; omega

theorem row_emb (h : Fin 16) (x : S1x64.Idx) : hd ((rowRect h).emb x 1) = h ∧ i1x64 (lane ((rowRect h).emb x 1)) = x := by
  have h0 : (x 0).val < 1 := (x 0).isLt
  have h1 : (x 1).val < 64 := (x 1).isLt
  refine ⟨Fin.ext ?_, funext fun | 0 => Fin.ext ?_ | 1 => Fin.ext ?_⟩
  · show (64 * h.val + 1 * (x 1).val) / 64 = h.val; omega
  · show 0 = (x 0).val; omega
  · show (64 * h.val + 1 * (x 1).val) % 64 = (x 1).val; omega

/-! ## Blocks of 128 rows -/

/-- The word of the first row of block `k` after block `v5`. -/
def blkW (v5 : BitVec 32) (k : ℕ) : BitVec 32 := Scalar.muli (Scalar.addi v5 (Scf.iv 0#32 1#32 k)) 128#32

/-- Which of a block's columns (rows) lie in the segment `lo ≤ · < hi`. -/
def jval (lo hi base : BitVec 32) : IVec S1x128 1 :=
  andi (cmpi .sge (addi (broadcast S1x128 base) (iota .tc S1x128 32 [1] iota_S1x128_d1_w32)) (broadcast S1x128 lo))
    (cmpi .slt (addi (broadcast S1x128 base) (iota .tc S1x128 32 [1] iota_S1x128_d1_w32)) (broadcast S1x128 hi))
def ival (lo hi base : BitVec 32) : IVec S128x1 1 :=
  andi (cmpi .sge (addi (broadcast S128x1 base) (iota .tc S128x1 32 [0] iota_S128x1_d0_w32)) (broadcast S128x1 lo))
    (cmpi .slt (addi (broadcast S128x1 base) (iota .tc S128x1 32 [0] iota_S128x1_d0_w32)) (broadcast S128x1 hi))

/-- The 128 rows from row `n` on (`n + 128 ≤ 2048` wherever it is used). -/
def rows (n : ℕ) (X : Vec F S2048x1024 .f32) : Vec F S128x1024 .f32 := fun x =>
  X (fun | 0 => (⟨(n + (x 0).val) % 2048, Nat.mod_lt _ (by decide)⟩ : Fin 2048) | 1 => (x 1 : Fin 1024))

theorem rows_eq (off : Fin 2 → ℕ) (h : ∀ a, off a + S128x1024.size a ≤ S2048x1024.size a) (n : ℕ) (hn : off = ![n, 0]) (X : Vec F S2048x1024 .f32) :
    (fun x => X ((Rect.unit (s := S2048x1024) off S128x1024.size h).emb x)) = rows n X := by
  subst hn
  funext x
  unfold rows
  congr 1
  have h0 : n + 128 ≤ 2048 := h 0
  have hx : (x 0).val < 128 := (x 0).isLt
  funext a
  match a with
  | 0 => exact Fin.ext (by show n + 1 * (x 0).val = (n + (x 0).val) % 2048; omega)
  | 1 => exact Fin.ext (by show 0 + 1 * (x 1).val = (x 1).val; omega)

/-- The running maxima, sums and weighted sums of sixteen heads. -/
abbrev St (F : FTy → Type) [FloatOps F] : Type := Vec F S128x16 .f32 × Vec F S128x16 .f32 × Vec F S128x1024 .f32

/-- One block of keys, on the running maxima, sums and weighted sums. -/
def trip (lo hi v5 : BitVec 32) (q : Vec F S128x1024 .f32) (KK VV : Vec F S2048x1024 .f32) (k : ℕ) (s : St F) : St F :=
  (nextM (jval lo hi (blkW v5 k)) q (rows (blkW v5 k).toNat KK) s.1,
   nextL (jval lo hi (blkW v5 k)) q (rows (blkW v5 k).toNat KK) s.1 s.2.1,
   nextA (jval lo hi (blkW v5 k)) q (rows (blkW v5 k).toNat KK) (rows (blkW v5 k).toNat VV) s.1 s.2.2)

/-- The first `k` blocks of keys. -/
def trips2 (lo hi v5 : BitVec 32) (q : Vec F S128x1024 .f32) (KK VV : Vec F S2048x1024 .f32) (s : St F) : ℕ → St F
  | 0 => s
  | k + 1 => trip lo hi v5 q KK VV k (trips2 lo hi v5 q KK VV s k)

section Emb
variable (val : IVec S1x128 1) (q k v : Vec F S128x1024 .f32) (m l : Vec F S128x16 .f32) (a : Vec F S128x1024 .f32)

theorem nextM_emb (h : Fin 16) (x : S128x1.Idx) : hM val (sl h q) (sl h k) (colOf h m) x = nextM val q k m ((colRect h).emb x) := by
  obtain ⟨e1, e2⟩ := col_emb h x
  unfold nextM; rw [e1, e2]
theorem nextL_emb (h : Fin 16) (x : S128x1.Idx) : hL val (sl h q) (sl h k) (colOf h m) (colOf h l) x = nextL val q k m l ((colRect h).emb x) := by
  obtain ⟨e1, e2⟩ := col_emb h x
  unfold nextL; rw [e1, e2]
theorem nextA_emb (h : Fin 16) (x : S128x64.Idx) :
    hA val (sl h q) (sl h k) (sl h v) (colOf h m) (blkOf h a) x = nextA val q k v m a ((blkRect h).emb x) := by
  obtain ⟨e1, e2⟩ := blk_emb h x
  unfold nextA; rw [e2, e1]
theorem nextO_emb (rest : F .f32) (ival : IVec S128x1 1) (off os : Vec F S1x1024 .f32) (h : Fin 16) (x : S1x64.Idx) :
    hO rest ival (colOf h m) (colOf h l) (blkOf h a) (rowOf h off) (rowOf h os) x = nextO rest ival m l a off os ((rowRect h).emb x) := by
  obtain ⟨e1, e2⟩ := row_emb h x
  unfold nextO; rw [e2, e1]
end Emb

end Cert.Proof.Run

end
-- ==== Proof.Tc.Trip.lean ====
/-
  The inner loop of the attention: one block of keys per trip.
-/
module

public import proofs.«01_k».proof.Proof.Tc.Head

@[expose] public section

set_option maxRecDepth 8192

noncomputable section

namespace Cert.Proof.Run

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

set_option maxHeartbeats 4000000

abbrev mQ := (Memref.whole cc1_scratch1 : Memref sig .tc .vmem S2048x1024 .f32)
abbrev mK := (Memref.whole cc1_scratch2 : Memref sig .tc .vmem S2048x1024 .f32)
abbrev mV := (Memref.whole cc1_scratch3 : Memref sig .tc .vmem S2048x1024 .f32)
abbrev mM := (Memref.whole cc1_scratch7 : Memref sig .tc .vmem S128x16 .f32)
abbrev mL := (Memref.whole cc1_scratch8 : Memref sig .tc .vmem S128x16 .f32)
abbrev mA := (Memref.whole cc1_scratch9 : Memref sig .tc .vmem S128x1024 .f32)
abbrev mOff := (Memref.whole cc1_scratch6 : Memref sig .tc .vmem S1x1024 .f32)
abbrev mO := (Memref.whole cc1_scratch10 : Memref sig .tc .vmem S1x1024 .f32)

/-- Sixteen columns stored one after the other are the table that holds them all. -/
def cols (w : Fin 16 → S128x1.Idx → F .f32) : List (View.Piece (Elt F) S128x16 .f32) :=
  [⟨colRect 15, w 15⟩, ⟨colRect 14, w 14⟩, ⟨colRect 13, w 13⟩, ⟨colRect 12, w 12⟩, ⟨colRect 11, w 11⟩, ⟨colRect 10, w 10⟩, ⟨colRect 9, w 9⟩, ⟨colRect 8, w 8⟩, ⟨colRect 7, w 7⟩, ⟨colRect 6, w 6⟩, ⟨colRect 5, w 5⟩, ⟨colRect 4, w 4⟩, ⟨colRect 3, w 3⟩, ⟨colRect 2, w 2⟩, ⟨colRect 1, w 1⟩, ⟨colRect 0, w 0⟩]
def blks (w : Fin 16 → S128x64.Idx → F .f32) : List (View.Piece (Elt F) S128x1024 .f32) :=
  [⟨blkRect 15, w 15⟩, ⟨blkRect 14, w 14⟩, ⟨blkRect 13, w 13⟩, ⟨blkRect 12, w 12⟩, ⟨blkRect 11, w 11⟩, ⟨blkRect 10, w 10⟩, ⟨blkRect 9, w 9⟩, ⟨blkRect 8, w 8⟩, ⟨blkRect 7, w 7⟩, ⟨blkRect 6, w 6⟩, ⟨blkRect 5, w 5⟩, ⟨blkRect 4, w 4⟩, ⟨blkRect 3, w 3⟩, ⟨blkRect 2, w 2⟩, ⟨blkRect 1, w 1⟩, ⟨blkRect 0, w 0⟩]
def rws (w : Fin 16 → S1x64.Idx → F .f32) : List (View.Piece (Elt F) S1x1024 .f32) :=
  [⟨rowRect 15, w 15⟩, ⟨rowRect 14, w 14⟩, ⟨rowRect 13, w 13⟩, ⟨rowRect 12, w 12⟩, ⟨rowRect 11, w 11⟩, ⟨rowRect 10, w 10⟩, ⟨rowRect 9, w 9⟩, ⟨rowRect 8, w 8⟩, ⟨rowRect 7, w 7⟩, ⟨rowRect 6, w 6⟩, ⟨rowRect 5, w 5⟩, ⟨rowRect 4, w 4⟩, ⟨rowRect 3, w 3⟩, ⟨rowRect 2, w 2⟩, ⟨rowRect 1, w 1⟩, ⟨rowRect 0, w 0⟩]

theorem writes_colsM (f : Vec F S128x16 .f32) (w : Fin 16 → S128x1.Idx → F .f32) (G : S128x16.Idx → F .f32)
    (hG : ∀ h x, w h x = G ((colRect h).emb x)) : mM.view.writes (Elt F) f (cols w) = G :=
  funext fun y => View.read_writes_apply_of_pieces (Val := Elt F) mM.view f G (cols w)
    (List.forall_mem_cons.mpr ⟨hG 15, List.forall_mem_cons.mpr ⟨hG 14, List.forall_mem_cons.mpr ⟨hG 13, List.forall_mem_cons.mpr ⟨hG 12, List.forall_mem_cons.mpr ⟨hG 11, List.forall_mem_cons.mpr ⟨hG 10, List.forall_mem_cons.mpr ⟨hG 9, List.forall_mem_cons.mpr ⟨hG 8, List.forall_mem_cons.mpr ⟨hG 7, List.forall_mem_cons.mpr ⟨hG 6, List.forall_mem_cons.mpr ⟨hG 5, List.forall_mem_cons.mpr ⟨hG 4, List.forall_mem_cons.mpr ⟨hG 3, List.forall_mem_cons.mpr ⟨hG 2, List.forall_mem_cons.mpr ⟨hG 1, List.forall_mem_cons.mpr ⟨hG 0, List.forall_mem_nil _⟩⟩⟩⟩⟩⟩⟩⟩⟩⟩⟩⟩⟩⟩⟩⟩) y
    (View.cover_of_tiled (s := S128x16) (cols w) S128x1.size rfl y)

theorem writes_colsL (f : Vec F S128x16 .f32) (w : Fin 16 → S128x1.Idx → F .f32) (G : S128x16.Idx → F .f32)
    (hG : ∀ h x, w h x = G ((colRect h).emb x)) : mL.view.writes (Elt F) f (cols w) = G :=
  funext fun y => View.read_writes_apply_of_pieces (Val := Elt F) mL.view f G (cols w)
    (List.forall_mem_cons.mpr ⟨hG 15, List.forall_mem_cons.mpr ⟨hG 14, List.forall_mem_cons.mpr ⟨hG 13, List.forall_mem_cons.mpr ⟨hG 12, List.forall_mem_cons.mpr ⟨hG 11, List.forall_mem_cons.mpr ⟨hG 10, List.forall_mem_cons.mpr ⟨hG 9, List.forall_mem_cons.mpr ⟨hG 8, List.forall_mem_cons.mpr ⟨hG 7, List.forall_mem_cons.mpr ⟨hG 6, List.forall_mem_cons.mpr ⟨hG 5, List.forall_mem_cons.mpr ⟨hG 4, List.forall_mem_cons.mpr ⟨hG 3, List.forall_mem_cons.mpr ⟨hG 2, List.forall_mem_cons.mpr ⟨hG 1, List.forall_mem_cons.mpr ⟨hG 0, List.forall_mem_nil _⟩⟩⟩⟩⟩⟩⟩⟩⟩⟩⟩⟩⟩⟩⟩⟩) y
    (View.cover_of_tiled (s := S128x16) (cols w) S128x1.size rfl y)

theorem writes_blks (f : Vec F S128x1024 .f32) (w : Fin 16 → S128x64.Idx → F .f32) (G : S128x1024.Idx → F .f32)
    (hG : ∀ h x, w h x = G ((blkRect h).emb x)) : mA.view.writes (Elt F) f (blks w) = G :=
  funext fun y => View.read_writes_apply_of_pieces (Val := Elt F) mA.view f G (blks w)
    (List.forall_mem_cons.mpr ⟨hG 15, List.forall_mem_cons.mpr ⟨hG 14, List.forall_mem_cons.mpr ⟨hG 13, List.forall_mem_cons.mpr ⟨hG 12, List.forall_mem_cons.mpr ⟨hG 11, List.forall_mem_cons.mpr ⟨hG 10, List.forall_mem_cons.mpr ⟨hG 9, List.forall_mem_cons.mpr ⟨hG 8, List.forall_mem_cons.mpr ⟨hG 7, List.forall_mem_cons.mpr ⟨hG 6, List.forall_mem_cons.mpr ⟨hG 5, List.forall_mem_cons.mpr ⟨hG 4, List.forall_mem_cons.mpr ⟨hG 3, List.forall_mem_cons.mpr ⟨hG 2, List.forall_mem_cons.mpr ⟨hG 1, List.forall_mem_cons.mpr ⟨hG 0, List.forall_mem_nil _⟩⟩⟩⟩⟩⟩⟩⟩⟩⟩⟩⟩⟩⟩⟩⟩) y
    (View.cover_of_tiled (s := S128x1024) (blks w) S128x64.size rfl y)

theorem writes_rws (f : Vec F S1x1024 .f32) (w : Fin 16 → S1x64.Idx → F .f32) (G : S1x1024.Idx → F .f32)
    (hG : ∀ h x, w h x = G ((rowRect h).emb x)) : mO.view.writes (Elt F) f (rws w) = G :=
  funext fun y => View.read_writes_apply_of_pieces (Val := Elt F) mO.view f G (rws w)
    (List.forall_mem_cons.mpr ⟨hG 15, List.forall_mem_cons.mpr ⟨hG 14, List.forall_mem_cons.mpr ⟨hG 13, List.forall_mem_cons.mpr ⟨hG 12, List.forall_mem_cons.mpr ⟨hG 11, List.forall_mem_cons.mpr ⟨hG 10, List.forall_mem_cons.mpr ⟨hG 9, List.forall_mem_cons.mpr ⟨hG 8, List.forall_mem_cons.mpr ⟨hG 7, List.forall_mem_cons.mpr ⟨hG 6, List.forall_mem_cons.mpr ⟨hG 5, List.forall_mem_cons.mpr ⟨hG 4, List.forall_mem_cons.mpr ⟨hG 3, List.forall_mem_cons.mpr ⟨hG 2, List.forall_mem_cons.mpr ⟨hG 1, List.forall_mem_cons.mpr ⟨hG 0, List.forall_mem_nil _⟩⟩⟩⟩⟩⟩⟩⟩⟩⟩⟩⟩⟩⟩⟩⟩) y
    (View.cover_of_tiled (s := S1x1024) (rws w) S1x64.size rfl y)

theorem trip_run (𝒱 : Variants) (c : Dev nD) (bd : Option 𝒱.V) (E : Set ℕ) (i : grid1.Coords) (arg1 : Memref sig .tc .vmem S32x16 .i32) (harg1 : arg1.IsWhole) (arg2 : Memref sig .tc .vmem S32x16 .i32) (harg2 : arg2.IsWhole) (arg3 : Memref sig .tc .vmem S128x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (v3 : Elt F .i32) (v4 : Elt F .i32) (v5 : Elt F .i32) (v6 : Elt F .i32) (k1_hw1 : k1_chk1 i v5 v6) (v7 : BitVec 32) (k1_h4 : k1_cond4 i = 1#1) (c1_i32_29 : BitVec 32) (k1_t1 : Fin (k1_t1_loop v5 v6).trips) (v79 : Vec F S128x1024 .f32) (k : Fin (k1_t2_loop v5 v6).trips) (X15 X16 : Vec F S2048x1024 .f32) (f20 f21 : Vec F S128x16 .f32) (f22 : Vec F S128x1024 .f32) :
   iprop((mK.view.loc (c : Thread nD τ) ↦[mK.view.set]{fullShare} X15) ∗ (mV.view.loc (c : Thread nD τ) ↦[mV.view.set]{fullShare} X16) ∗ (mM.view.loc (c : Thread nD τ) ↦[mM.view.set]{fullShare} f20) ∗ (mL.view.loc (c : Thread nD τ) ↦[mL.view.set]{fullShare} f21) ∗ (mA.view.loc (c : Thread nD τ) ↦[mA.view.set]{fullShare} f22))
   ⊢ (wp frame (wpE (defs₀ (F := F)) 𝒱 (c : Thread nD τ) bd) E (k1_t2_body (F := F) i arg1 harg1 arg2 harg2 arg3 harg3 arg4 harg4 arg5 harg5 arg6 harg6 arg7 harg7 arg8 harg8 arg9 harg9 arg10 harg10 arg11 harg11 arg12 harg12 (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) v3 v4 v5 v6 k1_hw1 v7 k1_h4 0#32 c1_i32_29 k1_t1 v79 k PUnit.unit)
     (fun _ => iprop((mK.view.loc (c : Thread nD τ) ↦[mK.view.set]{fullShare} X15) ∗ (mV.view.loc (c : Thread nD τ) ↦[mV.view.set]{fullShare} X16) ∗ (mM.view.loc (c : Thread nD τ) ↦[mM.view.set]{fullShare} (trip v3 v4 v5 v79 X15 X16 k.val (f20, f21, f22)).1) ∗ (mL.view.loc (c : Thread nD τ) ↦[mL.view.set]{fullShare} (trip v3 v4 v5 v79 X15 X16 k.val (f20, f21, f22)).2.1) ∗ (mA.view.loc (c : Thread nD τ) ↦[mA.view.set]{fullShare} (trip v3 v4 v5 v79 X15 X16 k.val (f20, f21, f22)).2.2))) : sProp 𝕄) := by
  unfold k1_t2_body
  iintro ⟨H15, H16, H20, H21, H22⟩
  sl_exec
  sl_step
  isplitl [H15]; · iexact H15
  isplitl [H16]; · iexact H16
  isplitl [H20]
  · iapply (Entails.of_eq (congrArg (fun f => (mM.view.loc (c : Thread nD τ) ↦[mM.view.set]{fullShare} f : sProp 𝕄))
      (writes_colsM f20 (fun h => hM (jval v3 v4 (blkW v5 k)) (sl h v79) (sl h (rows (blkW v5 k).toNat X15)) (colOf h f20)) _ (nextM_emb _ _ _ _))))
    rw [← rows_eq (k1_off3 v5 v6 k) (k1_off3_inb i v5 v6 k1_hw1 k1_t1 k k1_h4) (blkW v5 k).toNat rfl]
    iexact H20
  isplitl [H21]
  · iapply (Entails.of_eq (congrArg (fun f => (mL.view.loc (c : Thread nD τ) ↦[mL.view.set]{fullShare} f : sProp 𝕄))
      (writes_colsL f21 (fun h => hL (jval v3 v4 (blkW v5 k)) (sl h v79) (sl h (rows (blkW v5 k).toNat X15)) (colOf h f20) (colOf h f21)) _ (nextL_emb _ _ _ _ _))))
    rw [← rows_eq (k1_off3 v5 v6 k) (k1_off3_inb i v5 v6 k1_hw1 k1_t1 k k1_h4) (blkW v5 k).toNat rfl]
    iexact H21
  iapply (Entails.of_eq (congrArg (fun f => (mA.view.loc (c : Thread nD τ) ↦[mA.view.set]{fullShare} f : sProp 𝕄))
    (writes_blks f22 (fun h => hA (jval v3 v4 (blkW v5 k)) (sl h v79) (sl h (rows (blkW v5 k).toNat X15)) (sl h (rows (blkW v5 k).toNat X16)) (colOf h f20) (blkOf h f22)) _ (nextA_emb _ _ _ _ _ _))))
  rw [← rows_eq (k1_off3 v5 v6 k) (k1_off3_inb i v5 v6 k1_hw1 k1_t1 k k1_h4) (blkW v5 k).toNat rfl X15]
  rw [← rows_eq (k1_off3 v5 v6 k) (k1_off3_inb i v5 v6 k1_hw1 k1_t1 k k1_h4) (blkW v5 k).toNat rfl X16]
  iexact H22
end Cert.Proof.Run
end
-- ==== Proof.Tc.Outer.lean ====
/-
  The outer loop of the attention: one block of queries per trip.
-/
module

public import proofs.«01_k».proof.Proof.Tc.Trip
public import Idealize.ShloMosaic.Lib.LoopRemainder

@[expose] public section

set_option maxRecDepth 8192

noncomputable section

namespace Cert.Proof.Run

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

set_option maxHeartbeats 600000

def zero16 : Vec F S128x16 .f32 := k1_pay261
def zero1024 : Vec F S128x1024 .f32 := k1_pay263

set_option warn.classDefReducibility false in
/-- The inner loop before trip `k`. -/
def inv2 (𝒱 : Variants) (c : Dev nD) (bd : Option 𝒱.V) (E : Set ℕ) (i : grid1.Coords) (arg1 : Memref sig .tc .vmem S32x16 .i32) (harg1 : arg1.IsWhole) (arg2 : Memref sig .tc .vmem S32x16 .i32) (harg2 : arg2.IsWhole) (arg3 : Memref sig .tc .vmem S128x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (v3 : Elt F .i32) (v4 : Elt F .i32) (v5 : Elt F .i32) (v6 : Elt F .i32) (k1_hw1 : k1_chk1 i v5 v6) (v7 : BitVec 32) (k1_h4 : k1_cond4 i = 1#1) (c1_i32_29 : BitVec 32) (k1_t1 : Fin (k1_t1_loop v5 v6).trips) (v79 : Vec F S128x1024 .f32) (X15 X16 : Vec F S2048x1024 .f32) (G : ℕ → St F) (hG : ∀ k, G (k + 1) = trip v3 v4 v5 v79 X15 X16 k (G k)) :
    LoopInvTy_k1_t2 (F := F) (HIx 1) ℕ UU ℕ 𝒱 c bd E i arg1 harg1 arg2 harg2 arg3 harg3 arg4 harg4 arg5 harg5 arg6 harg6 arg7 harg7 arg8 harg8 arg9 harg9 arg10 harg10 arg11 harg11 arg12 harg12 (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) v3 v4 v5 v6 k1_hw1 v7 k1_h4 0#32 c1_i32_29 k1_t1 v79 where
  inv := fun k _ => iprop((mK.view.loc (c : Thread nD τ) ↦[mK.view.set]{fullShare} X15) ∗ (mV.view.loc (c : Thread nD τ) ↦[mV.view.set]{fullShare} X16) ∗ (∃ f, (mM.view.loc (c : Thread nD τ) ↦[mM.view.set]{fullShare} f) ∗ ⌜f = (G k).1⌝) ∗ (∃ f, (mL.view.loc (c : Thread nD τ) ↦[mL.view.set]{fullShare} f) ∗ ⌜f = (G k).2.1⌝) ∗ (∃ f, (mA.view.loc (c : Thread nD τ) ↦[mA.view.set]{fullShare} f) ∗ ⌜f = (G k).2.2⌝))
  step := fun k acc => by
    iintro ⟨H15, H16, ⟨%f20, H20, %h20⟩, ⟨%f21, H21, %h21⟩, ⟨%f22, H22, %h22⟩⟩
    subst h20 h21 h22
    iapply (wp_wand_r Idealize.ShloMosaic.frame (wpE (defs₀ (F := F)) 𝒱 (c : Thread nD τ) bd) E)
    isplitl [H15 H16 H20 H21 H22]
    · iapply (trip_run 𝒱 c bd E i arg1 harg1 arg2 harg2 arg3 harg3 arg4 harg4 arg5 harg5 arg6 harg6 arg7 harg7 arg8 harg8 arg9 harg9 arg10 harg10 arg11 harg11 arg12 harg12 v3 v4 v5 v6 k1_hw1 v7 k1_h4 c1_i32_29 k1_t1 v79 k X15 X16 _ _ _)
      isplitl [H15]; · iexact H15
      isplitl [H16]; · iexact H16
      isplitl [H20]; · iexact H20
      isplitl [H21]; · iexact H21
      iexact H22
    · iintro %_ ⟨H15, H16, H20, H21, H22⟩
      isplitl [H15]; · iexact H15
      isplitl [H16]; · iexact H16
      isplitl [H20]
      · iexists _; isplitl [H20]; · iexact H20
        ipureintro; rw [hG k.val]
      isplitl [H21]
      · iexists _; isplitl [H21]; · iexact H21
        ipureintro; rw [hG k.val]
      iexists _; isplitl [H22]; · iexact H22
      ipureintro; rw [hG k.val]

/-- The rows of one block of queries, added up head by head. -/
def trip1 (v3 v4 v5 v6 : BitVec 32) (X14 X15 X16 : Vec F S2048x1024 .f32) (off : Vec F S1x1024 .f32) (t : ℕ) (os : Vec F S1x1024 .f32) : Vec F S1x1024 .f32 :=
  let s := (trips2 v3 v4 v5 (rows (blkW v5 t).toNat X14) X15 X16 (zero16, zero16, zero1024) (k1_t2_loop v5 v6).trips)
  nextO (k1_pay587 v3 v4) (ival v3 v4 (blkW v5 t)) s.1 s.2.1 s.2.2 off os

def trips1 (v3 v4 v5 v6 : BitVec 32) (X14 X15 X16 : Vec F S2048x1024 .f32) (off : Vec F S1x1024 .f32) (os : Vec F S1x1024 .f32) : ℕ → Vec F S1x1024 .f32
  | 0 => os
  | t + 1 => trip1 v3 v4 v5 v6 X14 X15 X16 off t (trips1 v3 v4 v5 v6 X14 X15 X16 off os t)

/-- A store of a whole buffer leaves what it stored. -/
theorem read_store_whole {κ : Kind} {sp : Space} {s : Shape} {e : EltTy} (v : View sig κ sp s e) (off : Fin s.rank → ℕ) (h : ∀ a, off a + s.size a ≤ s.size a)
    (f : v.ty.Contents (Elt F)) (w : s.Idx → Elt F e) (L : List (View.Piece (Elt F) s e)) :
    v.read (Elt F) (v.writes (Elt F) f (⟨Rect.unit off s.size h, w⟩ :: L)) = w :=
  funext fun y => View.read_writes_cons_hit_of_coords v f (Rect.unit off s.size h) w L y y
    (fun a => by show (y a).val = off a + 1 * (y a).val; have := h a; omega)
theorem writes_wholeM (f : Vec F S128x16 .f32) (w : S128x16.Idx → F .f32) (L : List (View.Piece (Elt F) S128x16 .f32)) :
    mM.view.writes (Elt F) f (⟨Rect.unit (s := S128x16) ![0, 0] S128x16.size inb_S128x16_S128x16_0_0, w⟩ :: L) = w :=
  (show ∀ g : mM.view.ty.Contents (Elt F), g = mM.view.read (Elt F) g from fun g => rfl) _ |>.trans (read_store_whole mM.view ![0, 0] inb_S128x16_S128x16_0_0 f w L)
theorem writes_wholeL (f : Vec F S128x16 .f32) (w : S128x16.Idx → F .f32) (L : List (View.Piece (Elt F) S128x16 .f32)) :
    mL.view.writes (Elt F) f (⟨Rect.unit (s := S128x16) ![0, 0] S128x16.size inb_S128x16_S128x16_0_0, w⟩ :: L) = w :=
  (show ∀ g : mL.view.ty.Contents (Elt F), g = mL.view.read (Elt F) g from fun g => rfl) _ |>.trans (read_store_whole mL.view ![0, 0] inb_S128x16_S128x16_0_0 f w L)
theorem writes_wholeA (f : Vec F S128x1024 .f32) (w : S128x1024.Idx → F .f32) (L : List (View.Piece (Elt F) S128x1024 .f32)) :
    mA.view.writes (Elt F) f (⟨Rect.unit (s := S128x1024) ![0, 0] S128x1024.size inb_S128x1024_S128x1024_0_0, w⟩ :: L) = w :=
  (show ∀ g : mA.view.ty.Contents (Elt F), g = mA.view.read (Elt F) g from fun g => rfl) _ |>.trans (read_store_whole mA.view ![0, 0] inb_S128x1024_S128x1024_0_0 f w L)

theorem trip1_run (𝒱 : Variants) (c : Dev nD) (bd : Option 𝒱.V) (E : Set ℕ) (i : grid1.Coords) (arg1 : Memref sig .tc .vmem S32x16 .i32) (harg1 : arg1.IsWhole) (arg2 : Memref sig .tc .vmem S32x16 .i32) (harg2 : arg2.IsWhole) (arg3 : Memref sig .tc .vmem S128x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (v3 : Elt F .i32) (v4 : Elt F .i32) (v5 : Elt F .i32) (v6 : Elt F .i32) (k1_hw1 : k1_chk1 i v5 v6) (v7 : BitVec 32) (k1_h4 : k1_cond4 i = 1#1) (t : Fin (k1_t1_loop v5 v6).trips) (X14 X15 X16 : Vec F S2048x1024 .f32) (X19 f23 : Vec F S1x1024 .f32) (f20 f21 : Vec F S128x16 .f32) (f22 : Vec F S128x1024 .f32) :
   iprop((mQ.view.loc (c : Thread nD τ) ↦[mQ.view.set]{fullShare} X14) ∗ (mK.view.loc (c : Thread nD τ) ↦[mK.view.set]{fullShare} X15) ∗ (mV.view.loc (c : Thread nD τ) ↦[mV.view.set]{fullShare} X16) ∗ (mOff.view.loc (c : Thread nD τ) ↦[mOff.view.set]{fullShare} X19) ∗ (mM.view.loc (c : Thread nD τ) ↦[mM.view.set]{fullShare} f20) ∗ (mL.view.loc (c : Thread nD τ) ↦[mL.view.set]{fullShare} f21) ∗ (mA.view.loc (c : Thread nD τ) ↦[mA.view.set]{fullShare} f22) ∗ (mO.view.loc (c : Thread nD τ) ↦[mO.view.set]{fullShare} f23))
   ⊢ (wp frame (wpE (defs₀ (F := F)) 𝒱 (c : Thread nD τ) bd) E (k1_t1_body (F := F) i arg1 harg1 arg2 harg2 arg3 harg3 arg4 harg4 arg5 harg5 arg6 harg6 arg7 harg7 arg8 harg8 arg9 harg9 arg10 harg10 arg11 harg11 arg12 harg12 (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) v3 v4 v5 v6 k1_hw1 v7 k1_h4 t PUnit.unit)
     (fun _ => iprop((mQ.view.loc (c : Thread nD τ) ↦[mQ.view.set]{fullShare} X14) ∗ (mK.view.loc (c : Thread nD τ) ↦[mK.view.set]{fullShare} X15) ∗ (mV.view.loc (c : Thread nD τ) ↦[mV.view.set]{fullShare} X16) ∗ (mOff.view.loc (c : Thread nD τ) ↦[mOff.view.set]{fullShare} X19) ∗ (mO.view.loc (c : Thread nD τ) ↦[mO.view.set]{fullShare} (trip1 v3 v4 v5 v6 X14 X15 X16 X19 t.val f23)) ∗ (∃ f, (mM.view.loc (c : Thread nD τ) ↦[mM.view.set]{fullShare} f)) ∗ (∃ f, (mL.view.loc (c : Thread nD τ) ↦[mL.view.set]{fullShare} f)) ∗ (∃ f, (mA.view.loc (c : Thread nD τ) ↦[mA.view.set]{fullShare} f)))) : sProp 𝕄) := by
  unfold k1_t1_body
  iintro ⟨H14, H15, H16, H19, H20, H21, H22, H23⟩
  set_option sl_exec.matchHeartbeats 60 in sl_exec
  obtain ⟨G, hGG, hG0, hGs⟩ : ∃ G : ℕ → St F, trips2 v3 v4 v5 (View.readAt (Elt F) mQ.view (Rect.unit (s := S2048x1024) (k1_off2 v5 v6 t) S128x1024.size (k1_off2_inb i v5 v6 k1_hw1 t k1_h4)).toLoadRect X14) X15 X16 (zero16, zero16, zero1024) = G ∧ G 0 = (zero16, zero16, zero1024) ∧ ∀ k, G (k + 1) = trip v3 v4 v5 (View.readAt (Elt F) mQ.view (Rect.unit (s := S2048x1024) (k1_off2 v5 v6 t) S128x1024.size (k1_off2_inb i v5 v6 k1_hw1 t k1_h4)).toLoadRect X14) X15 X16 k (G k) :=
    ⟨_, rfl, rfl, fun _ => rfl⟩
  ihave H20 : (mM.view.loc (c : Thread nD τ) ↦[mM.view.set]{fullShare} (G 0).1 : sProp 𝕄) $$ [H20]
  · rw [hG0]
    iapply (Entails.of_eq (congrArg (fun f => (mM.view.loc (c : Thread nD τ) ↦[mM.view.set]{fullShare} f : sProp 𝕄)) (writes_wholeM _ zero16 [])))
    iexact H20
  ihave H21 : (mL.view.loc (c : Thread nD τ) ↦[mL.view.set]{fullShare} (G 0).2.1 : sProp 𝕄) $$ [H21]
  · rw [hG0]
    iapply (Entails.of_eq (congrArg (fun f => (mL.view.loc (c : Thread nD τ) ↦[mL.view.set]{fullShare} f : sProp 𝕄)) (writes_wholeL _ zero16 [])))
    iexact H21
  ihave H22 : (mA.view.loc (c : Thread nD τ) ↦[mA.view.set]{fullShare} (G 0).2.2 : sProp 𝕄) $$ [H22]
  · rw [hG0]
    iapply (Entails.of_eq (congrArg (fun f => (mA.view.loc (c : Thread nD τ) ↦[mA.view.set]{fullShare} f : sProp 𝕄)) (writes_wholeA _ zero1024 [])))
    iexact H22
  let L := inv2 𝒱 c bd E i arg1 harg1 arg2 harg2 arg3 harg3 arg4 harg4 arg5 harg5 arg6 harg6 arg7 harg7 arg8 harg8 arg9 harg9 arg10 harg10 arg11 harg11 arg12 harg12 v3 v4 v5 v6 k1_hw1 v7 k1_h4 (1#32) t (View.readAt (Elt F) mQ.view (Rect.unit (s := S2048x1024) (k1_off2 v5 v6 t) S128x1024.size (k1_off2_inb i v5 v6 k1_hw1 t k1_h4)).toLoadRect X14) X15 X16 G hGs
  sl_exec
  sl_step
  isplitl [H14]; · iexact H14
  isplitl [H15]; · iexact H15
  isplitl [H16]; · iexact H16
  isplitl [H19]; · iexact H19
  isplitl [H23]
  · rw [show trip1 v3 v4 v5 v6 X14 X15 X16 X19 t.val f23 = nextO (k1_pay587 v3 v4) (ival v3 v4 (blkW v5 t)) (G (k1_t2_loop v5 v6).trips).1 (G (k1_t2_loop v5 v6).trips).2.1 (G (k1_t2_loop v5 v6).trips).2.2 X19 f23 from by
      rw [← hGG]; unfold trip1; rw [← rows_eq (k1_off2 v5 v6 t) (k1_off2_inb i v5 v6 k1_hw1 t k1_h4) (blkW v5 t).toNat rfl X14]; rfl]
    iapply (Entails.of_eq (congrArg (fun f => (mO.view.loc (c : Thread nD τ) ↦[mO.view.set]{fullShare} f : sProp 𝕄))
      (writes_rws f23 (fun h => hO (k1_pay587 v3 v4) (ival v3 v4 (blkW v5 t))
        (colOf h (G (k1_t2_loop v5 v6).trips).1) (colOf h (G (k1_t2_loop v5 v6).trips).2.1) (blkOf h (G (k1_t2_loop v5 v6).trips).2.2) (rowOf h X19) (rowOf h f23)) _ (nextO_emb _ _ _ _ _ _ _))))
    iexact H23
  isplitl [H20]; · iexists _; iexact H20
  isplitl [H21]; · iexists _; iexact H21
  iexists _; iexact H22

end Cert.Proof.Run
end
-- ==== Proof.Tc.Rest.lean ====
/-
  The last grid point: the attention over every block of queries.
-/
module

public import proofs.«01_k».proof.Proof.Tc.Outer
public import Idealize.ShloMosaic.Lib.LoopRemainder

@[expose] public section

set_option maxRecDepth 8192

noncomputable section

namespace Cert.Proof.Run

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

set_option maxHeartbeats 600000

abbrev mX := (Memref.whole cc1_scratch4 : Memref sig .tc .vmem S1x1024 .f32)
abbrev mS := (Memref.whole cc1_scratch5 : Memref sig .tc .vmem S1x1024 .f32)

/-- Loads of whole buffers. -/
abbrev l128 (F : FTy → Type) [FloatOps F] {κ : Kind} {sp : Space} (v : View sig κ sp S128x1024 .f32) (f : v.ty.Contents (Elt F)) := View.readAt (Elt F) v (Rect.unit (s := S128x1024) ![0, 0] S128x1024.size inb_S128x1024_S128x1024_0_0).toLoadRect f
abbrev lW (F : FTy → Type) [FloatOps F] {κ : Kind} {sp : Space} (v : View sig κ sp S1024x1024 .f32) (f : v.ty.Contents (Elt F)) := View.readAt (Elt F) v (Rect.unit (s := S1024x1024) ![0, 0] S1024x1024.size inb_S1024x1024_S1024x1024_0_0).toLoadRect f
abbrev l1 (F : FTy → Type) [FloatOps F] {κ : Kind} {sp : Space} (v : View sig κ sp S1x1024 .f32) (f : v.ty.Contents (Elt F)) := View.readAt (Elt F) v (Rect.unit (s := S1x1024) ![0, 0] S1x1024.size inb_S1x1024_S1x1024_0_0).toLoadRect f
abbrev l32 (F : FTy → Type) [FloatOps F] {κ : Kind} {sp : Space} (v : View sig κ sp S32x16 .i32) (f : v.ty.Contents (Elt F)) := View.readAt (Elt F) v (Rect.unit (s := S32x16) ![0, 0] S32x16.size inb_S32x16_S32x16_0_0).toLoadRect f

/-- A load of a whole buffer is its contents. -/
theorem load_whole {κ : Kind} {sp : Space} {s : Shape} {e : EltTy} (v : View sig κ sp s e) (off : Fin s.rank → ℕ) (h : ∀ a, off a + s.size a ≤ s.size a)
    (f : v.ty.Contents (Elt F)) : View.readAt (Elt F) v (Rect.unit off s.size h).toLoadRect f = v.read (Elt F) f :=
  funext fun x => congrArg (v.read (Elt F) f) (funext fun a => Fin.ext (by show off a + 1 * (x a).val = (x a).val; have := h a; omega))

theorem writes_wholeOff (f : Vec F S1x1024 .f32) (w : S1x1024.Idx → F .f32) (L : List (View.Piece (Elt F) S1x1024 .f32)) :
    mOff.view.writes (Elt F) f (⟨Rect.unit (s := S1x1024) ![0, 0] S1x1024.size inb_S1x1024_S1x1024_0_0, w⟩ :: L) = w :=
  (show ∀ g : mOff.view.ty.Contents (Elt F), g = mOff.view.read (Elt F) g from fun g => rfl) _ |>.trans (read_store_whole mOff.view ![0, 0] inb_S1x1024_S1x1024_0_0 f w L)
theorem writes_wholeO (f : Vec F S1x1024 .f32) (w : S1x1024.Idx → F .f32) (L : List (View.Piece (Elt F) S1x1024 .f32)) :
    mO.view.writes (Elt F) f (⟨Rect.unit (s := S1x1024) ![0, 0] S1x1024.size inb_S1x1024_S1x1024_0_0, w⟩ :: L) = w :=
  (show ∀ g : mO.view.ty.Contents (Elt F), g = mO.view.read (Elt F) g from fun g => rfl) _ |>.trans (read_store_whole mO.view ![0, 0] inb_S1x1024_S1x1024_0_0 f w L)
theorem writes_wholeX (f : Vec F S1x1024 .f32) (w : S1x1024.Idx → F .f32) (L : List (View.Piece (Elt F) S1x1024 .f32)) :
    mX.view.writes (Elt F) f (⟨Rect.unit (s := S1x1024) ![0, 0] S1x1024.size inb_S1x1024_S1x1024_0_0, w⟩ :: L) = w :=
  (show ∀ g : mX.view.ty.Contents (Elt F), g = mX.view.read (Elt F) g from fun g => rfl) _ |>.trans (read_store_whole mX.view ![0, 0] inb_S1x1024_S1x1024_0_0 f w L)
theorem writes_wholeS (f : Vec F S1x1024 .f32) (w : S1x1024.Idx → F .f32) (L : List (View.Piece (Elt F) S1x1024 .f32)) :
    mS.view.writes (Elt F) f (⟨Rect.unit (s := S1x1024) ![0, 0] S1x1024.size inb_S1x1024_S1x1024_0_0, w⟩ :: L) = w :=
  (show ∀ g : mS.view.ty.Contents (Elt F), g = mS.view.read (Elt F) g from fun g => rfl) _ |>.trans (read_store_whole mS.view ![0, 0] inb_S1x1024_S1x1024_0_0 f w L)

set_option warn.classDefReducibility false in
/-- The outer loop before trip `t`. -/
def inv1 (𝒱 : Variants) (c : Dev nD) (bd : Option 𝒱.V) (E : Set ℕ) (i : grid1.Coords) (arg1 : Memref sig .tc .vmem S32x16 .i32) (harg1 : arg1.IsWhole) (arg2 : Memref sig .tc .vmem S32x16 .i32) (harg2 : arg2.IsWhole) (arg3 : Memref sig .tc .vmem S128x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (v3 : Elt F .i32) (v4 : Elt F .i32) (v5 : Elt F .i32) (v6 : Elt F .i32) (k1_hw1 : k1_chk1 i v5 v6) (v7 : BitVec 32) (k1_h4 : k1_cond4 i = 1#1) (X14 X15 X16 : Vec F S2048x1024 .f32) (X19 : Vec F S1x1024 .f32) (G : ℕ → Vec F S1x1024 .f32) (hG : ∀ t, G (t + 1) = trip1 v3 v4 v5 v6 X14 X15 X16 X19 t (G t)) :
    LoopInvTy_k1_t1 (F := F) (HIx 1) ℕ UU ℕ 𝒱 c bd E i arg1 harg1 arg2 harg2 arg3 harg3 arg4 harg4 arg5 harg5 arg6 harg6 arg7 harg7 arg8 harg8 arg9 harg9 arg10 harg10 arg11 harg11 arg12 harg12 (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) v3 v4 v5 v6 k1_hw1 v7 k1_h4 where
  inv := fun t _ => iprop((mQ.view.loc (c : Thread nD τ) ↦[mQ.view.set]{fullShare} X14 : sProp 𝕄) ∗ (mK.view.loc (c : Thread nD τ) ↦[mK.view.set]{fullShare} X15 : sProp 𝕄) ∗ (mV.view.loc (c : Thread nD τ) ↦[mV.view.set]{fullShare} X16 : sProp 𝕄) ∗ (mOff.view.loc (c : Thread nD τ) ↦[mOff.view.set]{fullShare} X19 : sProp 𝕄) ∗ (∃ f, (mO.view.loc (c : Thread nD τ) ↦[mO.view.set]{fullShare} f : sProp 𝕄) ∗ ⌜f = G t⌝) ∗ (∃ f, (mM.view.loc (c : Thread nD τ) ↦[mM.view.set]{fullShare} f : sProp 𝕄)) ∗ (∃ f, (mL.view.loc (c : Thread nD τ) ↦[mL.view.set]{fullShare} f : sProp 𝕄)) ∗ (∃ f, (mA.view.loc (c : Thread nD τ) ↦[mA.view.set]{fullShare} f : sProp 𝕄)))
  step := fun t acc => by
    iintro ⟨H14, H15, H16, H19, ⟨%f23, H23, %h23⟩, ⟨%f20, H20⟩, ⟨%f21, H21⟩, ⟨%f22, H22⟩⟩
    subst h23
    iapply (wp_wand_r Idealize.ShloMosaic.frame (wpE (defs₀ (F := F)) 𝒱 (c : Thread nD τ) bd) E)
    isplitl [H14 H15 H16 H19 H20 H21 H22 H23]
    · iapply (trip1_run 𝒱 c bd E i arg1 harg1 arg2 harg2 arg3 harg3 arg4 harg4 arg5 harg5 arg6 harg6 arg7 harg7 arg8 harg8 arg9 harg9 arg10 harg10 arg11 harg11 arg12 harg12 v3 v4 v5 v6 k1_hw1 v7 k1_h4 t X14 X15 X16 X19 _ _ _ _)
      isplitl [H14]; · iexact H14
      isplitl [H15]; · iexact H15
      isplitl [H16]; · iexact H16
      isplitl [H19]; · iexact H19
      isplitl [H20]; · iexact H20
      isplitl [H21]; · iexact H21
      isplitl [H22]; · iexact H22
      iexact H23
    · iintro %_ ⟨H14, H15, H16, H19, H23, H20, H21, H22⟩
      isplitl [H14]; · iexact H14
      isplitl [H15]; · iexact H15
      isplitl [H16]; · iexact H16
      isplitl [H19]; · iexact H19
      isplitl [H23]
      · iexists _; isplitl [H23]; · iexact H23
        ipureintro; rw [hG t.val]
      isplitl [H20]; · iexact H20
      isplitl [H21]; · iexact H21
      iexact H22

/-- The head outputs of the whole segment, from the stored queries, keys and values. -/
def attn (v3 v4 v5 v6 : BitVec 32) (X14 X15 X16 : Vec F S2048x1024 .f32) (off : Vec F S1x1024 .f32) : Vec F S1x1024 .f32 :=
  trips1 v3 v4 v5 v6 X14 X15 X16 off k1_pay586 (k1_t1_loop v5 v6).trips

theorem part87_run (𝒱 : Variants) (c : Dev nD) (bd : Option 𝒱.V) (E : Set ℕ) (i : grid1.Coords) (arg1 : Memref sig .tc .vmem S32x16 .i32) (harg1 : arg1.IsWhole) (arg2 : Memref sig .tc .vmem S32x16 .i32) (harg2 : arg2.IsWhole) (arg3 : Memref sig .tc .vmem S128x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (v3 : Elt F .i32) (v4 : Elt F .i32) (v5 : Elt F .i32) (v6 : Elt F .i32) (k1_hw1 : k1_chk1 i v5 v6) (v7 : BitVec 32) (k1_h4 : k1_cond4 i = 1#1) (f6 : arg6.view.ty.Contents (Elt F)) (f10 : arg10.view.ty.Contents (Elt F)) (X14 X15 X16 : Vec F S2048x1024 .f32) (f17 f18 f19 f23 : Vec F S1x1024 .f32) (f20 f21 : Vec F S128x16 .f32) (f22 : Vec F S128x1024 .f32) :
   iprop((arg6.view.loc (c : Thread nD τ) ↦[arg6.view.set]{fullShare} f6 : sProp 𝕄) ∗ (arg10.view.loc (c : Thread nD τ) ↦[arg10.view.set]{fullShare} f10 : sProp 𝕄) ∗ (mX.view.loc (c : Thread nD τ) ↦[mX.view.set]{fullShare} f17 : sProp 𝕄) ∗ (mS.view.loc (c : Thread nD τ) ↦[mS.view.set]{fullShare} f18 : sProp 𝕄) ∗ (mOff.view.loc (c : Thread nD τ) ↦[mOff.view.set]{fullShare} f19 : sProp 𝕄) ∗ (mQ.view.loc (c : Thread nD τ) ↦[mQ.view.set]{fullShare} X14 : sProp 𝕄) ∗ (mK.view.loc (c : Thread nD τ) ↦[mK.view.set]{fullShare} X15 : sProp 𝕄) ∗ (mV.view.loc (c : Thread nD τ) ↦[mV.view.set]{fullShare} X16 : sProp 𝕄) ∗ (mM.view.loc (c : Thread nD τ) ↦[mM.view.set]{fullShare} f20 : sProp 𝕄) ∗ (mL.view.loc (c : Thread nD τ) ↦[mL.view.set]{fullShare} f21 : sProp 𝕄) ∗ (mA.view.loc (c : Thread nD τ) ↦[mA.view.set]{fullShare} f22 : sProp 𝕄) ∗ (mO.view.loc (c : Thread nD τ) ↦[mO.view.set]{fullShare} f23 : sProp 𝕄))
   ⊢ wp frame (wpE (defs₀ (F := F)) 𝒱 (c : Thread nD τ) bd) E (k1_part87 (F := F) i arg1 harg1 arg2 harg2 arg3 harg3 arg4 harg4 arg5 harg5 arg6 harg6 arg7 harg7 arg8 harg8 arg9 harg9 arg10 harg10 arg11 harg11 arg12 harg12 (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) v3 v4 v5 v6 k1_hw1 v7 k1_h4)
     (fun r => iprop((arg6.view.loc (c : Thread nD τ) ↦[arg6.view.set]{fullShare} f6 : sProp 𝕄) ∗ (arg10.view.loc (c : Thread nD τ) ↦[arg10.view.set]{fullShare} f10 : sProp 𝕄) ∗ (mX.view.loc (c : Thread nD τ) ↦[mX.view.set]{fullShare} f17 : sProp 𝕄) ∗ (mS.view.loc (c : Thread nD τ) ↦[mS.view.set]{fullShare} f18 : sProp 𝕄) ∗ (mQ.view.loc (c : Thread nD τ) ↦[mQ.view.set]{fullShare} X14 : sProp 𝕄) ∗ (mK.view.loc (c : Thread nD τ) ↦[mK.view.set]{fullShare} X15 : sProp 𝕄) ∗ (mV.view.loc (c : Thread nD τ) ↦[mV.view.set]{fullShare} X16 : sProp 𝕄) ∗ (∃ f, (mOff.view.loc (c : Thread nD τ) ↦[mOff.view.set]{fullShare} f : sProp 𝕄)) ∗ (∃ f, (mM.view.loc (c : Thread nD τ) ↦[mM.view.set]{fullShare} f : sProp 𝕄)) ∗ (∃ f, (mL.view.loc (c : Thread nD τ) ↦[mL.view.set]{fullShare} f : sProp 𝕄)) ∗ (∃ f, (mA.view.loc (c : Thread nD τ) ↦[mA.view.set]{fullShare} f : sProp 𝕄)) ∗ (∃ f, (mO.view.loc (c : Thread nD τ) ↦[mO.view.set]{fullShare} f : sProp 𝕄))
       ∗ ⌜r = k1_pay590 v3 v4 (attn v3 v4 v5 v6 X14 X15 X16 (k1_pay585 f17 (arg6.view.read (Elt F) f6) (arg10.view.read (Elt F) f10) f18))⌝)) := by
  sl_unfold [k1_part87]
  iintro ⟨H6, H10, H17, H18, H19, H14, H15, H16, H20, H21, H22, H23⟩
  set_option sl_exec.matchHeartbeats 60 in sl_exec
  ihave H19 : (mOff.view.loc (c : Thread nD τ) ↦[mOff.view.set]{fullShare} (k1_pay585 f17 (arg6.view.read (Elt F) f6) (arg10.view.read (Elt F) f10) f18) : sProp 𝕄) $$ [H19]
  · rw [show (k1_pay585 f17 (arg6.view.read (Elt F) f6) (arg10.view.read (Elt F) f10) f18) = (k1_pay585 (l1 F mX.view f17) (lW F arg6.view f6) (l1 F arg10.view f10) (l1 F mS.view f18)) from (congr (congr (congr (congrArg k1_pay585 (load_whole mX.view ![0, 0] inb_S1x1024_S1x1024_0_0 f17)) (load_whole arg6.view ![0, 0] inb_S1024x1024_S1024x1024_0_0 f6)) (load_whole arg10.view ![0, 0] inb_S1x1024_S1x1024_0_0 f10)) (load_whole mS.view ![0, 0] inb_S1x1024_S1x1024_0_0 f18)).symm]
    iapply (Entails.of_eq (congrArg (fun f => (mOff.view.loc (c : Thread nD τ) ↦[mOff.view.set]{fullShare} f : sProp 𝕄)) (writes_wholeOff _ (k1_pay585 (l1 F mX.view f17) (lW F arg6.view f6) (l1 F arg10.view f10) (l1 F mS.view f18)) [])))
    iexact H19
  generalize hoff : (k1_pay585 f17 (arg6.view.read (Elt F) f6) (arg10.view.read (Elt F) f10) f18) = X19
  obtain ⟨G, hGG, hG0, hGs⟩ : ∃ G : ℕ → Vec F S1x1024 .f32, trips1 v3 v4 v5 v6 X14 X15 X16 X19 k1_pay586 = G ∧ G 0 = k1_pay586 ∧ ∀ t, G (t + 1) = trip1 v3 v4 v5 v6 X14 X15 X16 X19 t (G t) :=
    ⟨_, rfl, rfl, fun _ => rfl⟩
  ihave H23 : (mO.view.loc (c : Thread nD τ) ↦[mO.view.set]{fullShare} (G 0) : sProp 𝕄) $$ [H23]
  · rw [hG0]
    iapply (Entails.of_eq (congrArg (fun f => (mO.view.loc (c : Thread nD τ) ↦[mO.view.set]{fullShare} f : sProp 𝕄)) (writes_wholeO _ k1_pay586 [])))
    iexact H23
  let L := inv1 𝒱 c bd E i arg1 harg1 arg2 harg2 arg3 harg3 arg4 harg4 arg5 harg5 arg6 harg6 arg7 harg7 arg8 harg8 arg9 harg9 arg10 harg10 arg11 harg11 arg12 harg12 v3 v4 v5 v6 k1_hw1 v7 k1_h4 X14 X15 X16 X19 G hGs
  sl_exec
  sl_step
  isplitl [H6]; · iexact H6
  isplitl [H10]; · iexact H10
  isplitl [H17]; · iexact H17
  isplitl [H18]; · iexact H18
  isplitl [H14]; · iexact H14
  isplitl [H15]; · iexact H15
  isplitl [H16]; · iexact H16
  isplitl [H19]; · iexists _; iexact H19
  isplitl [H20]; · iexists _; iexact H20
  isplitl [H21]; · iexists _; iexact H21
  isplitl [H22]; · iexists _; iexact H22
  isplitl [H23]; · iexists _; iexact H23
  ipureintro
  unfold attn
  rw [hGG]
  exact congrArg (k1_pay590 v3 v4) (load_whole mO.view ![0, 0] inb_S1x1024_S1x1024_0_0 _)

end Cert.Proof.Run
end
-- ==== Proof.Tc.Body.lean ====
/-
  One grid point of the attention kernel.
-/
module

public import Idealize.ShloMosaic.Lib.WritesUnit
public import proofs.«01_k».proof.Proof.Tc.Rest

@[expose] public section

set_option maxRecDepth 8192

noncomputable section

namespace Cert.Proof.Run

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

set_option maxHeartbeats 600000

abbrev mMeta := (Memref.whole cc1_scratch0 : Memref sig .tc .smem S8 .i32)

/-- A word divided by 128, rounded down. -/
def fdivW (x : BitVec 32) : BitVec 32 :=
  Scalar.select (Scalar.andi (Scalar.cmpi .ne (Scalar.subi (Scalar.extui (Scalar.cmpi .sgt x 0#32)) (Scalar.extui (Scalar.cmpi .slt x 0#32)))
    (Scalar.subi (Scalar.extui (Scalar.cmpi .sgt 128#32 0#32)) (Scalar.extui (Scalar.cmpi .slt 128#32 0#32)))) (Scalar.cmpi .ne (Scalar.remsi x 128#32) 0#32))
    (Scalar.subi (Scalar.divsi x 128#32) 1#32) (Scalar.divsi x 128#32)

/-- The segment's first position, and one past its last. -/
def loW (LT : Vec F S32x16 .i32) : BitVec 32 := extractAt ![0, 0, 0] (k1_pay6 LT) inpos_S1x1x1_p0_0_0
def hiW (LE : Vec F S32x16 .i32) : BitVec 32 := extractAt ![0, 0, 0] (k1_pay7 LE) inpos_S1x1x1_p0_0_0

/-- Whether block `i` meets the segment. -/
def inW (i : grid1.Coords) (v5 v6 : BitVec 32) : BitVec 1 :=
  Scalar.cmpi .ne (Scalar.extui (Scalar.andi (Scalar.cmpi .sge (BitVec.ofNat 32 (i 0).val) v5) (Scalar.cmpi .sle (BitVec.ofNat 32 (i 0).val) v6))) 0#32

/-- Word `n` of the bounds the first grid point left. -/
abbrev rd (f13 : Vec F S8 .i32) (n : ℕ) (h : ∀ a, (![n] : Fin 1 → ℕ) a + S1.size a ≤ S8.size a) : BitVec 32 :=
  View.readAt (Elt F) mMeta.view (Rect.unit (s := S8) ![n] S1.size h).toLoadRect f13 (Shape.Idx.first (numel1_S1.symm ▸ Nat.one_pos))

theorem off1_eq : ∀ i : grid1.Coords, k1_off1 i = ![128 * (i 0).val, 0] := by decide +kernel

/-- `Q` with the 128 rows from `128 · n` on replaced by `w`. -/
def putRows (n : ℕ) (w : S128x1024.Idx → F .f32) (Q : Vec F S2048x1024 .f32) : Vec F S2048x1024 .f32 := fun y =>
  if h : 128 * n ≤ (y 0).val ∧ (y 0).val < 128 * n + 128 then
    w (Rect.unitLocal (s := S2048x1024) (off := ![128 * n, 0]) (size := S128x1024.size) y
      (Rect.unit_rows_mem (d := S2048x1024.size) y rfl rfl h)) else Q y

theorem read_put {κ : Kind} {sp : Space} (v : View sig κ sp S2048x1024 .f32) (i : grid1.Coords) (f : v.ty.Contents (Elt F)) (w : S128x1024.Idx → F .f32) :
    v.read (Elt F) (v.writes (Elt F) f [⟨Rect.unit (s := S2048x1024) (k1_off1 i) S128x1024.size (k1_off1_inb i), w⟩]) = putRows (i 0).val w (v.read (Elt F) f) :=
  funext fun y => View.read_writes_cons_rows v f (k1_off1_inb i) w [] y (off1_eq i) rfl rfl

theorem writes_putQ (i : grid1.Coords) (f : Vec F S2048x1024 .f32) (w : S128x1024.Idx → F .f32) :
    mQ.view.writes (Elt F) f [⟨Rect.unit (s := S2048x1024) (k1_off1 i) S128x1024.size (k1_off1_inb i), w⟩] = putRows (i 0).val w f :=
  (show ∀ g : mQ.view.ty.Contents (Elt F), g = mQ.view.read (Elt F) g from fun g => rfl) _ |>.trans (read_put mQ.view i f w)

theorem writes_putK (i : grid1.Coords) (f : Vec F S2048x1024 .f32) (w : S128x1024.Idx → F .f32) :
    mK.view.writes (Elt F) f [⟨Rect.unit (s := S2048x1024) (k1_off1 i) S128x1024.size (k1_off1_inb i), w⟩] = putRows (i 0).val w f :=
  (show ∀ g : mK.view.ty.Contents (Elt F), g = mK.view.read (Elt F) g from fun g => rfl) _ |>.trans (read_put mK.view i f w)

theorem writes_putV (i : grid1.Coords) (f : Vec F S2048x1024 .f32) (w : S128x1024.Idx → F .f32) :
    mV.view.writes (Elt F) f [⟨Rect.unit (s := S2048x1024) (k1_off1 i) S128x1024.size (k1_off1_inb i), w⟩] = putRows (i 0).val w f :=
  (show ∀ g : mV.view.ty.Contents (Elt F), g = mV.view.read (Elt F) g from fun g => rfl) _ |>.trans (read_put mV.view i f w)

theorem bodyB (𝒱 : Variants) (c : Dev nD) (bd : Option 𝒱.V) (E : Set ℕ) (i : grid1.Coords) (arg1 : Memref sig .tc .vmem S32x16 .i32) (harg1 : arg1.IsWhole) (arg2 : Memref sig .tc .vmem S32x16 .i32) (harg2 : arg2.IsWhole) (arg3 : Memref sig .tc .vmem S128x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole)  (f1 : arg1.view.ty.Contents (Elt F)) (f2 : arg2.view.ty.Contents (Elt F)) (f3 : arg3.view.ty.Contents (Elt F)) (f4 : arg4.view.ty.Contents (Elt F)) (f5 : arg5.view.ty.Contents (Elt F)) (f6 : arg6.view.ty.Contents (Elt F)) (f7 : arg7.view.ty.Contents (Elt F)) (f8 : arg8.view.ty.Contents (Elt F)) (f9 : arg9.view.ty.Contents (Elt F)) (f10 : arg10.view.ty.Contents (Elt F)) (f11 : arg11.view.ty.Contents (Elt F)) (f12 : arg12.view.ty.Contents (Elt F)) (f13 : Vec F S8 .i32) (X14 X15 X16 : Vec F S2048x1024 .f32) (f17 f18 : Vec F S1x1024 .f32) (h1 : Scalar.cmpi .ne (Scalar.extui (Scalar.cmpi .eq (BitVec.ofNat 32 (i 0).val) 0#32)) 0#32 ≠ 1#1) (h4 : k1_cond4 i ≠ 1#1) (hck : k1_chk1 i (rd f13 2 inb_S8_S1_2) (rd f13 3 inb_S8_S1_3)) :
   iprop((arg3.view.loc (c : Thread nD τ) ↦[arg3.view.set]{fullShare} f3 : sProp 𝕄) ∗ (arg4.view.loc (c : Thread nD τ) ↦[arg4.view.set]{fullShare} f4 : sProp 𝕄) ∗ (arg5.view.loc (c : Thread nD τ) ↦[arg5.view.set]{fullShare} f5 : sProp 𝕄) ∗ (arg6.view.loc (c : Thread nD τ) ↦[arg6.view.set]{fullShare} f6 : sProp 𝕄) ∗ (arg7.view.loc (c : Thread nD τ) ↦[arg7.view.set]{fullShare} f7 : sProp 𝕄) ∗ (arg8.view.loc (c : Thread nD τ) ↦[arg8.view.set]{fullShare} f8 : sProp 𝕄) ∗ (arg9.view.loc (c : Thread nD τ) ↦[arg9.view.set]{fullShare} f9 : sProp 𝕄) ∗ (arg10.view.loc (c : Thread nD τ) ↦[arg10.view.set]{fullShare} f10 : sProp 𝕄) ∗ (arg11.view.loc (c : Thread nD τ) ↦[arg11.view.set]{fullShare} f11 : sProp 𝕄) ∗ (arg12.view.loc (c : Thread nD τ) ↦[arg12.view.set]{fullShare} f12 : sProp 𝕄) ∗ (mMeta.view.loc (c : Thread nD τ) ↦[mMeta.view.set]{fullShare} f13 : sProp 𝕄) ∗ (mQ.view.loc (c : Thread nD τ) ↦[mQ.view.set]{fullShare} X14 : sProp 𝕄) ∗ (mK.view.loc (c : Thread nD τ) ↦[mK.view.set]{fullShare} X15 : sProp 𝕄) ∗ (mV.view.loc (c : Thread nD τ) ↦[mV.view.set]{fullShare} X16 : sProp 𝕄) ∗ (mX.view.loc (c : Thread nD τ) ↦[mX.view.set]{fullShare} f17 : sProp 𝕄) ∗ (mS.view.loc (c : Thread nD τ) ↦[mS.view.set]{fullShare} f18 : sProp 𝕄))
   ⊢ wp frame (wpE (defs₀ (F := F)) 𝒱 (c : Thread nD τ) bd) E (cc1__fused_kernel (F := F) i arg1 harg1 arg2 harg2 arg3 harg3 arg4 harg4 arg5 harg5 arg6 harg6 arg7 harg7 arg8 harg8 arg9 harg9 arg10 harg10 arg11 harg11 arg12 harg12 (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _))
     (fun _ => iprop((arg3.view.loc (c : Thread nD τ) ↦[arg3.view.set]{fullShare} f3 : sProp 𝕄) ∗ (arg4.view.loc (c : Thread nD τ) ↦[arg4.view.set]{fullShare} f4 : sProp 𝕄) ∗ (arg5.view.loc (c : Thread nD τ) ↦[arg5.view.set]{fullShare} f5 : sProp 𝕄) ∗ (arg6.view.loc (c : Thread nD τ) ↦[arg6.view.set]{fullShare} f6 : sProp 𝕄) ∗ (arg7.view.loc (c : Thread nD τ) ↦[arg7.view.set]{fullShare} f7 : sProp 𝕄) ∗ (arg8.view.loc (c : Thread nD τ) ↦[arg8.view.set]{fullShare} f8 : sProp 𝕄) ∗ (arg9.view.loc (c : Thread nD τ) ↦[arg9.view.set]{fullShare} f9 : sProp 𝕄) ∗ (arg10.view.loc (c : Thread nD τ) ↦[arg10.view.set]{fullShare} f10 : sProp 𝕄) ∗ (arg11.view.loc (c : Thread nD τ) ↦[arg11.view.set]{fullShare} f11 : sProp 𝕄) ∗ (arg12.view.loc (c : Thread nD τ) ↦[arg12.view.set]{fullShare} f12 : sProp 𝕄) ∗ (mMeta.view.loc (c : Thread nD τ) ↦[mMeta.view.set]{fullShare} f13 : sProp 𝕄) ∗ (mQ.view.loc (c : Thread nD τ) ↦[mQ.view.set]{fullShare} (if inW i (rd f13 2 inb_S8_S1_2) (rd f13 3 inb_S8_S1_3) = 1#1 then (putRows (i 0).val (k1_pay9 (arg3.view.read (Elt F) f3) (arg4.view.read (Elt F) f4) (arg8.view.read (Elt F) f8)) X14) else X14) : sProp 𝕄) ∗ (mK.view.loc (c : Thread nD τ) ↦[mK.view.set]{fullShare} (if inW i (rd f13 2 inb_S8_S1_2) (rd f13 3 inb_S8_S1_3) = 1#1 then (putRows (i 0).val (k1_pay10 (arg3.view.read (Elt F) f3) (arg5.view.read (Elt F) f5) (arg9.view.read (Elt F) f9)) X15) else X15) : sProp 𝕄) ∗ (mV.view.loc (c : Thread nD τ) ↦[mV.view.set]{fullShare} (if inW i (rd f13 2 inb_S8_S1_2) (rd f13 3 inb_S8_S1_3) = 1#1 then (putRows (i 0).val (k1_pay11 (arg3.view.read (Elt F) f3) (arg6.view.read (Elt F) f6) (arg10.view.read (Elt F) f10)) X16) else X16) : sProp 𝕄) ∗ (mX.view.loc (c : Thread nD τ) ↦[mX.view.set]{fullShare} (k1_pay3 (arg3.view.read (Elt F) f3) f17) : sProp 𝕄) ∗ (mS.view.loc (c : Thread nD τ) ↦[mS.view.set]{fullShare} (if inW i (rd f13 2 inb_S8_S1_2) (rd f13 3 inb_S8_S1_3) = 1#1 then k1_pay4 (k1_pay8 (arg3.view.read (Elt F) f3) (arg6.view.read (Elt F) f6) (arg10.view.read (Elt F) f10)) (k1_pay13 (F := F) (BitVec.ofNat 32 (i 0).val) (rd f13 0 inb_S8_S1_0)) (k1_pay14 (F := F) (BitVec.ofNat 32 (i 0).val) (rd f13 1 inb_S8_S1_1)) f18 else f18) : sProp 𝕄))) := by
  by_cases hw : inW i (rd f13 2 inb_S8_S1_2) (rd f13 3 inb_S8_S1_3) = 1#1
  · have hw' := hw
    unfold inW at hw'
    sl_unfold [cc1__fused_kernel]
    iintro ⟨H3, H4, H5, H6, H7, H8, H9, H10, H11, H12, H13, H14, H15, H16, H17, H18⟩
    sl_exec
    ihave H14 : (mQ.view.loc (c : Thread nD τ) ↦[mQ.view.set]{fullShare} (putRows (i 0).val (k1_pay9 (arg3.view.read (Elt F) f3) (arg4.view.read (Elt F) f4) (arg8.view.read (Elt F) f8)) X14) : sProp 𝕄) $$ [H14]
    · rw [show (putRows (i 0).val (k1_pay9 (arg3.view.read (Elt F) f3) (arg4.view.read (Elt F) f4) (arg8.view.read (Elt F) f8)) X14) = (putRows (i 0).val (k1_pay9 (l128 F arg3.view f3) (lW F arg4.view f4) (l1 F arg8.view f8)) X14) from congrArg (fun w => putRows (i 0).val w X14) (congr (congr (congrArg k1_pay9 (load_whole arg3.view ![0, 0] inb_S128x1024_S128x1024_0_0 f3)) (load_whole arg4.view ![0, 0] inb_S1024x1024_S1024x1024_0_0 f4)) (load_whole arg8.view ![0, 0] inb_S1x1024_S1x1024_0_0 f8)).symm]
      iapply (Entails.of_eq (congrArg (fun f => (mQ.view.loc (c : Thread nD τ) ↦[mQ.view.set]{fullShare} f : sProp 𝕄)) (writes_putQ i X14 (k1_pay9 (l128 F arg3.view f3) (lW F arg4.view f4) (l1 F arg8.view f8)))))
      iexact H14
    ihave H15 : (mK.view.loc (c : Thread nD τ) ↦[mK.view.set]{fullShare} (putRows (i 0).val (k1_pay10 (arg3.view.read (Elt F) f3) (arg5.view.read (Elt F) f5) (arg9.view.read (Elt F) f9)) X15) : sProp 𝕄) $$ [H15]
    · rw [show (putRows (i 0).val (k1_pay10 (arg3.view.read (Elt F) f3) (arg5.view.read (Elt F) f5) (arg9.view.read (Elt F) f9)) X15) = (putRows (i 0).val (k1_pay10 (l128 F arg3.view f3) (lW F arg5.view f5) (l1 F arg9.view f9)) X15) from congrArg (fun w => putRows (i 0).val w X15) (congr (congr (congrArg k1_pay10 (load_whole arg3.view ![0, 0] inb_S128x1024_S128x1024_0_0 f3)) (load_whole arg5.view ![0, 0] inb_S1024x1024_S1024x1024_0_0 f5)) (load_whole arg9.view ![0, 0] inb_S1x1024_S1x1024_0_0 f9)).symm]
      iapply (Entails.of_eq (congrArg (fun f => (mK.view.loc (c : Thread nD τ) ↦[mK.view.set]{fullShare} f : sProp 𝕄)) (writes_putK i X15 (k1_pay10 (l128 F arg3.view f3) (lW F arg5.view f5) (l1 F arg9.view f9)))))
      iexact H15
    ihave H16 : (mV.view.loc (c : Thread nD τ) ↦[mV.view.set]{fullShare} (putRows (i 0).val (k1_pay11 (arg3.view.read (Elt F) f3) (arg6.view.read (Elt F) f6) (arg10.view.read (Elt F) f10)) X16) : sProp 𝕄) $$ [H16]
    · rw [show (putRows (i 0).val (k1_pay11 (arg3.view.read (Elt F) f3) (arg6.view.read (Elt F) f6) (arg10.view.read (Elt F) f10)) X16) = (putRows (i 0).val (k1_pay11 (l128 F arg3.view f3) (lW F arg6.view f6) (l1 F arg10.view f10)) X16) from congrArg (fun w => putRows (i 0).val w X16) (congr (congr (congrArg k1_pay11 (load_whole arg3.view ![0, 0] inb_S128x1024_S128x1024_0_0 f3)) (load_whole arg6.view ![0, 0] inb_S1024x1024_S1024x1024_0_0 f6)) (load_whole arg10.view ![0, 0] inb_S1x1024_S1x1024_0_0 f10)).symm]
      iapply (Entails.of_eq (congrArg (fun f => (mV.view.loc (c : Thread nD τ) ↦[mV.view.set]{fullShare} f : sProp 𝕄)) (writes_putV i X16 (k1_pay11 (l128 F arg3.view f3) (lW F arg6.view f6) (l1 F arg10.view f10)))))
      iexact H16
    ihave H17 : (mX.view.loc (c : Thread nD τ) ↦[mX.view.set]{fullShare} (k1_pay3 (arg3.view.read (Elt F) f3) f17) : sProp 𝕄) $$ [H17]
    · rw [show (k1_pay3 (arg3.view.read (Elt F) f3) f17) = (k1_pay3 (l128 F arg3.view f3) (l1 F mX.view f17)) from (congr (congrArg k1_pay3 (load_whole arg3.view ![0, 0] inb_S128x1024_S128x1024_0_0 f3)) (load_whole mX.view ![0, 0] inb_S1x1024_S1x1024_0_0 f17)).symm]
      iapply (Entails.of_eq (congrArg (fun f => (mX.view.loc (c : Thread nD τ) ↦[mX.view.set]{fullShare} f : sProp 𝕄)) (writes_wholeX f17 (k1_pay3 (l128 F arg3.view f3) (l1 F mX.view f17)) [])))
      iexact H17
    ihave H18 : (mS.view.loc (c : Thread nD τ) ↦[mS.view.set]{fullShare} (k1_pay4 (k1_pay8 (arg3.view.read (Elt F) f3) (arg6.view.read (Elt F) f6) (arg10.view.read (Elt F) f10)) (k1_pay13 (F := F) (BitVec.ofNat 32 (i 0).val) (rd f13 0 inb_S8_S1_0)) (k1_pay14 (F := F) (BitVec.ofNat 32 (i 0).val) (rd f13 1 inb_S8_S1_1)) f18) : sProp 𝕄) $$ [H18]
    · rw [show (k1_pay4 (k1_pay8 (arg3.view.read (Elt F) f3) (arg6.view.read (Elt F) f6) (arg10.view.read (Elt F) f10)) (k1_pay13 (F := F) (BitVec.ofNat 32 (i 0).val) (rd f13 0 inb_S8_S1_0)) (k1_pay14 (F := F) (BitVec.ofNat 32 (i 0).val) (rd f13 1 inb_S8_S1_1)) f18) = (k1_pay4 (k1_pay8 (l128 F arg3.view f3) (lW F arg6.view f6) (l1 F arg10.view f10)) (k1_pay13 (F := F) (BitVec.ofNat 32 (i 0).val) (rd f13 0 inb_S8_S1_0)) (k1_pay14 (F := F) (BitVec.ofNat 32 (i 0).val) (rd f13 1 inb_S8_S1_1)) (l1 F mS.view f18)) from (congr (congrFun (congrFun (congrArg k1_pay4 (congr (congr (congrArg k1_pay8 (load_whole arg3.view ![0, 0] inb_S128x1024_S128x1024_0_0 f3)) (load_whole arg6.view ![0, 0] inb_S1024x1024_S1024x1024_0_0 f6)) (load_whole arg10.view ![0, 0] inb_S1x1024_S1x1024_0_0 f10))) _) _) (load_whole mS.view ![0, 0] inb_S1x1024_S1x1024_0_0 f18)).symm]
      iapply (Entails.of_eq (congrArg (fun f => (mS.view.loc (c : Thread nD τ) ↦[mS.view.set]{fullShare} f : sProp 𝕄)) (writes_wholeS f18 (k1_pay4 (k1_pay8 (l128 F arg3.view f3) (lW F arg6.view f6) (l1 F arg10.view f10)) (k1_pay13 (F := F) (BitVec.ofNat 32 (i 0).val) (rd f13 0 inb_S8_S1_0)) (k1_pay14 (F := F) (BitVec.ofNat 32 (i 0).val) (rd f13 1 inb_S8_S1_1)) (l1 F mS.view f18)) [])))
      iexact H18
    sl_step
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · rw [if_pos hw]; iexact H14
    isplitl [H15]; · rw [if_pos hw]; iexact H15
    isplitl [H16]; · rw [if_pos hw]; iexact H16
    isplitl [H17]; · iexact H17
    rw [if_pos hw]; iexact H18
  · have hw' := hw
    unfold inW at hw'
    sl_unfold [cc1__fused_kernel]
    iintro ⟨H3, H4, H5, H6, H7, H8, H9, H10, H11, H12, H13, H14, H15, H16, H17, H18⟩
    sl_exec
    ihave H17 : (mX.view.loc (c : Thread nD τ) ↦[mX.view.set]{fullShare} (k1_pay3 (arg3.view.read (Elt F) f3) f17) : sProp 𝕄) $$ [H17]
    · rw [show (k1_pay3 (arg3.view.read (Elt F) f3) f17) = (k1_pay3 (l128 F arg3.view f3) (l1 F mX.view f17)) from (congr (congrArg k1_pay3 (load_whole arg3.view ![0, 0] inb_S128x1024_S128x1024_0_0 f3)) (load_whole mX.view ![0, 0] inb_S1x1024_S1x1024_0_0 f17)).symm]
      iapply (Entails.of_eq (congrArg (fun f => (mX.view.loc (c : Thread nD τ) ↦[mX.view.set]{fullShare} f : sProp 𝕄)) (writes_wholeX f17 (k1_pay3 (l128 F arg3.view f3) (l1 F mX.view f17)) [])))
      iexact H17
    sl_step
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · rw [if_neg hw]; iexact H14
    isplitl [H15]; · rw [if_neg hw]; iexact H15
    isplitl [H16]; · rw [if_neg hw]; iexact H16
    isplitl [H17]; · iexact H17
    rw [if_neg hw]; iexact H18

end Cert.Proof.Run
end
-- ==== Proof.Tc.BodyA.lean ====
/-
  The first grid point of the attention kernel.
-/
module

public import Idealize.ShloMosaic.Lib.VecWindow
public import proofs.«01_k».proof.Proof.Tc.Body

@[expose] public section

set_option maxRecDepth 8192

noncomputable section

namespace Cert.Proof.Run

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

set_option maxHeartbeats 600000

/-- The four words the first grid point stores. -/
def metaOK (g : Vec F S8 .i32) (lo hi c0 c1 : BitVec 32) : Prop :=
  rd g 0 inb_S8_S1_0 = lo ∧ rd g 1 inb_S8_S1_1 = hi ∧ rd g 2 inb_S8_S1_2 = c0 ∧ rd g 3 inb_S8_S1_3 = c1

def metaSet (f : Vec F S8 .i32) (lo hi c0 c1 : BitVec 32) : Vec F S8 .i32 := fun y =>
  if (y 0).val = 3 then c1 else if (y 0).val = 2 then c0 else if (y 0).val = 1 then hi else if (y 0).val = 0 then lo else f y

theorem metaSet_rd (f : Vec F S8 .i32) (lo hi c0 c1 : BitVec 32) : metaOK (metaSet f lo hi c0 c1) lo hi c0 c1 :=
  ⟨rfl, rfl, rfl, rfl⟩

theorem meta_read {κ : Kind} {sp : Space} (v : View sig κ sp S8 .i32) (f : v.ty.Contents (Elt F)) (lo hi c0 c1 : BitVec 32) :
    v.read (Elt F) (v.writes (Elt F) f [⟨Rect.unit (s := S8) ![3] S1.size inb_S8_S1_3, fun _ => c1⟩, ⟨Rect.unit (s := S8) ![2] S1.size inb_S8_S1_2, fun _ => c0⟩, ⟨Rect.unit (s := S8) ![1] S1.size inb_S8_S1_1, fun _ => hi⟩, ⟨Rect.unit (s := S8) ![0] S1.size inb_S8_S1_0, fun _ => lo⟩]) = metaSet (v.read (Elt F) f) lo hi c0 c1 := by
  funext y
  have H : ∀ (n : ℕ) (h : ∀ a, (![n] : Fin 1 → ℕ) a + S1.size a ≤ S8.size a) (w : BitVec 32) (L : List (View.Piece (Elt F) S8 .i32)),
      v.read (Elt F) (v.writes (Elt F) f (⟨Rect.unit (s := S8) ![n] S1.size h, fun _ => w⟩ :: L)) y = if (y 0).val = n then w else v.read (Elt F) (v.writes (Elt F) f L) y := by
    intro n h w L
    by_cases e : (y 0).val = n
    · rw [if_pos e]
      exact View.read_writes_cons_unit_of_mem v f h _ L y (Shape.Idx.first (numel1_S1.symm ▸ Nat.one_pos)) rfl (fun a => by
        obtain rfl : a = 0 := Subsingleton.elim _ _
        exact e)
    · rw [if_neg e]
      exact View.read_writes_cons_unit_of_not_mem v f h _ L y rfl 0 (by show _ < n ∨ n + 1 ≤ _; omega)
  rw [H, H, H, H]
  rfl

theorem meta_writes (f : Vec F S8 .i32) (lo hi c0 c1 : BitVec 32) :
    mMeta.view.writes (Elt F) f [⟨Rect.unit (s := S8) ![3] S1.size inb_S8_S1_3, fun _ => c1⟩, ⟨Rect.unit (s := S8) ![2] S1.size inb_S8_S1_2, fun _ => c0⟩, ⟨Rect.unit (s := S8) ![1] S1.size inb_S8_S1_1, fun _ => hi⟩, ⟨Rect.unit (s := S8) ![0] S1.size inb_S8_S1_0, fun _ => lo⟩] = metaSet f lo hi c0 c1 :=
  (show ∀ g : mMeta.view.ty.Contents (Elt F), g = mMeta.view.read (Elt F) g from fun g => rfl) _ |>.trans (meta_read mMeta.view f lo hi c0 c1)

theorem bodyA (𝒱 : Variants) (c : Dev nD) (bd : Option 𝒱.V) (E : Set ℕ) (i : grid1.Coords) (arg1 : Memref sig .tc .vmem S32x16 .i32) (harg1 : arg1.IsWhole) (arg2 : Memref sig .tc .vmem S32x16 .i32) (harg2 : arg2.IsWhole) (arg3 : Memref sig .tc .vmem S128x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole)  (f1 : arg1.view.ty.Contents (Elt F)) (f2 : arg2.view.ty.Contents (Elt F)) (f3 : arg3.view.ty.Contents (Elt F)) (f4 : arg4.view.ty.Contents (Elt F)) (f5 : arg5.view.ty.Contents (Elt F)) (f6 : arg6.view.ty.Contents (Elt F)) (f7 : arg7.view.ty.Contents (Elt F)) (f8 : arg8.view.ty.Contents (Elt F)) (f9 : arg9.view.ty.Contents (Elt F)) (f10 : arg10.view.ty.Contents (Elt F)) (f11 : arg11.view.ty.Contents (Elt F)) (f12 : arg12.view.ty.Contents (Elt F)) (f13 : Vec F S8 .i32) (X14 X15 X16 : Vec F S2048x1024 .f32) (f17 f18 : Vec F S1x1024 .f32) (h1 : Scalar.cmpi .ne (Scalar.extui (Scalar.cmpi .eq (BitVec.ofNat 32 (i 0).val) 0#32)) 0#32 = 1#1) (h4 : k1_cond4 i ≠ 1#1) (LT LE : Vec F S32x16 .i32) (hLT : (l32 F arg1.view f1) = LT) (hLE : (l32 F arg2.view f2) = LE) (hck : k1_chk1 i (fdivW (loW LT)) (fdivW (Scalar.subi (hiW LE) 1#32))) :
   iprop((arg1.view.loc (c : Thread nD τ) ↦[arg1.view.set]{fullShare} f1 : sProp 𝕄) ∗ (arg2.view.loc (c : Thread nD τ) ↦[arg2.view.set]{fullShare} f2 : sProp 𝕄) ∗ (arg3.view.loc (c : Thread nD τ) ↦[arg3.view.set]{fullShare} f3 : sProp 𝕄) ∗ (arg4.view.loc (c : Thread nD τ) ↦[arg4.view.set]{fullShare} f4 : sProp 𝕄) ∗ (arg5.view.loc (c : Thread nD τ) ↦[arg5.view.set]{fullShare} f5 : sProp 𝕄) ∗ (arg6.view.loc (c : Thread nD τ) ↦[arg6.view.set]{fullShare} f6 : sProp 𝕄) ∗ (arg7.view.loc (c : Thread nD τ) ↦[arg7.view.set]{fullShare} f7 : sProp 𝕄) ∗ (arg8.view.loc (c : Thread nD τ) ↦[arg8.view.set]{fullShare} f8 : sProp 𝕄) ∗ (arg9.view.loc (c : Thread nD τ) ↦[arg9.view.set]{fullShare} f9 : sProp 𝕄) ∗ (arg10.view.loc (c : Thread nD τ) ↦[arg10.view.set]{fullShare} f10 : sProp 𝕄) ∗ (arg11.view.loc (c : Thread nD τ) ↦[arg11.view.set]{fullShare} f11 : sProp 𝕄) ∗ (arg12.view.loc (c : Thread nD τ) ↦[arg12.view.set]{fullShare} f12 : sProp 𝕄) ∗ (mMeta.view.loc (c : Thread nD τ) ↦[mMeta.view.set]{fullShare} f13 : sProp 𝕄) ∗ (mQ.view.loc (c : Thread nD τ) ↦[mQ.view.set]{fullShare} X14 : sProp 𝕄) ∗ (mK.view.loc (c : Thread nD τ) ↦[mK.view.set]{fullShare} X15 : sProp 𝕄) ∗ (mV.view.loc (c : Thread nD τ) ↦[mV.view.set]{fullShare} X16 : sProp 𝕄) ∗ (mX.view.loc (c : Thread nD τ) ↦[mX.view.set]{fullShare} f17 : sProp 𝕄) ∗ (mS.view.loc (c : Thread nD τ) ↦[mS.view.set]{fullShare} f18 : sProp 𝕄))
   ⊢ wp frame (wpE (defs₀ (F := F)) 𝒱 (c : Thread nD τ) bd) E (cc1__fused_kernel (F := F) i arg1 harg1 arg2 harg2 arg3 harg3 arg4 harg4 arg5 harg5 arg6 harg6 arg7 harg7 arg8 harg8 arg9 harg9 arg10 harg10 arg11 harg11 arg12 harg12 (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _))
     (fun _ => iprop((arg1.view.loc (c : Thread nD τ) ↦[arg1.view.set]{fullShare} f1 : sProp 𝕄) ∗ (arg2.view.loc (c : Thread nD τ) ↦[arg2.view.set]{fullShare} f2 : sProp 𝕄) ∗ (arg3.view.loc (c : Thread nD τ) ↦[arg3.view.set]{fullShare} f3 : sProp 𝕄) ∗ (arg4.view.loc (c : Thread nD τ) ↦[arg4.view.set]{fullShare} f4 : sProp 𝕄) ∗ (arg5.view.loc (c : Thread nD τ) ↦[arg5.view.set]{fullShare} f5 : sProp 𝕄) ∗ (arg6.view.loc (c : Thread nD τ) ↦[arg6.view.set]{fullShare} f6 : sProp 𝕄) ∗ (arg7.view.loc (c : Thread nD τ) ↦[arg7.view.set]{fullShare} f7 : sProp 𝕄) ∗ (arg8.view.loc (c : Thread nD τ) ↦[arg8.view.set]{fullShare} f8 : sProp 𝕄) ∗ (arg9.view.loc (c : Thread nD τ) ↦[arg9.view.set]{fullShare} f9 : sProp 𝕄) ∗ (arg10.view.loc (c : Thread nD τ) ↦[arg10.view.set]{fullShare} f10 : sProp 𝕄) ∗ (arg11.view.loc (c : Thread nD τ) ↦[arg11.view.set]{fullShare} f11 : sProp 𝕄) ∗ (arg12.view.loc (c : Thread nD τ) ↦[arg12.view.set]{fullShare} f12 : sProp 𝕄) ∗ (∃ g : Vec F S8 .i32, (mMeta.view.loc (c : Thread nD τ) ↦[mMeta.view.set]{fullShare} g : sProp 𝕄) ∗ ⌜metaOK g (loW LT) (hiW LE) (fdivW (loW LT)) (fdivW (Scalar.subi (hiW LE) 1#32))⌝) ∗ (mQ.view.loc (c : Thread nD τ) ↦[mQ.view.set]{fullShare} (if inW i (fdivW (loW LT)) (fdivW (Scalar.subi (hiW LE) 1#32)) = 1#1 then (putRows (i 0).val (k1_pay9 (arg3.view.read (Elt F) f3) (arg4.view.read (Elt F) f4) (arg8.view.read (Elt F) f8)) X14) else X14) : sProp 𝕄) ∗ (mK.view.loc (c : Thread nD τ) ↦[mK.view.set]{fullShare} (if inW i (fdivW (loW LT)) (fdivW (Scalar.subi (hiW LE) 1#32)) = 1#1 then (putRows (i 0).val (k1_pay10 (arg3.view.read (Elt F) f3) (arg5.view.read (Elt F) f5) (arg9.view.read (Elt F) f9)) X15) else X15) : sProp 𝕄) ∗ (mV.view.loc (c : Thread nD τ) ↦[mV.view.set]{fullShare} (if inW i (fdivW (loW LT)) (fdivW (Scalar.subi (hiW LE) 1#32)) = 1#1 then (putRows (i 0).val (k1_pay11 (arg3.view.read (Elt F) f3) (arg6.view.read (Elt F) f6) (arg10.view.read (Elt F) f10)) X16) else X16) : sProp 𝕄) ∗ (mX.view.loc (c : Thread nD τ) ↦[mX.view.set]{fullShare} (k1_pay3 (arg3.view.read (Elt F) f3) k1_pay1) : sProp 𝕄) ∗ (mS.view.loc (c : Thread nD τ) ↦[mS.view.set]{fullShare} (if inW i (fdivW (loW LT)) (fdivW (Scalar.subi (hiW LE) 1#32)) = 1#1 then k1_pay4 (k1_pay8 (arg3.view.read (Elt F) f3) (arg6.view.read (Elt F) f6) (arg10.view.read (Elt F) f10)) (k1_pay13 (F := F) (BitVec.ofNat 32 (i 0).val) (loW LT)) (k1_pay14 (F := F) (BitVec.ofNat 32 (i 0).val) (hiW LE)) k1_pay2 else k1_pay2) : sProp 𝕄))) := by
  by_cases hw : inW i (fdivW (loW LT)) (fdivW (Scalar.subi (hiW LE) 1#32)) = 1#1
  · have hw' := hw
    have hck' := hck
    unfold inW at hw'
    subst hLT hLE
    unfold fdivW loW hiW at hw'
    unfold fdivW loW hiW at hck'
    sl_unfold [cc1__fused_kernel]
    iintro ⟨H1, H2, H3, H4, H5, H6, H7, H8, H9, H10, H11, H12, H13, H14, H15, H16, H17, H18⟩
    sl_exec
    ihave H14 : (mQ.view.loc (c : Thread nD τ) ↦[mQ.view.set]{fullShare} (putRows (i 0).val (k1_pay9 (arg3.view.read (Elt F) f3) (arg4.view.read (Elt F) f4) (arg8.view.read (Elt F) f8)) X14) : sProp 𝕄) $$ [H14]
    · rw [show (putRows (i 0).val (k1_pay9 (arg3.view.read (Elt F) f3) (arg4.view.read (Elt F) f4) (arg8.view.read (Elt F) f8)) X14) = (putRows (i 0).val (k1_pay9 (l128 F arg3.view f3) (lW F arg4.view f4) (l1 F arg8.view f8)) X14) from congrArg (fun w => putRows (i 0).val w X14) (congr (congr (congrArg k1_pay9 (load_whole arg3.view ![0, 0] inb_S128x1024_S128x1024_0_0 f3)) (load_whole arg4.view ![0, 0] inb_S1024x1024_S1024x1024_0_0 f4)) (load_whole arg8.view ![0, 0] inb_S1x1024_S1x1024_0_0 f8)).symm]
      iapply (Entails.of_eq (congrArg (fun f => (mQ.view.loc (c : Thread nD τ) ↦[mQ.view.set]{fullShare} f : sProp 𝕄)) (writes_putQ i X14 (k1_pay9 (l128 F arg3.view f3) (lW F arg4.view f4) (l1 F arg8.view f8)))))
      iexact H14
    ihave H15 : (mK.view.loc (c : Thread nD τ) ↦[mK.view.set]{fullShare} (putRows (i 0).val (k1_pay10 (arg3.view.read (Elt F) f3) (arg5.view.read (Elt F) f5) (arg9.view.read (Elt F) f9)) X15) : sProp 𝕄) $$ [H15]
    · rw [show (putRows (i 0).val (k1_pay10 (arg3.view.read (Elt F) f3) (arg5.view.read (Elt F) f5) (arg9.view.read (Elt F) f9)) X15) = (putRows (i 0).val (k1_pay10 (l128 F arg3.view f3) (lW F arg5.view f5) (l1 F arg9.view f9)) X15) from congrArg (fun w => putRows (i 0).val w X15) (congr (congr (congrArg k1_pay10 (load_whole arg3.view ![0, 0] inb_S128x1024_S128x1024_0_0 f3)) (load_whole arg5.view ![0, 0] inb_S1024x1024_S1024x1024_0_0 f5)) (load_whole arg9.view ![0, 0] inb_S1x1024_S1x1024_0_0 f9)).symm]
      iapply (Entails.of_eq (congrArg (fun f => (mK.view.loc (c : Thread nD τ) ↦[mK.view.set]{fullShare} f : sProp 𝕄)) (writes_putK i X15 (k1_pay10 (l128 F arg3.view f3) (lW F arg5.view f5) (l1 F arg9.view f9)))))
      iexact H15
    ihave H16 : (mV.view.loc (c : Thread nD τ) ↦[mV.view.set]{fullShare} (putRows (i 0).val (k1_pay11 (arg3.view.read (Elt F) f3) (arg6.view.read (Elt F) f6) (arg10.view.read (Elt F) f10)) X16) : sProp 𝕄) $$ [H16]
    · rw [show (putRows (i 0).val (k1_pay11 (arg3.view.read (Elt F) f3) (arg6.view.read (Elt F) f6) (arg10.view.read (Elt F) f10)) X16) = (putRows (i 0).val (k1_pay11 (l128 F arg3.view f3) (lW F arg6.view f6) (l1 F arg10.view f10)) X16) from congrArg (fun w => putRows (i 0).val w X16) (congr (congr (congrArg k1_pay11 (load_whole arg3.view ![0, 0] inb_S128x1024_S128x1024_0_0 f3)) (load_whole arg6.view ![0, 0] inb_S1024x1024_S1024x1024_0_0 f6)) (load_whole arg10.view ![0, 0] inb_S1x1024_S1x1024_0_0 f10)).symm]
      iapply (Entails.of_eq (congrArg (fun f => (mV.view.loc (c : Thread nD τ) ↦[mV.view.set]{fullShare} f : sProp 𝕄)) (writes_putV i X16 (k1_pay11 (l128 F arg3.view f3) (lW F arg6.view f6) (l1 F arg10.view f10)))))
      iexact H16
    ihave H17 : (mX.view.loc (c : Thread nD τ) ↦[mX.view.set]{fullShare} (k1_pay3 (arg3.view.read (Elt F) f3) k1_pay1) : sProp 𝕄) $$ [H17]
    · rw [show (k1_pay3 (arg3.view.read (Elt F) f3) k1_pay1) = (k1_pay3 (l128 F arg3.view f3) (mX.view.readCov [⟨Rect.unit (s := S1x1024) ![0, 0] S1x1024.size inb_S1x1024_S1x1024_0_0, k1_pay1⟩] (Rect.unit (s := S1x1024) ![0, 0] S1x1024.size inb_S1x1024_S1x1024_0_0).toLoadRect)) from (congr (congrArg k1_pay3 (load_whole arg3.view ![0, 0] inb_S128x1024_S128x1024_0_0 f3)) (View.readCov_full mX.view inb_S1x1024_S1x1024_0_0 inb_S1x1024_S1x1024_0_0 k1_pay1 [])).symm]
      iapply (Entails.of_eq (congrArg (fun f => (mX.view.loc (c : Thread nD τ) ↦[mX.view.set]{fullShare} f : sProp 𝕄)) (writes_wholeX f17 (k1_pay3 (l128 F arg3.view f3) (mX.view.readCov [⟨Rect.unit (s := S1x1024) ![0, 0] S1x1024.size inb_S1x1024_S1x1024_0_0, k1_pay1⟩] (Rect.unit (s := S1x1024) ![0, 0] S1x1024.size inb_S1x1024_S1x1024_0_0).toLoadRect)) [⟨Rect.unit (s := S1x1024) ![0, 0] S1x1024.size inb_S1x1024_S1x1024_0_0, k1_pay1⟩])))
      iexact H17
    ihave H18 : (mS.view.loc (c : Thread nD τ) ↦[mS.view.set]{fullShare} (k1_pay4 (k1_pay8 (arg3.view.read (Elt F) f3) (arg6.view.read (Elt F) f6) (arg10.view.read (Elt F) f10)) (k1_pay13 (F := F) (BitVec.ofNat 32 (i 0).val) (loW (l32 F arg1.view f1))) (k1_pay14 (F := F) (BitVec.ofNat 32 (i 0).val) (hiW (l32 F arg2.view f2))) k1_pay2) : sProp 𝕄) $$ [H18]
    · rw [show (k1_pay4 (k1_pay8 (arg3.view.read (Elt F) f3) (arg6.view.read (Elt F) f6) (arg10.view.read (Elt F) f10)) (k1_pay13 (F := F) (BitVec.ofNat 32 (i 0).val) (loW (l32 F arg1.view f1))) (k1_pay14 (F := F) (BitVec.ofNat 32 (i 0).val) (hiW (l32 F arg2.view f2))) k1_pay2) = (k1_pay4 (k1_pay8 (l128 F arg3.view f3) (lW F arg6.view f6) (l1 F arg10.view f10)) (k1_pay13 (F := F) (BitVec.ofNat 32 (i 0).val) (loW (l32 F arg1.view f1))) (k1_pay14 (F := F) (BitVec.ofNat 32 (i 0).val) (hiW (l32 F arg2.view f2))) (mS.view.readCov [⟨Rect.unit (s := S1x1024) ![0, 0] S1x1024.size inb_S1x1024_S1x1024_0_0, k1_pay2⟩] (Rect.unit (s := S1x1024) ![0, 0] S1x1024.size inb_S1x1024_S1x1024_0_0).toLoadRect)) from (congr (congrFun (congrFun (congrArg k1_pay4 (congr (congr (congrArg k1_pay8 (load_whole arg3.view ![0, 0] inb_S128x1024_S128x1024_0_0 f3)) (load_whole arg6.view ![0, 0] inb_S1024x1024_S1024x1024_0_0 f6)) (load_whole arg10.view ![0, 0] inb_S1x1024_S1x1024_0_0 f10))) _) _) (View.readCov_full mS.view inb_S1x1024_S1x1024_0_0 inb_S1x1024_S1x1024_0_0 k1_pay2 [])).symm]
      iapply (Entails.of_eq (congrArg (fun f => (mS.view.loc (c : Thread nD τ) ↦[mS.view.set]{fullShare} f : sProp 𝕄)) (writes_wholeS f18 (k1_pay4 (k1_pay8 (l128 F arg3.view f3) (lW F arg6.view f6) (l1 F arg10.view f10)) (k1_pay13 (F := F) (BitVec.ofNat 32 (i 0).val) (loW (l32 F arg1.view f1))) (k1_pay14 (F := F) (BitVec.ofNat 32 (i 0).val) (hiW (l32 F arg2.view f2))) (mS.view.readCov [⟨Rect.unit (s := S1x1024) ![0, 0] S1x1024.size inb_S1x1024_S1x1024_0_0, k1_pay2⟩] (Rect.unit (s := S1x1024) ![0, 0] S1x1024.size inb_S1x1024_S1x1024_0_0).toLoadRect)) [⟨Rect.unit (s := S1x1024) ![0, 0] S1x1024.size inb_S1x1024_S1x1024_0_0, k1_pay2⟩])))
      iexact H18
    sl_step
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]
    · iexists (metaSet f13 (loW (l32 F arg1.view f1)) (hiW (l32 F arg2.view f2)) (fdivW (loW (l32 F arg1.view f1))) (fdivW (Scalar.subi (hiW (l32 F arg2.view f2)) 1#32))); isplitl [H13]
      · iapply (Entails.of_eq (congrArg (fun f => (mMeta.view.loc (c : Thread nD τ) ↦[mMeta.view.set]{fullShare} f : sProp 𝕄)) (meta_writes f13 (loW (l32 F arg1.view f1)) (hiW (l32 F arg2.view f2)) (fdivW (loW (l32 F arg1.view f1))) (fdivW (Scalar.subi (hiW (l32 F arg2.view f2)) 1#32)))))
        iexact H13
      · ipureintro; exact metaSet_rd f13 _ _ _ _
    isplitl [H14]; · rw [if_pos hw]; iexact H14
    isplitl [H15]; · rw [if_pos hw]; iexact H15
    isplitl [H16]; · rw [if_pos hw]; iexact H16
    isplitl [H17]; · iexact H17
    rw [if_pos hw]; iexact H18
  · have hw' := hw
    have hck' := hck
    unfold inW at hw'
    subst hLT hLE
    unfold fdivW loW hiW at hw'
    unfold fdivW loW hiW at hck'
    sl_unfold [cc1__fused_kernel]
    iintro ⟨H1, H2, H3, H4, H5, H6, H7, H8, H9, H10, H11, H12, H13, H14, H15, H16, H17, H18⟩
    sl_exec
    ihave H17 : (mX.view.loc (c : Thread nD τ) ↦[mX.view.set]{fullShare} (k1_pay3 (arg3.view.read (Elt F) f3) k1_pay1) : sProp 𝕄) $$ [H17]
    · rw [show (k1_pay3 (arg3.view.read (Elt F) f3) k1_pay1) = (k1_pay3 (l128 F arg3.view f3) (mX.view.readCov [⟨Rect.unit (s := S1x1024) ![0, 0] S1x1024.size inb_S1x1024_S1x1024_0_0, k1_pay1⟩] (Rect.unit (s := S1x1024) ![0, 0] S1x1024.size inb_S1x1024_S1x1024_0_0).toLoadRect)) from (congr (congrArg k1_pay3 (load_whole arg3.view ![0, 0] inb_S128x1024_S128x1024_0_0 f3)) (View.readCov_full mX.view inb_S1x1024_S1x1024_0_0 inb_S1x1024_S1x1024_0_0 k1_pay1 [])).symm]
      iapply (Entails.of_eq (congrArg (fun f => (mX.view.loc (c : Thread nD τ) ↦[mX.view.set]{fullShare} f : sProp 𝕄)) (writes_wholeX f17 (k1_pay3 (l128 F arg3.view f3) (mX.view.readCov [⟨Rect.unit (s := S1x1024) ![0, 0] S1x1024.size inb_S1x1024_S1x1024_0_0, k1_pay1⟩] (Rect.unit (s := S1x1024) ![0, 0] S1x1024.size inb_S1x1024_S1x1024_0_0).toLoadRect)) [⟨Rect.unit (s := S1x1024) ![0, 0] S1x1024.size inb_S1x1024_S1x1024_0_0, k1_pay1⟩])))
      iexact H17
    ihave H18 : (mS.view.loc (c : Thread nD τ) ↦[mS.view.set]{fullShare} k1_pay2 : sProp 𝕄) $$ [H18]
    · iapply (Entails.of_eq (congrArg (fun f => (mS.view.loc (c : Thread nD τ) ↦[mS.view.set]{fullShare} f : sProp 𝕄)) (writes_wholeS f18 k1_pay2 [])))
      iexact H18
    sl_step
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]
    · iexists (metaSet f13 (loW (l32 F arg1.view f1)) (hiW (l32 F arg2.view f2)) (fdivW (loW (l32 F arg1.view f1))) (fdivW (Scalar.subi (hiW (l32 F arg2.view f2)) 1#32))); isplitl [H13]
      · iapply (Entails.of_eq (congrArg (fun f => (mMeta.view.loc (c : Thread nD τ) ↦[mMeta.view.set]{fullShare} f : sProp 𝕄)) (meta_writes f13 (loW (l32 F arg1.view f1)) (hiW (l32 F arg2.view f2)) (fdivW (loW (l32 F arg1.view f1))) (fdivW (Scalar.subi (hiW (l32 F arg2.view f2)) 1#32)))))
        iexact H13
      · ipureintro; exact metaSet_rd f13 _ _ _ _
    isplitl [H14]; · rw [if_neg hw]; iexact H14
    isplitl [H15]; · rw [if_neg hw]; iexact H15
    isplitl [H16]; · rw [if_neg hw]; iexact H16
    isplitl [H17]; · iexact H17
    rw [if_neg hw]; iexact H18

end Cert.Proof.Run
end
-- ==== Proof.Tc.BodyC.lean ====
/-
  The last grid point of the attention kernel.
-/
module

public import proofs.«01_k».proof.Proof.Tc.Body

@[expose] public section

set_option maxRecDepth 8192

noncomputable section

namespace Cert.Proof.Run

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

set_option maxHeartbeats 600000

theorem bodyC (𝒱 : Variants) (c : Dev nD) (bd : Option 𝒱.V) (E : Set ℕ) (i : grid1.Coords) (arg1 : Memref sig .tc .vmem S32x16 .i32) (harg1 : arg1.IsWhole) (arg2 : Memref sig .tc .vmem S32x16 .i32) (harg2 : arg2.IsWhole) (arg3 : Memref sig .tc .vmem S128x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole)  (f1 : arg1.view.ty.Contents (Elt F)) (f2 : arg2.view.ty.Contents (Elt F)) (f3 : arg3.view.ty.Contents (Elt F)) (f4 : arg4.view.ty.Contents (Elt F)) (f5 : arg5.view.ty.Contents (Elt F)) (f6 : arg6.view.ty.Contents (Elt F)) (f7 : arg7.view.ty.Contents (Elt F)) (f8 : arg8.view.ty.Contents (Elt F)) (f9 : arg9.view.ty.Contents (Elt F)) (f10 : arg10.view.ty.Contents (Elt F)) (f11 : arg11.view.ty.Contents (Elt F)) (f12 : arg12.view.ty.Contents (Elt F)) (f13 : Vec F S8 .i32) (X14 X15 X16 : Vec F S2048x1024 .f32) (f17 f18 : Vec F S1x1024 .f32) (h1 : Scalar.cmpi .ne (Scalar.extui (Scalar.cmpi .eq (BitVec.ofNat 32 (i 0).val) 0#32)) 0#32 ≠ 1#1) (h4 : k1_cond4 i = 1#1) (hck : k1_chk1 i (rd f13 2 inb_S8_S1_2) (rd f13 3 inb_S8_S1_3)) (f19 f23 : Vec F S1x1024 .f32) (f20 f21 : Vec F S128x16 .f32) (f22 : Vec F S128x1024 .f32) :
   iprop((arg3.view.loc (c : Thread nD τ) ↦[arg3.view.set]{fullShare} f3 : sProp 𝕄) ∗ (arg4.view.loc (c : Thread nD τ) ↦[arg4.view.set]{fullShare} f4 : sProp 𝕄) ∗ (arg5.view.loc (c : Thread nD τ) ↦[arg5.view.set]{fullShare} f5 : sProp 𝕄) ∗ (arg6.view.loc (c : Thread nD τ) ↦[arg6.view.set]{fullShare} f6 : sProp 𝕄) ∗ (arg7.view.loc (c : Thread nD τ) ↦[arg7.view.set]{fullShare} f7 : sProp 𝕄) ∗ (arg8.view.loc (c : Thread nD τ) ↦[arg8.view.set]{fullShare} f8 : sProp 𝕄) ∗ (arg9.view.loc (c : Thread nD τ) ↦[arg9.view.set]{fullShare} f9 : sProp 𝕄) ∗ (arg10.view.loc (c : Thread nD τ) ↦[arg10.view.set]{fullShare} f10 : sProp 𝕄) ∗ (arg11.view.loc (c : Thread nD τ) ↦[arg11.view.set]{fullShare} f11 : sProp 𝕄) ∗ (arg12.view.loc (c : Thread nD τ) ↦[arg12.view.set]{fullShare} f12 : sProp 𝕄) ∗ (mMeta.view.loc (c : Thread nD τ) ↦[mMeta.view.set]{fullShare} f13 : sProp 𝕄) ∗ (mQ.view.loc (c : Thread nD τ) ↦[mQ.view.set]{fullShare} X14 : sProp 𝕄) ∗ (mK.view.loc (c : Thread nD τ) ↦[mK.view.set]{fullShare} X15 : sProp 𝕄) ∗ (mV.view.loc (c : Thread nD τ) ↦[mV.view.set]{fullShare} X16 : sProp 𝕄) ∗ (mX.view.loc (c : Thread nD τ) ↦[mX.view.set]{fullShare} f17 : sProp 𝕄) ∗ (mS.view.loc (c : Thread nD τ) ↦[mS.view.set]{fullShare} f18 : sProp 𝕄) ∗ (mOff.view.loc (c : Thread nD τ) ↦[mOff.view.set]{fullShare} f19 : sProp 𝕄) ∗ (mM.view.loc (c : Thread nD τ) ↦[mM.view.set]{fullShare} f20 : sProp 𝕄) ∗ (mL.view.loc (c : Thread nD τ) ↦[mL.view.set]{fullShare} f21 : sProp 𝕄) ∗ (mA.view.loc (c : Thread nD τ) ↦[mA.view.set]{fullShare} f22 : sProp 𝕄) ∗ (mO.view.loc (c : Thread nD τ) ↦[mO.view.set]{fullShare} f23 : sProp 𝕄))
   ⊢ wp frame (wpE (defs₀ (F := F)) 𝒱 (c : Thread nD τ) bd) E (cc1__fused_kernel (F := F) i arg1 harg1 arg2 harg2 arg3 harg3 arg4 harg4 arg5 harg5 arg6 harg6 arg7 harg7 arg8 harg8 arg9 harg9 arg10 harg10 arg11 harg11 arg12 harg12 (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _))
     (fun _ => iprop((arg3.view.loc (c : Thread nD τ) ↦[arg3.view.set]{fullShare} f3 : sProp 𝕄) ∗ (arg4.view.loc (c : Thread nD τ) ↦[arg4.view.set]{fullShare} f4 : sProp 𝕄) ∗ (arg5.view.loc (c : Thread nD τ) ↦[arg5.view.set]{fullShare} f5 : sProp 𝕄) ∗ (arg6.view.loc (c : Thread nD τ) ↦[arg6.view.set]{fullShare} f6 : sProp 𝕄) ∗ (arg7.view.loc (c : Thread nD τ) ↦[arg7.view.set]{fullShare} f7 : sProp 𝕄) ∗ (arg8.view.loc (c : Thread nD τ) ↦[arg8.view.set]{fullShare} f8 : sProp 𝕄) ∗ (arg9.view.loc (c : Thread nD τ) ↦[arg9.view.set]{fullShare} f9 : sProp 𝕄) ∗ (arg10.view.loc (c : Thread nD τ) ↦[arg10.view.set]{fullShare} f10 : sProp 𝕄) ∗ (arg11.view.loc (c : Thread nD τ) ↦[arg11.view.set]{fullShare} f11 : sProp 𝕄) ∗ (∃ g, (arg12.view.loc (c : Thread nD τ) ↦[arg12.view.set]{fullShare} g : sProp 𝕄) ∗ ⌜arg12.view.read (Elt F) g = (k1_pay5 (k1_pay590 (rd f13 0 inb_S8_S1_0) (rd f13 1 inb_S8_S1_1) (attn (rd f13 0 inb_S8_S1_0) (rd f13 1 inb_S8_S1_1) (rd f13 2 inb_S8_S1_2) (rd f13 3 inb_S8_S1_3) (if inW i (rd f13 2 inb_S8_S1_2) (rd f13 3 inb_S8_S1_3) = 1#1 then (putRows (i 0).val (k1_pay9 (arg3.view.read (Elt F) f3) (arg4.view.read (Elt F) f4) (arg8.view.read (Elt F) f8)) X14) else X14) (if inW i (rd f13 2 inb_S8_S1_2) (rd f13 3 inb_S8_S1_3) = 1#1 then (putRows (i 0).val (k1_pay10 (arg3.view.read (Elt F) f3) (arg5.view.read (Elt F) f5) (arg9.view.read (Elt F) f9)) X15) else X15) (if inW i (rd f13 2 inb_S8_S1_2) (rd f13 3 inb_S8_S1_3) = 1#1 then (putRows (i 0).val (k1_pay11 (arg3.view.read (Elt F) f3) (arg6.view.read (Elt F) f6) (arg10.view.read (Elt F) f10)) X16) else X16) (k1_pay585 (k1_pay3 (arg3.view.read (Elt F) f3) f17) (arg6.view.read (Elt F) f6) (arg10.view.read (Elt F) f10) (if inW i (rd f13 2 inb_S8_S1_2) (rd f13 3 inb_S8_S1_3) = 1#1 then k1_pay4 (k1_pay8 (arg3.view.read (Elt F) f3) (arg6.view.read (Elt F) f6) (arg10.view.read (Elt F) f10)) (k1_pay13 (F := F) (BitVec.ofNat 32 (i 0).val) (rd f13 0 inb_S8_S1_0)) (k1_pay14 (F := F) (BitVec.ofNat 32 (i 0).val) (rd f13 1 inb_S8_S1_1)) f18 else f18)))) (arg7.view.read (Elt F) f7) (arg11.view.read (Elt F) f11))⌝) ∗ (mMeta.view.loc (c : Thread nD τ) ↦[mMeta.view.set]{fullShare} f13 : sProp 𝕄) ∗ (mQ.view.loc (c : Thread nD τ) ↦[mQ.view.set]{fullShare} (if inW i (rd f13 2 inb_S8_S1_2) (rd f13 3 inb_S8_S1_3) = 1#1 then (putRows (i 0).val (k1_pay9 (arg3.view.read (Elt F) f3) (arg4.view.read (Elt F) f4) (arg8.view.read (Elt F) f8)) X14) else X14) : sProp 𝕄) ∗ (mK.view.loc (c : Thread nD τ) ↦[mK.view.set]{fullShare} (if inW i (rd f13 2 inb_S8_S1_2) (rd f13 3 inb_S8_S1_3) = 1#1 then (putRows (i 0).val (k1_pay10 (arg3.view.read (Elt F) f3) (arg5.view.read (Elt F) f5) (arg9.view.read (Elt F) f9)) X15) else X15) : sProp 𝕄) ∗ (mV.view.loc (c : Thread nD τ) ↦[mV.view.set]{fullShare} (if inW i (rd f13 2 inb_S8_S1_2) (rd f13 3 inb_S8_S1_3) = 1#1 then (putRows (i 0).val (k1_pay11 (arg3.view.read (Elt F) f3) (arg6.view.read (Elt F) f6) (arg10.view.read (Elt F) f10)) X16) else X16) : sProp 𝕄) ∗ (mX.view.loc (c : Thread nD τ) ↦[mX.view.set]{fullShare} (k1_pay3 (arg3.view.read (Elt F) f3) f17) : sProp 𝕄) ∗ (mS.view.loc (c : Thread nD τ) ↦[mS.view.set]{fullShare} (if inW i (rd f13 2 inb_S8_S1_2) (rd f13 3 inb_S8_S1_3) = 1#1 then k1_pay4 (k1_pay8 (arg3.view.read (Elt F) f3) (arg6.view.read (Elt F) f6) (arg10.view.read (Elt F) f10)) (k1_pay13 (F := F) (BitVec.ofNat 32 (i 0).val) (rd f13 0 inb_S8_S1_0)) (k1_pay14 (F := F) (BitVec.ofNat 32 (i 0).val) (rd f13 1 inb_S8_S1_1)) f18 else f18) : sProp 𝕄) ∗ (∃ f, (mOff.view.loc (c : Thread nD τ) ↦[mOff.view.set]{fullShare} f : sProp 𝕄)) ∗ (∃ f, (mM.view.loc (c : Thread nD τ) ↦[mM.view.set]{fullShare} f : sProp 𝕄)) ∗ (∃ f, (mL.view.loc (c : Thread nD τ) ↦[mL.view.set]{fullShare} f : sProp 𝕄)) ∗ (∃ f, (mA.view.loc (c : Thread nD τ) ↦[mA.view.set]{fullShare} f : sProp 𝕄)) ∗ (∃ f, (mO.view.loc (c : Thread nD τ) ↦[mO.view.set]{fullShare} f : sProp 𝕄)))) := by
  by_cases hw : inW i (rd f13 2 inb_S8_S1_2) (rd f13 3 inb_S8_S1_3) = 1#1
  · have hw' := hw
    unfold inW at hw'
    have hcut := fun hw1 v7 X14 X15 X16 f17 f18 => part87_run 𝒱 c bd E i arg1 harg1 arg2 harg2 arg3 harg3 arg4 harg4 arg5 harg5 arg6 harg6 arg7 harg7 arg8 harg8 arg9 harg9 arg10 harg10 arg11 harg11 arg12 harg12 (rd f13 0 inb_S8_S1_0) (rd f13 1 inb_S8_S1_1) (rd f13 2 inb_S8_S1_2) (rd f13 3 inb_S8_S1_3) hw1 v7 h4 f6 f10 X14 X15 X16 f17 f18 f19 f23 f20 f21 f22
    sl_unfold [cc1__fused_kernel]
    iintro ⟨H3, H4, H5, H6, H7, H8, H9, H10, H11, H12, H13, H14, H15, H16, H17, H18, H19, H20, H21, H22, H23⟩
    sl_exec
    ihave Hk1_part87_4 : (mQ.view.loc (c : Thread nD τ) ↦[mQ.view.set]{fullShare} (putRows (i 0).val (k1_pay9 (arg3.view.read (Elt F) f3) (arg4.view.read (Elt F) f4) (arg8.view.read (Elt F) f8)) X14) : sProp 𝕄) $$ [Hk1_part87_4]
    · rw [show (putRows (i 0).val (k1_pay9 (arg3.view.read (Elt F) f3) (arg4.view.read (Elt F) f4) (arg8.view.read (Elt F) f8)) X14) = (putRows (i 0).val (k1_pay9 (l128 F arg3.view f3) (lW F arg4.view f4) (l1 F arg8.view f8)) X14) from congrArg (fun w => putRows (i 0).val w X14) (congr (congr (congrArg k1_pay9 (load_whole arg3.view ![0, 0] inb_S128x1024_S128x1024_0_0 f3)) (load_whole arg4.view ![0, 0] inb_S1024x1024_S1024x1024_0_0 f4)) (load_whole arg8.view ![0, 0] inb_S1x1024_S1x1024_0_0 f8)).symm]
      iapply (Entails.of_eq (congrArg (fun f => (mQ.view.loc (c : Thread nD τ) ↦[mQ.view.set]{fullShare} f : sProp 𝕄)) (writes_putQ i X14 (k1_pay9 (l128 F arg3.view f3) (lW F arg4.view f4) (l1 F arg8.view f8)))))
      iexact Hk1_part87_4
    ihave Hk1_part87_5 : (mK.view.loc (c : Thread nD τ) ↦[mK.view.set]{fullShare} (putRows (i 0).val (k1_pay10 (arg3.view.read (Elt F) f3) (arg5.view.read (Elt F) f5) (arg9.view.read (Elt F) f9)) X15) : sProp 𝕄) $$ [Hk1_part87_5]
    · rw [show (putRows (i 0).val (k1_pay10 (arg3.view.read (Elt F) f3) (arg5.view.read (Elt F) f5) (arg9.view.read (Elt F) f9)) X15) = (putRows (i 0).val (k1_pay10 (l128 F arg3.view f3) (lW F arg5.view f5) (l1 F arg9.view f9)) X15) from congrArg (fun w => putRows (i 0).val w X15) (congr (congr (congrArg k1_pay10 (load_whole arg3.view ![0, 0] inb_S128x1024_S128x1024_0_0 f3)) (load_whole arg5.view ![0, 0] inb_S1024x1024_S1024x1024_0_0 f5)) (load_whole arg9.view ![0, 0] inb_S1x1024_S1x1024_0_0 f9)).symm]
      iapply (Entails.of_eq (congrArg (fun f => (mK.view.loc (c : Thread nD τ) ↦[mK.view.set]{fullShare} f : sProp 𝕄)) (writes_putK i X15 (k1_pay10 (l128 F arg3.view f3) (lW F arg5.view f5) (l1 F arg9.view f9)))))
      iexact Hk1_part87_5
    ihave Hk1_part87_6 : (mV.view.loc (c : Thread nD τ) ↦[mV.view.set]{fullShare} (putRows (i 0).val (k1_pay11 (arg3.view.read (Elt F) f3) (arg6.view.read (Elt F) f6) (arg10.view.read (Elt F) f10)) X16) : sProp 𝕄) $$ [Hk1_part87_6]
    · rw [show (putRows (i 0).val (k1_pay11 (arg3.view.read (Elt F) f3) (arg6.view.read (Elt F) f6) (arg10.view.read (Elt F) f10)) X16) = (putRows (i 0).val (k1_pay11 (l128 F arg3.view f3) (lW F arg6.view f6) (l1 F arg10.view f10)) X16) from congrArg (fun w => putRows (i 0).val w X16) (congr (congr (congrArg k1_pay11 (load_whole arg3.view ![0, 0] inb_S128x1024_S128x1024_0_0 f3)) (load_whole arg6.view ![0, 0] inb_S1024x1024_S1024x1024_0_0 f6)) (load_whole arg10.view ![0, 0] inb_S1x1024_S1x1024_0_0 f10)).symm]
      iapply (Entails.of_eq (congrArg (fun f => (mV.view.loc (c : Thread nD τ) ↦[mV.view.set]{fullShare} f : sProp 𝕄)) (writes_putV i X16 (k1_pay11 (l128 F arg3.view f3) (lW F arg6.view f6) (l1 F arg10.view f10)))))
      iexact Hk1_part87_6
    ihave Hk1_part87_2 : (mX.view.loc (c : Thread nD τ) ↦[mX.view.set]{fullShare} (k1_pay3 (arg3.view.read (Elt F) f3) f17) : sProp 𝕄) $$ [Hk1_part87_2]
    · rw [show (k1_pay3 (arg3.view.read (Elt F) f3) f17) = (k1_pay3 (l128 F arg3.view f3) (l1 F mX.view f17)) from (congr (congrArg k1_pay3 (load_whole arg3.view ![0, 0] inb_S128x1024_S128x1024_0_0 f3)) (load_whole mX.view ![0, 0] inb_S1x1024_S1x1024_0_0 f17)).symm]
      iapply (Entails.of_eq (congrArg (fun f => (mX.view.loc (c : Thread nD τ) ↦[mX.view.set]{fullShare} f : sProp 𝕄)) (writes_wholeX f17 (k1_pay3 (l128 F arg3.view f3) (l1 F mX.view f17)) [])))
      iexact Hk1_part87_2
    ihave Hk1_part87_3 : (mS.view.loc (c : Thread nD τ) ↦[mS.view.set]{fullShare} (k1_pay4 (k1_pay8 (arg3.view.read (Elt F) f3) (arg6.view.read (Elt F) f6) (arg10.view.read (Elt F) f10)) (k1_pay13 (F := F) (BitVec.ofNat 32 (i 0).val) (rd f13 0 inb_S8_S1_0)) (k1_pay14 (F := F) (BitVec.ofNat 32 (i 0).val) (rd f13 1 inb_S8_S1_1)) f18) : sProp 𝕄) $$ [Hk1_part87_3]
    · rw [show (k1_pay4 (k1_pay8 (arg3.view.read (Elt F) f3) (arg6.view.read (Elt F) f6) (arg10.view.read (Elt F) f10)) (k1_pay13 (F := F) (BitVec.ofNat 32 (i 0).val) (rd f13 0 inb_S8_S1_0)) (k1_pay14 (F := F) (BitVec.ofNat 32 (i 0).val) (rd f13 1 inb_S8_S1_1)) f18) = (k1_pay4 (k1_pay8 (l128 F arg3.view f3) (lW F arg6.view f6) (l1 F arg10.view f10)) (k1_pay13 (F := F) (BitVec.ofNat 32 (i 0).val) (rd f13 0 inb_S8_S1_0)) (k1_pay14 (F := F) (BitVec.ofNat 32 (i 0).val) (rd f13 1 inb_S8_S1_1)) (l1 F mS.view f18)) from (congr (congrFun (congrFun (congrArg k1_pay4 (congr (congr (congrArg k1_pay8 (load_whole arg3.view ![0, 0] inb_S128x1024_S128x1024_0_0 f3)) (load_whole arg6.view ![0, 0] inb_S1024x1024_S1024x1024_0_0 f6)) (load_whole arg10.view ![0, 0] inb_S1x1024_S1x1024_0_0 f10))) _) _) (load_whole mS.view ![0, 0] inb_S1x1024_S1x1024_0_0 f18)).symm]
      iapply (Entails.of_eq (congrArg (fun f => (mS.view.loc (c : Thread nD τ) ↦[mS.view.set]{fullShare} f : sProp 𝕄)) (writes_wholeS f18 (k1_pay4 (k1_pay8 (l128 F arg3.view f3) (lW F arg6.view f6) (l1 F arg10.view f10)) (k1_pay13 (F := F) (BitVec.ofNat 32 (i 0).val) (rd f13 0 inb_S8_S1_0)) (k1_pay14 (F := F) (BitVec.ofNat 32 (i 0).val) (rd f13 1 inb_S8_S1_1)) (l1 F mS.view f18)) [])))
      iexact Hk1_part87_3

    sl_step
    isplitl [H3]; · iexact H3
    isplitl [H4]; · iexact H4
    isplitl [H5]; · iexact H5
    isplitl [Hk1_part87_0]; · iexact Hk1_part87_0
    isplitl [H7]; · iexact H7
    isplitl [H8]; · iexact H8
    isplitl [H9]; · iexact H9
    isplitl [Hk1_part87_1]; · iexact Hk1_part87_1
    isplitl [H11]; · iexact H11
    isplitl [H12]
    · iexists _; isplitl [H12]; · iexact H12
      ipureintro
      simp only [if_pos hw]
      have hr := hk1_part87_12.trans (congrArg (k1_pay590 (rd f13 0 inb_S8_S1_0) (rd f13 1 inb_S8_S1_1)) (congr (congr (congr (congrArg (attn (rd f13 0 inb_S8_S1_0) (rd f13 1 inb_S8_S1_1) (rd f13 2 inb_S8_S1_2) (rd f13 3 inb_S8_S1_3)) ((writes_putQ i X14 (k1_pay9 (l128 F arg3.view f3) (lW F arg4.view f4) (l1 F arg8.view f8))).trans (congrArg (fun w => putRows (i 0).val w X14) (congr (congr (congrArg k1_pay9 (load_whole arg3.view ![0, 0] inb_S128x1024_S128x1024_0_0 f3)) (load_whole arg4.view ![0, 0] inb_S1024x1024_S1024x1024_0_0 f4)) (load_whole arg8.view ![0, 0] inb_S1x1024_S1x1024_0_0 f8))))) ((writes_putK i X15 (k1_pay10 (l128 F arg3.view f3) (lW F arg5.view f5) (l1 F arg9.view f9))).trans (congrArg (fun w => putRows (i 0).val w X15) (congr (congr (congrArg k1_pay10 (load_whole arg3.view ![0, 0] inb_S128x1024_S128x1024_0_0 f3)) (load_whole arg5.view ![0, 0] inb_S1024x1024_S1024x1024_0_0 f5)) (load_whole arg9.view ![0, 0] inb_S1x1024_S1x1024_0_0 f9))))) ((writes_putV i X16 (k1_pay11 (l128 F arg3.view f3) (lW F arg6.view f6) (l1 F arg10.view f10))).trans (congrArg (fun w => putRows (i 0).val w X16) (congr (congr (congrArg k1_pay11 (load_whole arg3.view ![0, 0] inb_S128x1024_S128x1024_0_0 f3)) (load_whole arg6.view ![0, 0] inb_S1024x1024_S1024x1024_0_0 f6)) (load_whole arg10.view ![0, 0] inb_S1x1024_S1x1024_0_0 f10))))) (congr (congrFun (congrFun (congrArg k1_pay585 ((writes_wholeX f17 (k1_pay3 (l128 F arg3.view f3) (l1 F mX.view f17)) []).trans (congr (congrArg k1_pay3 (load_whole arg3.view ![0, 0] inb_S128x1024_S128x1024_0_0 f3)) (load_whole mX.view ![0, 0] inb_S1x1024_S1x1024_0_0 f17)))) _) _) ((writes_wholeS f18 (k1_pay4 (k1_pay8 (l128 F arg3.view f3) (lW F arg6.view f6) (l1 F arg10.view f10)) (k1_pay13 (F := F) (BitVec.ofNat 32 (i 0).val) (rd f13 0 inb_S8_S1_0)) (k1_pay14 (F := F) (BitVec.ofNat 32 (i 0).val) (rd f13 1 inb_S8_S1_1)) (l1 F mS.view f18)) []).trans (congr (congrFun (congrFun (congrArg k1_pay4 (congr (congr (congrArg k1_pay8 (load_whole arg3.view ![0, 0] inb_S128x1024_S128x1024_0_0 f3)) (load_whole arg6.view ![0, 0] inb_S1024x1024_S1024x1024_0_0 f6)) (load_whole arg10.view ![0, 0] inb_S1x1024_S1x1024_0_0 f10))) _) _) (load_whole mS.view ![0, 0] inb_S1x1024_S1x1024_0_0 f18))))))
      refine (read_store_whole arg12.view ![0, 0] inb_S1x1024_S1x1024_0_0 f12 _ []).trans ?_
      exact congr (congr (congrArg k1_pay5 hr) (load_whole arg7.view ![0, 0] inb_S1024x1024_S1024x1024_0_0 f7)) (load_whole arg11.view ![0, 0] inb_S1x1024_S1x1024_0_0 f11)
    isplitl [H13]; · iexact H13
    isplitl [Hk1_part87_4]; · rw [if_pos hw]; iexact Hk1_part87_4
    isplitl [Hk1_part87_5]; · rw [if_pos hw]; iexact Hk1_part87_5
    isplitl [Hk1_part87_6]; · rw [if_pos hw]; iexact Hk1_part87_6
    isplitl [Hk1_part87_2]; · iexact Hk1_part87_2
    isplitl [Hk1_part87_3]; · rw [if_pos hw]; iexact Hk1_part87_3
    isplitl [Hk1_part87_7]; · iexists _; iexact Hk1_part87_7
    isplitl [Hk1_part87_8]; · iexists _; iexact Hk1_part87_8
    isplitl [Hk1_part87_9]; · iexists _; iexact Hk1_part87_9
    isplitl [Hk1_part87_10]; · iexists _; iexact Hk1_part87_10
    iexists _; iexact Hk1_part87_11

  · have hw' := hw
    unfold inW at hw'
    have hcut := fun hw1 v7 X14 X15 X16 f17 f18 => part87_run 𝒱 c bd E i arg1 harg1 arg2 harg2 arg3 harg3 arg4 harg4 arg5 harg5 arg6 harg6 arg7 harg7 arg8 harg8 arg9 harg9 arg10 harg10 arg11 harg11 arg12 harg12 (rd f13 0 inb_S8_S1_0) (rd f13 1 inb_S8_S1_1) (rd f13 2 inb_S8_S1_2) (rd f13 3 inb_S8_S1_3) hw1 v7 h4 f6 f10 X14 X15 X16 f17 f18 f19 f23 f20 f21 f22
    sl_unfold [cc1__fused_kernel]
    iintro ⟨H3, H4, H5, H6, H7, H8, H9, H10, H11, H12, H13, H14, H15, H16, H17, H18, H19, H20, H21, H22, H23⟩
    sl_exec
    ihave Hk1_part87_2 : (mX.view.loc (c : Thread nD τ) ↦[mX.view.set]{fullShare} (k1_pay3 (arg3.view.read (Elt F) f3) f17) : sProp 𝕄) $$ [Hk1_part87_2]
    · rw [show (k1_pay3 (arg3.view.read (Elt F) f3) f17) = (k1_pay3 (l128 F arg3.view f3) (l1 F mX.view f17)) from (congr (congrArg k1_pay3 (load_whole arg3.view ![0, 0] inb_S128x1024_S128x1024_0_0 f3)) (load_whole mX.view ![0, 0] inb_S1x1024_S1x1024_0_0 f17)).symm]
      iapply (Entails.of_eq (congrArg (fun f => (mX.view.loc (c : Thread nD τ) ↦[mX.view.set]{fullShare} f : sProp 𝕄)) (writes_wholeX f17 (k1_pay3 (l128 F arg3.view f3) (l1 F mX.view f17)) [])))
      iexact Hk1_part87_2

    sl_step
    isplitl [H3]; · iexact H3
    isplitl [H4]; · iexact H4
    isplitl [H5]; · iexact H5
    isplitl [Hk1_part87_0]; · iexact Hk1_part87_0
    isplitl [H7]; · iexact H7
    isplitl [H8]; · iexact H8
    isplitl [H9]; · iexact H9
    isplitl [Hk1_part87_1]; · iexact Hk1_part87_1
    isplitl [H11]; · iexact H11
    isplitl [H12]
    · iexists _; isplitl [H12]; · iexact H12
      ipureintro
      simp only [if_neg hw]
      have hr := hk1_part87_12.trans (congrArg (k1_pay590 (rd f13 0 inb_S8_S1_0) (rd f13 1 inb_S8_S1_1)) (congr (congr (congr (congrArg (attn (rd f13 0 inb_S8_S1_0) (rd f13 1 inb_S8_S1_1) (rd f13 2 inb_S8_S1_2) (rd f13 3 inb_S8_S1_3)) (rfl)) (rfl)) (rfl)) (congr (congrFun (congrFun (congrArg k1_pay585 ((writes_wholeX f17 (k1_pay3 (l128 F arg3.view f3) (l1 F mX.view f17)) []).trans (congr (congrArg k1_pay3 (load_whole arg3.view ![0, 0] inb_S128x1024_S128x1024_0_0 f3)) (load_whole mX.view ![0, 0] inb_S1x1024_S1x1024_0_0 f17)))) _) _) (rfl))))
      refine (read_store_whole arg12.view ![0, 0] inb_S1x1024_S1x1024_0_0 f12 _ []).trans ?_
      exact congr (congr (congrArg k1_pay5 hr) (load_whole arg7.view ![0, 0] inb_S1024x1024_S1024x1024_0_0 f7)) (load_whole arg11.view ![0, 0] inb_S1x1024_S1x1024_0_0 f11)
    isplitl [H13]; · iexact H13
    isplitl [Hk1_part87_4]; · rw [if_neg hw]; iexact Hk1_part87_4
    isplitl [Hk1_part87_5]; · rw [if_neg hw]; iexact Hk1_part87_5
    isplitl [Hk1_part87_6]; · rw [if_neg hw]; iexact Hk1_part87_6
    isplitl [Hk1_part87_2]; · iexact Hk1_part87_2
    isplitl [Hk1_part87_3]; · rw [if_neg hw]; iexact Hk1_part87_3
    isplitl [Hk1_part87_7]; · iexists _; iexact Hk1_part87_7
    isplitl [Hk1_part87_8]; · iexists _; iexact Hk1_part87_8
    isplitl [Hk1_part87_9]; · iexists _; iexact Hk1_part87_9
    isplitl [Hk1_part87_10]; · iexists _; iexact Hk1_part87_10
    iexists _; iexact Hk1_part87_11

end Cert.Proof.Run
end
-- ==== Proof.Tc.Data.lean ====
/-
  What the attention kernel computes, as functions of its operands.
-/
module

public import proofs.«01_k».proof.Proof.Tc.BodyA
public import proofs.«01_k».proof.Proof.Tc.BodyC

@[expose] public section

set_option maxRecDepth 8192

noncomputable section

namespace Cert.Proof.Run

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

set_option maxHeartbeats 600000

/-- The attention kernel's operands. -/
structure TIn (F : FTy → Type) where
  LT : Vec F S32x16 .i32
  LE : Vec F S32x16 .i32
  x : Vec F S2048x1024 .f32
  wq : Vec F S1024x1024 .f32
  wk : Vec F S1024x1024 .f32
  wv : Vec F S1024x1024 .f32
  wo : Vec F S1024x1024 .f32
  bq : Vec F S1x1024 .f32
  bk : Vec F S1x1024 .f32
  bv : Vec F S1x1024 .f32
  bo : Vec F S1x1024 .f32

/-- Whether block `n` meets the segment. -/
def inN (n : ℕ) (v5 v6 : BitVec 32) : BitVec 1 :=
  Scalar.cmpi .ne (Scalar.extui (Scalar.andi (Scalar.cmpi .sge (BitVec.ofNat 32 n) v5) (Scalar.cmpi .sle (BitVec.ofNat 32 n) v6))) 0#32

theorem inN_eq : ∀ n a b : Fin 16, inN n.val (BitVec.ofNat 32 a.val) (BitVec.ofNat 32 b.val) = 1#1 ↔ a ≤ n ∧ n ≤ b := by decide +kernel

namespace TIn
variable (a : TIn F)

def lo : BitVec 32 := loW a.LT
def hi : BitVec 32 := hiW a.LE
def c0 : BitVec 32 := fdivW a.lo
def c1 : BitVec 32 := fdivW (Scalar.subi a.hi 1#32)

/-- Block `n` of the input. -/
def xb (n : ℕ) : Vec F S128x1024 .f32 := rows (128 * n) a.x

/-- The running sum of the input's rows, and of the segment's values. -/
def xsN : ℕ → Vec F S1x1024 .f32
  | 0 => k1_pay1
  | n + 1 => k1_pay3 (a.xb n) (xsN n)
def vsN : ℕ → Vec F S1x1024 .f32
  | 0 => k1_pay2
  | n + 1 => if inN n a.c0 a.c1 = 1#1 then k1_pay4 (k1_pay8 (a.xb n) a.wv a.bv) (k1_pay13 (F := F) (BitVec.ofNat 32 n) a.lo) (k1_pay14 (F := F) (BitVec.ofNat 32 n) a.hi) (vsN n) else vsN n

/-- The index within its block of a row. -/
def loc (y : S2048x1024.Idx) : S128x1024.Idx := fun
  | 0 => (⟨(y 0).val % 128, Nat.mod_lt _ (by decide)⟩ : Fin 128)
  | 1 => (y 1 : Fin 1024)

/-- The projections, row by row. -/
def qA : Vec F S2048x1024 .f32 := fun y => k1_pay9 (a.xb ((y 0).val / 128)) a.wq a.bq (loc y)
def kA : Vec F S2048x1024 .f32 := fun y => k1_pay10 (a.xb ((y 0).val / 128)) a.wk a.bk (loc y)
def vA : Vec F S2048x1024 .f32 := fun y => k1_pay11 (a.xb ((y 0).val / 128)) a.wv a.bv (loc y)

/-- `Q` agrees with `QA` on the blocks before `n` that meet the segment. -/
def OK (n : ℕ) (Q QA : Vec F S2048x1024 .f32) : Prop :=
  ∀ y : S2048x1024.Idx, (y 0).val / 128 < n → inN ((y 0).val / 128) a.c0 a.c1 = 1#1 → Q y = QA y

/-- The kernel's result. -/
def out : Vec F S1x1024 .f32 :=
  k1_pay5 (k1_pay590 a.lo a.hi (attn a.lo a.hi a.c0 a.c1 a.qA a.kA a.vA (k1_pay585 (a.xsN 16) a.wv a.bv (a.vsN 16)))) a.wo a.bo

/-- The segment's blocks are blocks of the input. -/
def HC : Prop := a.c0.toNat ≤ a.c1.toNat ∧ a.c1.toNat < 16

end TIn

theorem putRows_ok (a : TIn F) (n : ℕ) (w : Vec F S128x1024 .f32) (Q QA : Vec F S2048x1024 .f32)
    (h : a.OK n Q QA) (hw : inN n a.c0 a.c1 = 1#1 → ∀ y : S2048x1024.Idx, (y 0).val / 128 = n → w (TIn.loc y) = QA y) :
    a.OK (n + 1) (if inN n a.c0 a.c1 = 1#1 then putRows n w Q else Q) QA := by
  intro y hy hin
  by_cases e : (y 0).val / 128 = n
  · rw [e] at hin
    rw [if_pos hin]
    unfold putRows
    have hh : 128 * n ≤ (y 0).val ∧ (y 0).val < 128 * n + 128 := by omega
    rw [dif_pos hh, ← hw hin y e]
    refine congrArg w (funext fun | 0 => Fin.ext ?_ | 1 => Fin.ext ?_)
    · show (y 0).val - 128 * n = (y 0).val % 128; omega
    · show (y 1).val - 0 = (y 1).val; omega
  · have hlt : (y 0).val / 128 < n := by omega
    by_cases hn : inN n a.c0 a.c1 = 1#1
    · rw [if_pos hn]
      unfold putRows
      rw [dif_neg (by omega)]
      exact h y hlt hin
    · rw [if_neg hn]; exact h y hlt hin

theorem rows_congr (n : ℕ) (hn : n + 128 ≤ 2048) (Q Q' : Vec F S2048x1024 .f32) (h : ∀ y : S2048x1024.Idx, n ≤ (y 0).val → (y 0).val < n + 128 → Q y = Q' y) :
    rows n Q = rows n Q' := by
  funext x
  have hx : (x 0).val < 128 := (x 0).isLt
  unfold rows
  refine h _ ?_ ?_
  · show n ≤ (n + (x 0).val) % 2048; omega
  · show (n + (x 0).val) % 2048 < n + 128; omega

theorem trips_eq : ∀ a b : Fin 16, a ≤ b → (k1_t1_loop (BitVec.ofNat 32 a.val) (BitVec.ofNat 32 b.val)).trips = b.val - a.val + 1
    ∧ (k1_t2_loop (BitVec.ofNat 32 a.val) (BitVec.ofNat 32 b.val)).trips = b.val - a.val + 1 := by decide +kernel

theorem blk_eq : ∀ a t : Fin 16, (blkW (BitVec.ofNat 32 a.val) t.val).toNat = 128 * (a.val + t.val) := by decide +kernel

theorem trips2_congr (lo hi v5 : BitVec 32) (q : Vec F S128x1024 .f32) (KK VV KK' VV' : Vec F S2048x1024 .f32) (s : St F) (T : ℕ)
    (hK : ∀ t < T, rows (blkW v5 t).toNat KK = rows (blkW v5 t).toNat KK') (hV : ∀ t < T, rows (blkW v5 t).toNat VV = rows (blkW v5 t).toNat VV') :
    ∀ k ≤ T, trips2 lo hi v5 q KK VV s k = trips2 lo hi v5 q KK' VV' s k
  | 0, _ => rfl
  | k + 1, h => by
    unfold trips2 trip
    rw [trips2_congr lo hi v5 q KK VV KK' VV' s T hK hV k (by omega), hK k (by omega), hV k (by omega)]

theorem trips1_congr (lo hi v5 v6 : BitVec 32) (QQ KK VV QQ' KK' VV' : Vec F S2048x1024 .f32) (off os : Vec F S1x1024 .f32) (T : ℕ)
    (hT : (k1_t2_loop v5 v6).trips = T)
    (hQ : ∀ t < T, rows (blkW v5 t).toNat QQ = rows (blkW v5 t).toNat QQ')
    (hK : ∀ t < T, rows (blkW v5 t).toNat KK = rows (blkW v5 t).toNat KK') (hV : ∀ t < T, rows (blkW v5 t).toNat VV = rows (blkW v5 t).toNat VV') :
    ∀ k ≤ T, trips1 lo hi v5 v6 QQ KK VV off os k = trips1 lo hi v5 v6 QQ' KK' VV' off os k
  | 0, _ => rfl
  | k + 1, h => by
    unfold trips1 trip1
    rw [trips1_congr lo hi v5 v6 QQ KK VV QQ' KK' VV' off os T hT hQ hK hV k (by omega), hT, hQ k (by omega),
      trips2_congr lo hi v5 _ KK VV KK' VV' _ T hK hV T le_rfl]

theorem nat16 (w : BitVec 32) (h : w.toNat < 16) : ∃ a : Fin 16, w = BitVec.ofNat 32 a.val ∧ w.toNat = a.val :=
  ⟨⟨w.toNat, h⟩, by simp, rfl⟩

theorem attn_congr (a : TIn F) (hc : a.HC) (QQ KK VV : Vec F S2048x1024 .f32) (hQ : a.OK 16 QQ a.qA) (hK : a.OK 16 KK a.kA) (hV : a.OK 16 VV a.vA) (off : Vec F S1x1024 .f32) :
    attn a.lo a.hi a.c0 a.c1 QQ KK VV off = attn a.lo a.hi a.c0 a.c1 a.qA a.kA a.vA off := by
  obtain ⟨h1, h2⟩ := hc
  obtain ⟨p, hp, hp'⟩ := nat16 a.c0 (by omega)
  obtain ⟨r, hr, hr'⟩ := nat16 a.c1 h2
  have hle : p ≤ r := by rw [Fin.le_def]; omega
  have ht := trips_eq p r hle
  have key : ∀ Q QA : Vec F S2048x1024 .f32, a.OK 16 Q QA → ∀ t < r.val - p.val + 1, rows (blkW a.c0 t).toNat Q = rows (blkW a.c0 t).toNat QA := by
    intro Q QA h t htl
    have hr16 := r.isLt
    have hle' : p.val ≤ r.val := hle
    have hb := blk_eq p ⟨t, by omega⟩
    rw [hp, hb]
    refine rows_congr _ (by show 128 * (p.val + t) + 128 ≤ 2048; omega) _ _ fun y h1 h2 => ?_
    have h1' : 128 * (p.val + t) ≤ (y 0).val := h1
    have h2' : (y 0).val < 128 * (p.val + t) + 128 := h2
    refine h y (by omega) ?_
    have e : (y 0).val / 128 = p.val + t := by omega
    rw [e, hp, hr]
    exact (inN_eq ⟨p.val + t, by omega⟩ p r).mpr ⟨by rw [Fin.le_def]; show p.val ≤ p.val + t; omega, by rw [Fin.le_def]; show p.val + t ≤ r.val; omega⟩
  unfold attn
  rw [show (k1_t1_loop a.c0 a.c1).trips = r.val - p.val + 1 from by rw [hp, hr]; exact ht.1]
  exact trips1_congr _ _ _ _ _ _ _ _ _ _ _ _ (r.val - p.val + 1) (by rw [hp, hr]; exact ht.2) (key _ _ hQ) (key _ _ hK) (key _ _ hV) _ le_rfl

theorem chk_all : ∀ (i : grid1.Coords) (a b : Fin 16), a ≤ b → k1_chk1 i (BitVec.ofNat 32 a.val) (BitVec.ofNat 32 b.val) := by
  decide +kernel

theorem chk_of (a : TIn F) (hc : a.HC) (i : grid1.Coords) : k1_chk1 i a.c0 a.c1 := by
  obtain ⟨h1, h2⟩ := hc
  obtain ⟨p, hp, hp'⟩ := nat16 a.c0 (by omega)
  obtain ⟨r, hr, hr'⟩ := nat16 a.c1 h2
  rw [hp, hr]
  exact chk_all i p r (by rw [Fin.le_def]; omega)

end Cert.Proof.Run
end
-- ==== Proof.M.Step.lean ====
/-
  One block of keys, and the rows of a block of queries, over the reals.
-/
module

public import proofs.«01_k».proof.Proof.Tc.Data
public import proofs.«01_k».proof.Proof.M.Real

@[expose] public section

set_option maxRecDepth 8192
set_option maxHeartbeats 1000000

noncomputable section

namespace Cert.Proof.Run

open Cert.KernelIdeal Cert.KernelIdeal.Gen
open Cert.Proof Idealize.ShloMosaic

/-! ## The operations of a head at an index -/

theorem i128x1_eq (r : Fin 128) : i128x1 r = ix2 r (0 : Fin 1) := by funext a; match a with | 0 => rfl | 1 => rfl
theorem i128x64_eq (r : Fin 128) (d : Fin 64) : i128x64 r d = ix2 r d := by funext a; match a with | 0 => rfl | 1 => rfl
theorem i1x64_eq (d : Fin 64) : i1x64 d = ix2 (0 : Fin 1) d := by funext a; match a with | 0 => rfl | 1 => rfl

theorem colOf_at (h : Fin 16) (m : Vec Ideal S128x16 .f32) (r : Fin 128) : colOf h m (ix2 r (0 : Fin 1)) = m (ix2 r h) := by
  unfold colOf
  congr 1; funext a
  match a with
  | 0 => exact Fin.ext (by show 0 + 1 * r.val = r.val; omega)
  | 1 => exact Fin.ext (by show h.val + 1 * 0 = h.val; omega)
theorem blkOf_at (h : Fin 16) (m : Vec Ideal S128x1024 .f32) (r : Fin 128) (d : Fin 64) : blkOf h m (ix2 r d) = m (ix2 r (RealMath.col h d)) := by
  unfold blkOf
  congr 1; funext a
  match a with
  | 0 => exact Fin.ext (by show 0 + 1 * r.val = r.val; omega)
  | 1 => exact Fin.ext (by show 64 * h.val + 1 * d.val = h.val * 64 + d.val; omega)
theorem rowOf_at (h : Fin 16) (m : Vec Ideal S1x1024 .f32) (d : Fin 64) : rowOf h m (ix2 (0 : Fin 1) d) = m (ix2 (0 : Fin 1) (RealMath.col h d)) := by
  unfold rowOf
  congr 1; funext a
  match a with
  | 0 => exact Fin.ext (by show 0 + 1 * 0 = 0; omega)
  | 1 => exact Fin.ext (by show 64 * h.val + 1 * d.val = h.val * 64 + d.val; omega)
theorem sl_at (h : Fin 16) (m : Vec Ideal S128x1024 .f32) (r : Fin 128) (d : Fin 64) : sl h m (ix2 r d) = m (ix2 r (RealMath.col h d)) := by
  unfold sl extractStridedSlice
  congr 1; funext a
  match a with
  | 0 => exact Fin.ext (by show 0 + r.val = r.val; omega)
  | 1 => exact Fin.ext (by show 64 * h.val + d.val = h.val * 64 + d.val; omega)

theorem hS_at (val : IVec S1x128 1) (q k : Vec Ideal S128x64 .f32) (r x : Fin 128) :
    hS val q k (ix2 r x) = Scalar.select (val (ix2 (0 : Fin 1) x)) (∑ d : Fin 64, q (ix2 r d) * k (ix2 x d)) (Ideal.ofBits .f32 0xFF800000#32) := by
  pointwise [hS]
theorem hMax_at (val : IVec S1x128 1) (q k : Vec Ideal S128x64 .f32) (mo : Vec Ideal S128x1 .f32) (r : Fin 128) :
    hMax val q k mo (ix2 r (0 : Fin 1)) = max (mo (ix2 r (0 : Fin 1))) (Finset.univ.fold max (Ideal.ofBits .f32 0xFF800000#32) fun x : Fin 128 => hS val q k (ix2 r x)) := by
  pointwise [hMax]
theorem hM_at (val : IVec S1x128 1) (q k : Vec Ideal S128x64 .f32) (mo : Vec Ideal S128x1 .f32) (r : Fin 128) :
    hM val q k mo (ix2 r (0 : Fin 1)) = hMax val q k mo (ix2 r (0 : Fin 1)) := by
  pointwise [hM]
theorem hL_at (val : IVec S1x128 1) (q k : Vec Ideal S128x64 .f32) (mo lo : Vec Ideal S128x1 .f32) (r : Fin 128) :
    hL val q k mo lo (ix2 r (0 : Fin 1)) = lo (ix2 r (0 : Fin 1)) * Ideal.exp (mo (ix2 r (0 : Fin 1)) - hMax val q k mo (ix2 r (0 : Fin 1)))
      + ∑ x : Fin 128, Ideal.exp (hS val q k (ix2 r x) - hMax val q k mo (ix2 r (0 : Fin 1))) := by
  pointwise [hL, hAl, hP]
theorem hA_at (val : IVec S1x128 1) (q k v : Vec Ideal S128x64 .f32) (mo : Vec Ideal S128x1 .f32) (ao : Vec Ideal S128x64 .f32) (r : Fin 128) (d : Fin 64) :
    hA val q k v mo ao (ix2 r d) = ao (ix2 r d) * Ideal.exp (mo (ix2 r (0 : Fin 1)) - hMax val q k mo (ix2 r (0 : Fin 1)))
      + ∑ x : Fin 128, Ideal.exp (hS val q k (ix2 r x) - hMax val q k mo (ix2 r (0 : Fin 1))) * v (ix2 x d) := by
  pointwise [hA, hAl, hP]
theorem hO_at (rest : Ideal .f32) (iv : IVec S128x1 1) (m l : Vec Ideal S128x1 .f32) (a : Vec Ideal S128x64 .f32) (off os : Vec Ideal S1x64 .f32) (d : Fin 64) :
    hO rest iv m l a off os (ix2 (0 : Fin 1) d) = os (ix2 (0 : Fin 1) d) + ∑ x : Fin 128, Scalar.select (iv (ix2 x (0 : Fin 1)))
      (Ideal.div (a (ix2 x d) + Ideal.exp (0 - m (ix2 x (0 : Fin 1))) * off (ix2 (0 : Fin 1) d)) (l (ix2 x (0 : Fin 1)) + Ideal.exp (0 - m (ix2 x (0 : Fin 1))) * rest)) 0 := by
  pointwise [hO]

/-! ## One block of keys -/

section Step
variable (val : IVec S1x128 1) (q k v : Vec Ideal S128x1024 .f32) (m l : Vec Ideal S128x16 .f32) (a : Vec Ideal S128x1024 .f32)
  (W : Fin 128 → Prop) [DecidablePred W] (S : Fin 128 → Fin 16 → Fin 128 → ℝ) (Vr : Fin 128 → Fin 1024 → ℝ) (Qr Kr : Fin 128 → Fin 1024 → ℝ)
  (M L : Fin 128 → Fin 16 → ℝ) (A : Fin 128 → Fin 1024 → ℝ)
  (hval : ∀ x, val (ix2 (0 : Fin 1) x) = 1#1 ↔ W x)
  (hq : ∀ r c, q (ix2 r c) = ((Qr r c : ℝ) : EReal)) (hk : ∀ r c, k (ix2 r c) = ((Kr r c : ℝ) : EReal)) (hv : ∀ r c, v (ix2 r c) = ((Vr r c : ℝ) : EReal))
  (hSr : ∀ r h x, S r h x = ∑ d, Qr r (RealMath.col h d) * Kr x (RealMath.col h d))
  (hm : ∀ r h, m (ix2 r h) = ((M r h : ℝ) : EReal)) (hl : ∀ r h, l (ix2 r h) = ((L r h : ℝ) : EReal)) (ha : ∀ r c, a (ix2 r c) = ((A r c : ℝ) : EReal))

include hval hq hk hSr in
theorem hS_real (h : Fin 16) (r x : Fin 128) : hS val (sl h q) (sl h k) (ix2 r x) = if W x then ((S r h x : ℝ) : EReal) else ⊥ := by
  rw [hS_at, RealMath.select_eq _ (W x) (hval x), RealMath.ofBits_neg_inf, hSr]
  rw [RealMath.sum_mul_coe _ _ _ _ (fun d => (sl_at h q r d).trans (hq _ _)) (fun d => (sl_at h k x d).trans (hk _ _))]

include hval hq hk hSr hm in
theorem hMax_real (h : Fin 16) (r : Fin 128) : ∃ μ : ℝ, hMax val (sl h q) (sl h k) (colOf h m) (ix2 r (0 : Fin 1)) = ((μ : ℝ) : EReal) := by
  obtain ⟨μ, hμ⟩ := RealMath.step_max W (S r h) (M r h)
  refine ⟨μ, ?_⟩
  rw [hMax_at, colOf_at, hm, RealMath.ofBits_neg_inf, ← hμ]
  simp only [hS_real val q k W S Qr Kr hval hq hk hSr]

include hval hq hk hv hSr hm hl ha in
/-- One block of keys on real maxima, sums and weighted sums. -/
theorem step_real : ∃ μ : Fin 128 → Fin 16 → ℝ, (∀ r h, nextM val q k m (ix2 r h) = ((μ r h : ℝ) : EReal))
    ∧ (∀ r h, nextL val q k m l (ix2 r h) = ((L r h * Real.exp (M r h - μ r h) + ∑ x, (if W x then Real.exp (S r h x - μ r h) else 0) : ℝ) : EReal))
    ∧ (∀ r c, nextA val q k v m a (ix2 r c) = ((A r c * Real.exp (M r (RealMath.hdc c) - μ r (RealMath.hdc c)) + ∑ x, (if W x then Real.exp (S r (RealMath.hdc c) x - μ r (RealMath.hdc c)) else 0) * Vr x c : ℝ) : EReal)) := by
  choose μ hμ using fun (r : Fin 128) (h : Fin 16) => hMax_real val q k m W S Qr Kr M hval hq hk hSr hm h r
  have hp : ∀ r h x, Ideal.exp (hS val (sl h q) (sl h k) (ix2 r x) - ((μ r h : ℝ) : EReal)) = (((if W x then Real.exp (S r h x - μ r h) else 0 : ℝ)) : EReal) := by
    intro r h x
    rw [hS_real val q k W S Qr Kr hval hq hk hSr]
    exact RealMath.step_p W (S r h) (μ r h) x
  have hal : ∀ r h, Ideal.exp (((M r h : ℝ) : EReal) - ((μ r h : ℝ) : EReal)) = ((Real.exp (M r h - μ r h) : ℝ) : EReal) := fun r h => by
    rw [← EReal.coe_sub]; rfl
  refine ⟨μ, fun r h => ?_, fun r h => ?_, fun r c => ?_⟩
  · show hM val (sl h q) (sl h k) (colOf h m) (i128x1 r) = _
    rw [i128x1_eq, hM_at, hμ]
  · show hL val (sl h q) (sl h k) (colOf h m) (colOf h l) (i128x1 r) = _
    rw [i128x1_eq, hL_at, hμ, colOf_at, colOf_at, hl, hm, hal, EReal.coe_add, EReal.coe_mul, RealMath.coe_sum]
    simp only [hp]
  · show hA val (sl (RealMath.hdc c) q) (sl (RealMath.hdc c) k) (sl (RealMath.hdc c) v) (colOf (RealMath.hdc c) m) (blkOf (RealMath.hdc c) a) (i128x64 r (lane c)) = _
    have hc : RealMath.col (RealMath.hdc c) (lane c) = c := Fin.ext (by show c.val / 64 * 64 + c.val % 64 = c.val; omega)
    rw [i128x64_eq, hA_at, hμ, colOf_at, blkOf_at, hc, ha, hm, hal, EReal.coe_add, EReal.coe_mul]
    congr 1
    refine RealMath.sum_mul_coe _ _ _ _ (fun x => hp r _ x) (fun x => ?_)
    rw [sl_at, hc, hv]

end Step

/-! ## All blocks of keys -/

section Trips
variable (lo hi v5 : BitVec 32) (q : Vec Ideal S128x1024 .f32) (KK VV : Vec Ideal S2048x1024 .f32)
  (P : Fin 2048 → Prop) [DecidablePred P] (Q K V : Fin 2048 → Fin 1024 → ℝ) (row : Fin 128 → Fin 2048) (p : ℕ)
  (hq : ∀ r c, q (ix2 r c) = ((Q (row r) c : ℝ) : EReal)) (hK : ∀ r c, KK (ix2 r c) = ((K r c : ℝ) : EReal)) (hV : ∀ r c, VV (ix2 r c) = ((V r c : ℝ) : EReal))

theorem rows_at (n : ℕ) (X : Vec Ideal S2048x1024 .f32) (r : Fin 128) (c : Fin 1024) :
    rows n X (ix2 r c) = X (ix2 (⟨(n + r.val) % 2048, Nat.mod_lt _ (by decide)⟩ : Fin 2048) c) := by
  unfold rows
  congr 1; funext a; match a with | 0 => rfl | 1 => rfl

/-- The running maxima are some reals `μ`, the sums and weighted sums those of `exp (score - μ)` over the keys seen. -/
def Good (n : ℕ) (s : St Ideal) : Prop := ∃ μ : Fin 128 → Fin 16 → ℝ, (∀ r h, s.1 (ix2 r h) = ((μ r h : ℝ) : EReal))
    ∧ (∀ r h, s.2.1 (ix2 r h) = ((∑ t ∈ Finset.range n, ∑ x : Fin 128, (if P (RealMath.bi p t x) then Real.exp (RealMath.scr Q K h (row r) (RealMath.bi p t x) - μ r h) else 0) : ℝ) : EReal))
    ∧ (∀ r c, s.2.2 (ix2 r c) = ((∑ t ∈ Finset.range n, ∑ x : Fin 128, (if P (RealMath.bi p t x) then Real.exp (RealMath.scr Q K (RealMath.hdc c) (row r) (RealMath.bi p t x) - μ r (RealMath.hdc c)) else 0) * V (RealMath.bi p t x) c : ℝ) : EReal))

theorem zero_real16 (j : S128x16.Idx) : (zero16 (F := Ideal)) j = ((0 : ℝ) : EReal) := by
  pointwise [zero16, k1_pay261]
  exact EReal.coe_zero.symm
theorem zero_real1024 (j : S128x1024.Idx) : (zero1024 (F := Ideal)) j = ((0 : ℝ) : EReal) := by
  pointwise [zero1024, k1_pay263]
  exact EReal.coe_zero.symm

theorem rescale (b : Prop) [Decidable b] (s m m' : ℝ) : (if b then Real.exp (s - m) else 0) * Real.exp (m - m') = if b then Real.exp (s - m') else 0 := by
  by_cases h : b
  · rw [if_pos h, if_pos h, ← Real.exp_add]; congr 1; ring
  · rw [if_neg h, if_neg h, zero_mul]

include hq hK hV in
theorem trips2_good (T : ℕ) (hb : ∀ t < T, (blkW v5 t).toNat = 128 * (p + t))
    (hj : ∀ t < T, ∀ x, jval lo hi (blkW v5 t) (ix2 (0 : Fin 1) x) = 1#1 ↔ P (RealMath.bi p t x)) :
    ∀ n ≤ T, Good P Q K V row p n (trips2 lo hi v5 q KK VV (zero16, zero16, zero1024) n)
  | 0, _ => ⟨fun _ _ => 0, fun r h => zero_real16 (ix2 r h), fun r h => by rw [Finset.range_zero, Finset.sum_empty]; exact zero_real16 (ix2 r h),
      fun r c => by rw [Finset.range_zero, Finset.sum_empty]; exact zero_real1024 (ix2 r c)⟩
  | n + 1, hn => by
    obtain ⟨M, hM, hL, hA⟩ := trips2_good T hb hj n (by omega)
    have hbn := hb n (by omega)
    have hk' : ∀ (X : Vec Ideal S2048x1024 .f32) (Xr : Fin 2048 → Fin 1024 → ℝ), (∀ r c, X (ix2 r c) = ((Xr r c : ℝ) : EReal)) →
        ∀ r c, rows (blkW v5 n).toNat X (ix2 r c) = ((Xr (RealMath.bi p n r) c : ℝ) : EReal) := by
      intro X Xr hX r c
      rw [rows_at, hbn]
      exact hX _ _
    obtain ⟨μ, h1, h2, h3⟩ := step_real (jval lo hi (blkW v5 n)) q (rows (blkW v5 n).toNat KK) (rows (blkW v5 n).toNat VV) _ _ _
      (fun x => P (RealMath.bi p n x)) (fun r h x => RealMath.scr Q K h (row r) (RealMath.bi p n x)) (fun x c => V (RealMath.bi p n x) c) (fun r c => Q (row r) c) (fun x c => K (RealMath.bi p n x) c)
      M _ _ (hj n (by omega)) hq (hk' KK K hK) (hk' VV V hV) (fun _ _ _ => rfl) hM hL hA
    refine ⟨μ, h1, fun r h => (h2 r h).trans ?_, fun r c => (h3 r c).trans ?_⟩
    · rw [Finset.sum_range_succ, Finset.sum_mul]
      congr 2
      refine Finset.sum_congr rfl fun t _ => ?_
      rw [Finset.sum_mul]
      exact Finset.sum_congr rfl fun x _ => rescale _ _ _ _
    · rw [Finset.sum_range_succ, Finset.sum_mul]
      congr 2
      refine Finset.sum_congr rfl fun t _ => ?_
      rw [Finset.sum_mul]
      refine Finset.sum_congr rfl fun x _ => ?_
      rw [mul_right_comm, rescale]

/-! ## One block of queries -/

variable (off os : Vec Ideal S1x1024 .f32) (offr osr : Fin 1024 → ℝ) (restr : ℝ)

/-- A block of queries adds the attention of its rows that lie in the segment. -/
theorem out_real (T : ℕ) (hT : p + T ≤ 16) (rest : Ideal .f32) (iv : IVec S128x1 1) (s : St Ideal) (hs : Good P Q K V row p T s)
    (hP : ∀ j, P j → 128 * p ≤ j.val ∧ j.val < 128 * (p + T))
    (hoff : ∀ c, off (ix2 (0 : Fin 1) c) = ((offr c : ℝ) : EReal)) (hoffr : ∀ c, offr c = ∑ j, V j c - ∑ j, if P j then V j c else 0)
    (hrest : rest = ((restr : ℝ) : EReal)) (hrestr : restr = ∑ j, if P j then (0 : ℝ) else 1)
    (hos : ∀ c, os (ix2 (0 : Fin 1) c) = ((osr c : ℝ) : EReal))
    (hiv : ∀ x, iv (ix2 x (0 : Fin 1)) = 1#1 ↔ P (row x)) (c : Fin 1024) :
    nextO rest iv s.1 s.2.1 s.2.2 off os (ix2 (0 : Fin 1) c) = ((osr c + ∑ x, (if P (row x) then RealMath.att P Q K V (row x) c else 0) : ℝ) : EReal) := by
  obtain ⟨M, hM, hL, hA⟩ := hs
  have hc : RealMath.col (RealMath.hdc c) (lane c) = c := Fin.ext (by show c.val / 64 * 64 + c.val % 64 = c.val; omega)
  show hO rest iv (colOf (hd c) s.1) (colOf (hd c) s.2.1) (blkOf (hd c) s.2.2) (rowOf (hd c) off) (rowOf (hd c) os) (i1x64 (lane c)) = _
  have hh : hd c = RealMath.hdc c := rfl
  rw [i1x64_eq, hO_at, hh, rowOf_at, hc, hos, EReal.coe_add, RealMath.coe_sum]
  congr 1
  refine Finset.sum_congr rfl fun x _ => ?_
  rw [RealMath.select_eq _ (P (row x)) (hiv x), rowOf_at, colOf_at, colOf_at, blkOf_at, hc, hoff, hM, hL, hA, hrest]
  by_cases hx : P (row x)
  · rw [if_pos hx, if_pos hx]
    rw [RealMath.sum_blocks p T hT (fun j => if P j then Real.exp (RealMath.scr Q K (RealMath.hdc c) (row x) j - M x (RealMath.hdc c)) else 0)
      (fun j hj => hP j (by by_contra h; exact hj (if_neg h))),
      RealMath.sum_blocks p T hT (fun j => (if P j then Real.exp (RealMath.scr Q K (RealMath.hdc c) (row x) j - M x (RealMath.hdc c)) else 0) * V j c)
      (fun j hj => hP j (by by_contra h; exact hj (by simp only [if_neg h, zero_mul])))]
    have hsoft := RealMath.soft_seg P (fun j => RealMath.scr Q K (RealMath.hdc c) (row x) j) (fun j => V j c) (M x (RealMath.hdc c)) _ _ (offr c) restr rfl rfl (hoffr c) hrestr
    have hden := RealMath.den_pos P (fun j => RealMath.scr Q K (RealMath.hdc c) (row x) j) (M x (RealMath.hdc c)) _ restr (row x) hx rfl hrestr
    have he : Ideal.exp (0 - ((M x (RealMath.hdc c) : ℝ) : EReal)) = ((Real.exp (0 - M x (RealMath.hdc c)) : ℝ) : EReal) := by
      rw [← EReal.coe_zero, ← EReal.coe_sub]; rfl
    rw [he, ← EReal.coe_mul, ← EReal.coe_mul, ← EReal.coe_add, ← EReal.coe_add, RealMath.div_coe _ _ hden]
    exact congrArg _ hsoft
  · rw [if_neg hx, if_neg hx]
    exact EReal.coe_zero.symm

end Trips

end Cert.Proof.Run

end
-- ==== Proof.ScTile.lean ====
/-
  One tile's task of the bounds kernel, run once at a symbolic (SparseCore, tile) pair: it fetches its 64 segment
  numbers and the sought number, counts those below it and those not above it, and writes its two rows.
-/
module

public import proofs.«01_k».proof.Proof.Base

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The buffers -/

abbrev xLoc (d : Dev nD) : Loc nD τ sig := (SparseCore.T d).loc main_arg1
abbrev sLoc (d : Dev nD) : Loc nD τ sig := (SparseCore.T d).loc main_v1
abbrev aLoc (d : Dev nD) : Loc nD τ sig := (SparseCore.T d).loc main_v2_0
abbrev bLoc (d : Dev nD) : Loc nD τ sig := (SparseCore.T d).loc main_v2_1

abbrev xV : Memref sig .scVector .hbm S2048 .i32 := Memref.whole main_arg1_scv
abbrev sV : Memref sig .scVector .hbm S16 .i32 := Memref.whole main_v1_scv
abbrev aV : Memref sig .scVector .hbm S32x16 .i32 := Memref.whole main_v2_0_scv
abbrev bV : Memref sig .scVector .hbm S32x16 .i32 := Memref.whole main_v2_1_scv
abbrev tX : Memref sig .scVector .vmem S64 .i32 := Memref.whole cc0_scratch0
abbrev tS : Memref sig .scVector .vmem S16 .i32 := Memref.whole cc0_scratch1
abbrev tA : Memref sig .scVector .vmem S16 .i32 := Memref.whole cc0_scratch2
abbrev tB : Memref sig .scVector .vmem S16 .i32 := Memref.whole cc0_scratch3

/-- The tile's grid coordinates. -/
def coordsV (c : Fin (grid0.bound 0)) (s : Fin (grid0.bound 1)) : grid0.Coords :=
  fun | 0 => c | 1 => s | ⟨_ + 2, h⟩ => absurd h (Nat.not_lt.2 (Nat.le_add_left _ _))

abbrev cV (L : grid0.Coords) : Fin τ.nSC := (L 0).castLE hcore0
abbrev jV (L : grid0.Coords) : Fin τ.nSub := (L 1).castLE hsub0

abbrev xRowK (L : grid0.Coords) : Memref sig .scVector .hbm S64 .i32 := (xV).slice (Rect.unit (s := S2048) (k0_off1 L) S64.size (k0_off1_inb L)) (fun _ => rfl)
abbrev aRowK (L : grid0.Coords) : Memref sig .scVector .hbm S16 .i32 :=
  ((aV).slice (Rect.unit (s := S32x16) (k0_off2 L) S1x16.size (k0_off2_inb L)) (fun _ => rfl)).squeeze S16 squeezes_S1x16_S16
abbrev bRowK (L : grid0.Coords) : Memref sig .scVector .hbm S16 .i32 :=
  ((bV).slice (Rect.unit (s := S32x16) (k0_off2 L) S1x16.size (k0_off2_inb L)) (fun _ => rfl)).squeeze S16 squeezes_S1x16_S16

abbrev xSet (L : grid0.Coords) : Finset S2048.Idx := (xRowK L).view.set
abbrev aSet (L : grid0.Coords) : Finset S32x16.Idx := (aRowK L).view.set
abbrev bSet (L : grid0.Coords) : Finset S32x16.Idx := (bRowK L).view.set

/-- The share of the sought number's vector one tile holds. -/
def tileShare (L : grid0.Coords) : PosShare TreeShare :=
  Transfers.dealOf (Transfers.dealOf fullShare (Finset.univ : Finset (Fin 2)) ⟨(L 0).val, (L 0).isLt⟩) (Finset.univ : Finset (Fin 16)) ⟨(L 1).val, (L 1).isLt⟩

abbrev cell0 (d : Dev nD) (c : Fin τ.nSC) (i : Fin τ.nSub) : GSem nD τ sig := (V d c i, .dma cc0_scoped0.sem)
abbrev cell1 (d : Dev nD) (c : Fin τ.nSC) (i : Fin τ.nSub) : GSem nD τ sig := (V d c i, .dma cc0_scoped1.sem)
abbrev cell2 (d : Dev nD) (c : Fin τ.nSC) (i : Fin τ.nSub) : GSem nD τ sig := (V d c i, .dma cc0_scoped2.sem)
abbrev cell3 (d : Dev nD) (c : Fin τ.nSC) (i : Fin τ.nSub) : GSem nD τ sig := (V d c i, .dma cc0_scoped3.sem)

section Tile

variable (d : Dev nD) (L : grid0.Coords)

abbrev xPts (f : Buf (Elt F) (xLoc d)) : sProp 𝕄 := xLoc d ↦[xSet L]{fullShare} f
abbrev sPts (f : Buf (Elt F) (sLoc d)) : sProp 𝕄 := sLoc d ↦{tileShare L} f
abbrev aPts (f : Buf (Elt F) (aLoc d)) : sProp 𝕄 := aLoc d ↦[aSet L]{fullShare} f
abbrev bPts (f : Buf (Elt F) (bLoc d)) : sProp 𝕄 := bLoc d ↦[bSet L]{fullShare} f

theorem pts_x (f : Buf (Elt F) (xLoc d)) : ((xRowK L).view.loc (V d (cV L) (jV L)) ↦[(xRowK L).view.set]{fullShare} f : sProp 𝕄) = xPts d L f := rfl
theorem pts_s (f : Buf (Elt F) (sLoc d)) : ((sV).view.loc (V d (cV L) (jV L)) ↦{tileShare L} f : sProp 𝕄) = sPts d L f := rfl
theorem pts_a (f : Buf (Elt F) (aLoc d)) : ((aRowK L).view.loc (V d (cV L) (jV L)) ↦[(aRowK L).view.set]{fullShare} f : sProp 𝕄) = aPts d L f := rfl
theorem pts_b (f : Buf (Elt F) (bLoc d)) : ((bRowK L).view.loc (V d (cV L) (jV L)) ↦[(bRowK L).view.set]{fullShare} f : sProp 𝕄) = bPts d L f := rfl
theorem pts_tX (f : Buf (Elt F) ((V d (cV L) (jV L)).loc cc0_scratch0)) : ((tX).view.loc (V d (cV L) (jV L)) ↦{fullShare} f : sProp 𝕄) = (V d (cV L) (jV L)).loc cc0_scratch0 ↦{fullShare} f := rfl
theorem pts_tS (f : Buf (Elt F) ((V d (cV L) (jV L)).loc cc0_scratch1)) : ((tS).view.loc (V d (cV L) (jV L)) ↦{fullShare} f : sProp 𝕄) = (V d (cV L) (jV L)).loc cc0_scratch1 ↦{fullShare} f := rfl
theorem pts_tA (f : Buf (Elt F) ((V d (cV L) (jV L)).loc cc0_scratch2)) : ((tA).view.loc (V d (cV L) (jV L)) ↦{fullShare} f : sProp 𝕄) = (V d (cV L) (jV L)).loc cc0_scratch2 ↦{fullShare} f := rfl
theorem pts_tB (f : Buf (Elt F) ((V d (cV L) (jV L)).loc cc0_scratch3)) : ((tB).view.loc (V d (cV L) (jV L)) ↦{fullShare} f : sProp 𝕄) = (V d (cV L) (jV L)).loc cc0_scratch3 ↦{fullShare} f := rfl

/-- The task's four transfer counters among its own. -/
theorem ownSems0_V :
    (ownSems0 (V d (cV L) (jV L)) : sProp 𝕄)
      = iprop(semVal (cell0 d (cV L) (jV L)) 0 ∗ semVal (cell1 d (cV L) (jV L)) 0 ∗ semVal (cell2 d (cV L) (jV L)) 0 ∗ semVal (cell3 d (cV L) (jV L)) 0
          ∗ bigSep (((((ownCells (V d (cV L) (jV L))).erase (cell0 d (cV L) (jV L))).erase (cell1 d (cV L) (jV L))).erase (cell2 d (cV L) (jV L))).erase (cell3 d (cV L) (jV L))) fun g => semVal g 0) := by
  unfold SparseCore.Cfg.ownSems0
  have hm : ∀ s : DmaSem sig, (SemLoc.dma s : SemLoc sig).isScoped .scVector = true → ((V d (cV L) (jV L), SemLoc.dma s) : GSem nD τ sig) ∈ ownCells (V d (cV L) (jV L)) :=
    fun s h => mem_ownCells.mpr ⟨rfl, h⟩
  have hne : ∀ s s' : DmaSem sig, s ≠ s' → ((V d (cV L) (jV L), SemLoc.dma s) : GSem nD τ sig) ≠ (V d (cV L) (jV L), SemLoc.dma s') :=
    fun s s' h e => h (SemLoc.dma.inj (Prod.mk.inj e).2)
  rw [SparseCore.bigSep_erase' (hm cc0_scoped0.sem (by decide)),
    SparseCore.bigSep_erase' (Finset.mem_erase.mpr ⟨hne cc0_scoped1.sem cc0_scoped0.sem (by decide), hm cc0_scoped1.sem (by decide)⟩),
    SparseCore.bigSep_erase' (Finset.mem_erase.mpr ⟨hne cc0_scoped2.sem cc0_scoped1.sem (by decide), Finset.mem_erase.mpr ⟨hne cc0_scoped2.sem cc0_scoped0.sem (by decide), hm cc0_scoped2.sem (by decide)⟩⟩),
    SparseCore.bigSep_erase' (Finset.mem_erase.mpr ⟨hne cc0_scoped3.sem cc0_scoped2.sem (by decide), Finset.mem_erase.mpr ⟨hne cc0_scoped3.sem cc0_scoped1.sem (by decide), Finset.mem_erase.mpr ⟨hne cc0_scoped3.sem cc0_scoped0.sem (by decide), hm cc0_scoped3.sem (by decide)⟩⟩⟩)]

abbrev scr (r : Ref sig .scVector) : DevRef τ sig := (Proc.scVector (cV L) (jV L)).devRef r

/-- The task's four scratch buffers among its own. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ bigSep (((((ownRefs (τ := τ) (.scVector (cV L) (jV L))).erase (scr L cc0_scratch0)).erase (scr L cc0_scratch1)).erase (scr L cc0_scratch2)).erase (scr L cc0_scratch3))
              fun b => iprop(∃ f, ((d, b) : Loc nD τ sig) ↦{fullShare} f)) := by
  unfold SparseCore.Cfg.ownBufs
  have hne : ∀ r r' : Ref sig .scVector, r ≠ r' → scr L r ≠ scr L r' := fun r r' h e => h (Proc.devRef_injective _ e)
  refine (SparseCore.bigSep_erase' (SparseCore.Cfg.mem_ownRefs_of_owner (p := Proc.scVector (cV L) (jV L)) (b := scr L cc0_scratch0) rfl)).trans ?_
  rw [SparseCore.bigSep_erase' (Finset.mem_erase.mpr ⟨hne cc0_scratch1 cc0_scratch0 (by decide), SparseCore.Cfg.mem_ownRefs_of_owner (p := Proc.scVector (cV L) (jV L)) (b := scr L cc0_scratch1) rfl⟩),
    SparseCore.bigSep_erase' (Finset.mem_erase.mpr ⟨hne cc0_scratch2 cc0_scratch1 (by decide), Finset.mem_erase.mpr ⟨hne cc0_scratch2 cc0_scratch0 (by decide), SparseCore.Cfg.mem_ownRefs_of_owner (p := Proc.scVector (cV L) (jV L)) (b := scr L cc0_scratch2) rfl⟩⟩),
    SparseCore.bigSep_erase' (Finset.mem_erase.mpr ⟨hne cc0_scratch3 cc0_scratch2 (by decide), Finset.mem_erase.mpr ⟨hne cc0_scratch3 cc0_scratch1 (by decide), Finset.mem_erase.mpr ⟨hne cc0_scratch3 cc0_scratch0 (by decide), SparseCore.Cfg.mem_ownRefs_of_owner (p := Proc.scVector (cV L) (jV L)) (b := scr L cc0_scratch3) rfl⟩⟩⟩)]

/-! ## What a tile computes -/

/-- One if the comparison holds, else zero. -/
def oneIf (b : BitVec 1) : BitVec 32 := Scalar.select b 1#32 0#32

/-- Lane `l` of the `t`-th vector of a tile's numbers; of the whole list's row `w`. -/
def at64 (t : Fin 4) (l : Fin 16) : S64.Idx := fun | 0 => (⟨16 * t.val + l.val, by have := t.isLt; have := l.isLt; omega⟩ : Fin 64)
def at2048 (w : Fin 32) (k : S64.Idx) : S2048.Idx :=
  fun | 0 => (⟨64 * w.val + (k 0).val, by have h : (k 0).val < 64 := (k 0).isLt; have := w.isLt; omega⟩ : Fin 2048)

/-- One lane's count of a tile's numbers that compare with the sought one, in the order the tile adds. -/
def laneCount (p : CmpIPredicate) (w : S64.Idx → BitVec 32) (s : S16.Idx → BitVec 32) (l : S16.Idx) : BitVec 32 :=
  0#32 + oneIf (Scalar.cmpi p (w (at64 0 (l 0))) (s l)) + oneIf (Scalar.cmpi p (w (at64 1 (l 0))) (s l))
    + oneIf (Scalar.cmpi p (w (at64 2 (l 0))) (s l)) + oneIf (Scalar.cmpi p (w (at64 3 (l 0))) (s l))

/-- The counts of the whole list, tile by tile, lane by lane. -/
def countsOf (p : CmpIPredicate) (x : S2048.Idx → BitVec 32) (s : S16.Idx → BitVec 32) : S32x16.Idx → BitVec 32 := fun j =>
  laneCount p (fun k => x (at2048 (j 0) k)) s (fun | 0 => (j 1 : Fin 16))

/-- Which row of the result a tile writes. -/
def wid (L : grid0.Coords) : Fin 32 := ⟨2 * (L 1).val + (L 0).val, by have h0 : (L 0).val < 2 := (L 0).isLt; have h1 : (L 1).val < 16 := (L 1).isLt; omega⟩

theorem xRow_emb (k : S64.Idx) : (xRowK L).view.emb k = at2048 (wid L) k := by
  funext a
  match a with
  | 0 =>
    refine Fin.ext ?_
    show k0_off1 L 0 + 1 * (k 0).val = 64 * (2 * (L 1).val + (L 0).val) + (k 0).val
    rw [k0_off1_eq]
    show 128 * (L 1).val + 64 * (L 0).val + 1 * (k 0).val = _
    omega

theorem tileRow_emb (y : S16.Idx) :
    (((Rect.unit (s := S32x16) (k0_off2 L) S1x16.size (k0_off2_inb L)).emb (Shape.reshapeEquiv squeezes_S1x16_S16.numel_eq y) 0 : Fin 32) = wid L)
      ∧ ((Rect.unit (s := S32x16) (k0_off2 L) S1x16.size (k0_off2_inb L)).emb (Shape.reshapeEquiv squeezes_S1x16_S16.numel_eq y) 1 : Fin 16) = y 0 := by
  have e2 : Shape.reshapeEquiv (s := S1x16) squeezes_S1x16_S16.numel_eq y = Fin.cons ⟨0, Nat.one_pos⟩ y := Shape.reshapeEquiv_cons_one _ y
  rw [e2]
  constructor <;> refine Fin.ext ?_
  · show k0_off2 L 0 + 1 * 0 = 2 * (L 1).val + (L 0).val
    rw [k0_off2_eq]; rfl
  · show k0_off2 L 1 + 1 * (y 0).val = (y 0).val
    rw [k0_off2_eq]; show 0 + 1 * (y 0).val = _; omega

theorem aRow_emb (y : S16.Idx) : ((aRowK L).view.emb y 0 : Fin 32) = wid L ∧ ((aRowK L).view.emb y 1 : Fin 16) = y 0 := tileRow_emb L y
theorem bRow_emb (y : S16.Idx) : ((bRowK L).view.emb y 0 : Fin 32) = wid L ∧ ((bRowK L).view.emb y 1 : Fin 16) = y 0 := tileRow_emb L y

/-- A row of counts. -/
theorem row_value (p : CmpIPredicate) (x : Buf (Elt F) (xLoc d)) (s : Buf (Elt F) (sLoc d)) (y : S16.Idx) (j : S32x16.Idx) (h0 : (j 0 : Fin 32) = wid L) (h1 : (j 1 : Fin 16) = y 0) :
    laneCount p (View.read (Elt F) (xRowK L).view x) s y = countsOf p x s j := by
  unfold countsOf
  have e : (fun | 0 => (j 1 : Fin 16) : S16.Idx) = y := funext fun | 0 => h1
  rw [h0, e]
  have hx : View.read (Elt F) (xRowK L).view x = fun k => x (at2048 (wid L) k) :=
    funext fun k => (show _ = x ((xRowK L).view.emb k) from rfl).trans (congrArg x (xRow_emb L k))
  rw [hx]

variable [FloatOps F]

theorem read_num (f : (tX).view.ty.Contents (Elt F)) (w : S64.Idx → BitVec 32) (o : ℕ) (t : Fin 4) (ho : o = 16 * t.val) (h) (l : S16.Idx) :
    View.readAt (Elt F) (tX).view (Rect.unit (s := S64) ![o] S16.size h).toLoadRect (View.write (Elt F) (tX).view f w Finset.univ) l = w (at64 t (l 0)) := by
  subst ho
  have e : View.read (Elt F) (tX).view (View.write (Elt F) (tX).view f w Finset.univ) = w := View.read_write_univ _ _
  refine (congrFun e ((Rect.unit (s := S64) ![16 * t.val] S16.size h).emb l)).trans ?_
  exact congrArg w (funext fun | 0 => Fin.ext (by show 16 * t.val + 1 * (l 0).val = 16 * t.val + (l 0).val; omega))

theorem read_sought (f : (tS).view.ty.Contents (Elt F)) (w : S16.Idx → BitVec 32) (h) (l : S16.Idx) :
    View.readAt (Elt F) (tS).view (Rect.unit (s := S16) ![0] S16.size h).toLoadRect (View.write (Elt F) (tS).view f w Finset.univ) l = w l := by
  have e : View.read (Elt F) (tS).view (View.write (Elt F) (tS).view f w Finset.univ) = w := View.read_write_univ _ _
  refine (congrFun e ((Rect.unit (s := S16) ![0] S16.size h).emb l)).trans ?_
  exact congrArg w (funext fun | 0 => Fin.ext (by show 0 + 1 * (l 0).val = (l 0).val; omega))

/-- The two stored vectors, lane by lane. -/
theorem below_at (v3 v7 v19 v31 v43 : Vec F S16 .i32) (y : S16.Idx) :
    k0_pay9 (k0_pay1 v3) (k0_pay4 v3 v7 v19) (k0_pay7 v3 v31) v43 y
      = 0#32 + oneIf (Scalar.cmpi .slt (v7 y) (v3 y)) + oneIf (Scalar.cmpi .slt (v19 y) (v3 y)) + oneIf (Scalar.cmpi .slt (v31 y) (v3 y)) + oneIf (Scalar.cmpi .slt (v43 y) (v3 y)) := by
  unfold k0_pay9 k0_pay8 k0_pay7 k0_pay6 k0_pay4 k0_pay3 k0_pay2 k0_pay1
  simp only [shapeCast_self]
  rfl
theorem upto_at (v3 v7 v19 v31 v43 : Vec F S16 .i32) (y : S16.Idx) :
    k0_pay10 (k0_pay1 v3) (k0_pay5 v3 v7 v19) (k0_pay6 v31) v43 y
      = 0#32 + oneIf (Scalar.cmpi .sle (v7 y) (v3 y)) + oneIf (Scalar.cmpi .sle (v19 y) (v3 y)) + oneIf (Scalar.cmpi .sle (v31 y) (v3 y)) + oneIf (Scalar.cmpi .sle (v43 y) (v3 y)) := by
  unfold k0_pay10 k0_pay8 k0_pay6 k0_pay5 k0_pay3 k0_pay2 k0_pay1
  simp only [shapeCast_self]
  rfl

theorem below_eq (f : (tX).view.ty.Contents (Elt F)) (g : (tS).view.ty.Contents (Elt F)) (w : S64.Idx → BitVec 32) (s : S16.Idx → BitVec 32) (l : S16.Idx) :
    k0_pay9 (k0_pay1 (View.readAt (Elt F) (tS).view (Rect.unit (s := S16) ![0] S16.size inb_S16_S16_0).toLoadRect (View.write (Elt F) (tS).view g s Finset.univ))) (k0_pay4 (View.readAt (Elt F) (tS).view (Rect.unit (s := S16) ![0] S16.size inb_S16_S16_0).toLoadRect (View.write (Elt F) (tS).view g s Finset.univ)) (View.readAt (Elt F) (tX).view (Rect.unit (s := S64) ![0] S16.size inb_S64_S16_0).toLoadRect (View.write (Elt F) (tX).view f w Finset.univ)) (View.readAt (Elt F) (tX).view (Rect.unit (s := S64) ![16] S16.size inb_S64_S16_16).toLoadRect (View.write (Elt F) (tX).view f w Finset.univ))) (k0_pay7 (View.readAt (Elt F) (tS).view (Rect.unit (s := S16) ![0] S16.size inb_S16_S16_0).toLoadRect (View.write (Elt F) (tS).view g s Finset.univ)) (View.readAt (Elt F) (tX).view (Rect.unit (s := S64) ![32] S16.size inb_S64_S16_32).toLoadRect (View.write (Elt F) (tX).view f w Finset.univ))) (View.readAt (Elt F) (tX).view (Rect.unit (s := S64) ![48] S16.size inb_S64_S16_48).toLoadRect (View.write (Elt F) (tX).view f w Finset.univ)) l = laneCount .slt w s l := by
  refine (below_at _ _ _ _ _ l).trans ?_
  unfold laneCount
  rw [read_num f w 0 0 rfl, read_num f w 16 1 rfl, read_num f w 32 2 rfl, read_num f w 48 3 rfl, read_sought g s]

theorem upto_eq (f : (tX).view.ty.Contents (Elt F)) (g : (tS).view.ty.Contents (Elt F)) (w : S64.Idx → BitVec 32) (s : S16.Idx → BitVec 32) (l : S16.Idx) :
    k0_pay10 (k0_pay1 (View.readAt (Elt F) (tS).view (Rect.unit (s := S16) ![0] S16.size inb_S16_S16_0).toLoadRect (View.write (Elt F) (tS).view g s Finset.univ))) (k0_pay5 (View.readAt (Elt F) (tS).view (Rect.unit (s := S16) ![0] S16.size inb_S16_S16_0).toLoadRect (View.write (Elt F) (tS).view g s Finset.univ)) (View.readAt (Elt F) (tX).view (Rect.unit (s := S64) ![0] S16.size inb_S64_S16_0).toLoadRect (View.write (Elt F) (tX).view f w Finset.univ)) (View.readAt (Elt F) (tX).view (Rect.unit (s := S64) ![16] S16.size inb_S64_S16_16).toLoadRect (View.write (Elt F) (tX).view f w Finset.univ))) (k0_pay6 (View.readAt (Elt F) (tX).view (Rect.unit (s := S64) ![32] S16.size inb_S64_S16_32).toLoadRect (View.write (Elt F) (tX).view f w Finset.univ))) (View.readAt (Elt F) (tX).view (Rect.unit (s := S64) ![48] S16.size inb_S64_S16_48).toLoadRect (View.write (Elt F) (tX).view f w Finset.univ)) l = laneCount .sle w s l := by
  refine (upto_at _ _ _ _ _ l).trans ?_
  unfold laneCount
  rw [read_num f w 0 0 rfl, read_num f w 16 1 rfl, read_num f w 32 2 rfl, read_num f w 48 3 rfl, read_sought g s]

theorem emb16 (h) (x : S16.Idx) : (Rect.unit (s := S16) ![0] S16.size h).emb x = x := funext fun | 0 => Fin.ext (by show 0 + 1 * (x 0).val = (x 0).val; omega)

theorem tile_body (hF : (K (F := F)).Facts) (O : CellTallies nD τ sig (HIx 1)) (W : Waits sig (HIx 1)) (hO : ∀ g, O g none = 0)
    (x : Buf (Elt F) (xLoc d)) (s : Buf (Elt F) (sLoc d)) (a : Buf (Elt F) (aLoc d)) (b : Buf (Elt F) (bLoc d)) :
    iprop(levAts (K (F := F)).L (K (F := F)).lev ∗ emp
        ∗ (xPts d L x ∗ sPts d L s ∗ aPts d L a ∗ bPts d L b)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_bounds_kernel L xV (Memref.isWhole_whole _) sV (Memref.isWhole_whole _) aV (Memref.isWhole_whole _) bV (Memref.isWhole_whole _)
            tX (Memref.isWhole_whole _) tS (Memref.isWhole_whole _) tA (Memref.isWhole_whole _) tB (Memref.isWhole_whole _)
            cc0_scoped0 cc0_scoped1 cc0_scoped2 cc0_scoped3)
          fun _ => iprop((xPts d L x ∗ sPts d L s ∗ aPts d L (countsOf .slt x s) ∗ bPts d L (countsOf .sle x s))
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [(K (F := F)).scopedBufs_V hF d (cV L) (jV L), SparseCore.Cfg.scopedSems0_V (Val := Elt F) d (cV L) (jV L), ownSems0_V, ownBufs_V]
  iintro ⟨#Hlv, -, ⟨Hx, Hs, Ha, Hb⟩, ⟨⟨%f0, H0⟩, ⟨%f1, H1⟩, ⟨%f2, H2⟩, ⟨%f3, H3⟩, Hbufs⟩, ⟨Hc0, Hc1, Hc2, Hc3, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hx' := (Entails.of_eq (pts_x (F := F) d L _).symm) $$ Hx
  ihave Hs' := (Entails.of_eq (pts_s (F := F) d L _).symm) $$ Hs
  ihave Ha' := (Entails.of_eq (pts_a (F := F) d L _).symm) $$ Ha
  ihave Hb' := (Entails.of_eq (pts_b (F := F) d L _).symm) $$ Hb
  ihave H0' := (Entails.of_eq (pts_tX (F := F) d L _).symm) $$ H0
  ihave H1' := (Entails.of_eq (pts_tS (F := F) d L _).symm) $$ H1
  ihave H2' := (Entails.of_eq (pts_tA (F := F) d L _).symm) $$ H2
  ihave H3' := (Entails.of_eq (pts_tB (F := F) d L _).symm) $$ H3
  sl_unfold [cc0_bounds_kernel, k0_part1, k0_part2]
  sl_exec
  sl_step
  have keyA : ∀ y : S16.Idx, View.read (Elt F) (tA).view ((tA).view.writes (Elt F) f2 (tile_body.sl.H2'_1 d L x s f0 f1)) y
      = laneCount .slt (View.read (Elt F) (xRowK L).view x) s y := by
    intro y
    refine View.read_writes_apply_of_pieces (Val := Elt F) (e := .i32) _ _ (laneCount .slt (View.read (Elt F) (xRowK L).view x) s) _ ?_ y ?_
    · refine List.forall_mem_cons.mpr ⟨fun l => ?_, List.forall_mem_nil _⟩
      exact (below_eq f0 f1 (View.read (Elt F) (xRowK L).view x) s l).trans (congrArg (laneCount .slt (View.read (Elt F) (xRowK L).view x) s) (emb16 inb_S16_S16_0 l).symm)
    · exact View.cover_of_tiled (s := S16) _ S16.size rfl y
  have keyB : ∀ y : S16.Idx, View.read (Elt F) (tB).view ((tB).view.writes (Elt F) f3 (tile_body.sl.H3'_1 d L x s f0 f1)) y
      = laneCount .sle (View.read (Elt F) (xRowK L).view x) s y := by
    intro y
    refine View.read_writes_apply_of_pieces (Val := Elt F) (e := .i32) _ _ (laneCount .sle (View.read (Elt F) (xRowK L).view x) s) _ ?_ y ?_
    · refine List.forall_mem_cons.mpr ⟨fun l => ?_, List.forall_mem_nil _⟩
      exact (upto_eq f0 f1 (View.read (Elt F) (xRowK L).view x) s l).trans (congrArg (laneCount .sle (View.read (Elt F) (xRowK L).view x) s) (emb16 inb_S16_S16_0 l).symm)
    · exact View.cover_of_tiled (s := S16) _ S16.size rfl y
  have rowA : (aLoc d ↦[aSet L]{fullShare} (aRowK L).view.writes (Elt F) a [⟨Rect.whole S16, tile_body.sl.dma9 d L x s f0 f1 f2⟩] : sProp 𝕄)
      = aPts d L (countsOf .slt x s) := by
    refine pointsTo_congr fun i hi => ?_
    obtain ⟨y, -, rfl⟩ := Finset.mem_map.mp hi
    refine Eq.trans ?_ ((keyA y).trans (row_value d L .slt x s y _ (aRow_emb L y).1 (aRow_emb L y).2))
    have r := View.read_writes_cons_emb (Val := Elt F) (aRowK L).view a (Rect.whole S16) (tile_body.sl.dma9 d L x s f0 f1 f2) [] y
    rw [show (Rect.whole S16).emb y = y from funext fun a => Fin.ext (by show 0 + 1 * (y a).val = _; omega)] at r
    exact r
  have rowB : (bLoc d ↦[bSet L]{fullShare} (bRowK L).view.writes (Elt F) b [⟨Rect.whole S16, tile_body.sl.dma9_1 d L x s f0 f1 f3⟩] : sProp 𝕄)
      = bPts d L (countsOf .sle x s) := by
    refine pointsTo_congr fun i hi => ?_
    obtain ⟨y, -, rfl⟩ := Finset.mem_map.mp hi
    refine Eq.trans ?_ ((keyB y).trans (row_value d L .sle x s y _ (bRow_emb L y).1 (bRow_emb L y).2))
    have r := View.read_writes_cons_emb (Val := Elt F) (bRowK L).view b (Rect.whole S16) (tile_body.sl.dma9_1 d L x s f0 f1 f3) [] y
    rw [show (Rect.whole S16).emb y = y from funext fun a => Fin.ext (by show 0 + 1 * (y a).val = _; omega)] at r
    exact r
  isplitl [Hx' Hs' Ha' Hb']
  · isplitl [Hx']; · iapply (Entails.of_eq (pts_x (F := F) d L _)); iexact Hx'
    isplitl [Hs']; · iapply (Entails.of_eq (pts_s (F := F) d L _)); iexact Hs'
    isplitl [Ha']; · iapply (Entails.of_eq rowA); iapply (Entails.of_eq (pts_a (F := F) d L _)); iexact Ha'
    iapply (Entails.of_eq rowB); iapply (Entails.of_eq (pts_b (F := F) d L _)); iexact Hb'
  isplitl [H0' H1' H2' H3' Hbufs]
  · isplitl [H0']; · iexists _; iexact H0'
    isplitl [H1']; · iexists _; iexact H1'
    isplitl [H2']; · iexists _; iexact H2'
    isplitl [H3']; · iexists _; iexact H3'
    iexact Hbufs
  isplitl [Hc0 Hc1 Hc2 Hc3 Hsems]
  · isplitl [Hc0]; · iexact Hc0
    isplitl [Hc1]; · iexact Hc1
    isplitl [Hc2]; · iexact Hc2
    isplitl [Hc3]; · iexact Hc3
    iexact Hsems
  iexists _; isplitr
  swap; · iexact HO
  ipureintro; intro p _
  rcases p.2 with _ | q
  · exact .inr (.inl rfl)
  · exact .inr (.inr (congrArg some (Subsingleton.elim q 0)))

end Tile

end Cert.Proof.Run
end
-- ==== Proof.Count.lean ====
/-
  The counts' sums: how many positions come before the segment, and how many come no later than its end.
-/
module

public import proofs.«01_k».proof.Proof.ScTile
public import proofs.«01_k».proof.Proof.Tc.Data
public import Idealize.ShloMosaic.Lib.Pointwise
public import Idealize.ShloMosaic.Lib.IdealHost

@[expose] public section

set_option maxRecDepth 8192

noncomputable section

namespace Cert.Proof.Run

open Cert.KernelIdeal Cert.KernelIdeal.Gen

open Idealize.ShloMosaic

variable {F : FTy → Type} [FloatOps F]

/-! ## Words -/

theorem fdivW_eq : ∀ n : Fin 2048, fdivW (BitVec.ofNat 32 n.val) = BitVec.ofNat 32 (n.val / 128) := by decide +kernel

theorem fdivW_of (w : BitVec 32) (h : w.toNat < 2048) : fdivW w = BitVec.ofNat 32 (w.toNat / 128) := by
  have := fdivW_eq ⟨w.toNat, h⟩
  rwa [show BitVec.ofNat 32 w.toNat = w from BitVec.eq_of_toNat_eq (by rw [BitVec.toNat_ofNat]; exact Nat.mod_eq_of_lt w.isLt)] at this

theorem ofBool_one (b : Bool) : BitVec.ofBool b = 1#1 ↔ b = true := by cases b <;> decide

/-- One for each position whose number compares with `s`. -/
def one (p : CmpIPredicate) (x : S2048.Idx → BitVec 32) (s : BitVec 32) (j : Fin 2048) : ℕ := if IntOp.cmpi p (x (ix1 j)) s = 1#1 then 1 else 0

theorem oneIf_eq (b : BitVec 1) : oneIf b = BitVec.ofNat 32 (if b = 1#1 then 1 else 0) := by revert b; decide

theorem ofNat_sum {ι : Type} [DecidableEq ι] (S : Finset ι) (f : ι → ℕ) : S.fold IntOp.addi 0#32 (fun i => BitVec.ofNat 32 (f i)) = BitVec.ofNat 32 (∑ i ∈ S, f i) := by
  induction S using Finset.induction_on with
  | empty => rfl
  | insert a S ha ih =>
    rw [Finset.fold_insert ha, Finset.sum_insert ha, ih]
    exact (BitVec.ofNat_add ..).symm

/-- Position `q` of lane `l` of row `w`. -/
def posOf (w : Fin 32) (l : Fin 16) (q : Fin 4) : Fin 2048 := ⟨64 * w.val + (16 * q.val + l.val), by have := w.isLt; have := l.isLt; have := q.isLt; omega⟩

theorem at_eq (w : Fin 32) (l : Fin 16) (q : Fin 4) : at2048 w (at64 q l) = ix1 (posOf w l q) := by
  funext a; match a with | 0 => rfl

theorem countsOf_at (p : CmpIPredicate) (x : S2048.Idx → BitVec 32) (s : S16.Idx → BitVec 32) (n : BitVec 32) (hs : ∀ l, s l = n) (w : Fin 32) (l : Fin 16) :
    countsOf p x s (ix2 w l) = BitVec.ofNat 32 (∑ q : Fin 4, one p x n (posOf w l q)) := by
  have h : ∀ q : Fin 4, oneIf (Scalar.cmpi p (x (at2048 w (at64 q l))) (s (fun | 0 => (l : Fin 16)))) = BitVec.ofNat 32 (one p x n (posOf w l q)) := fun q => by
    rw [hs, at_eq, oneIf_eq]; rfl
  show 0#32 + oneIf (Scalar.cmpi p (x (at2048 w (at64 0 l))) (s (fun | 0 => (l : Fin 16)))) + oneIf (Scalar.cmpi p (x (at2048 w (at64 1 l))) (s (fun | 0 => (l : Fin 16))))
    + oneIf (Scalar.cmpi p (x (at2048 w (at64 2 l))) (s (fun | 0 => (l : Fin 16)))) + oneIf (Scalar.cmpi p (x (at2048 w (at64 3 l))) (s (fun | 0 => (l : Fin 16)))) = _
  rw [h, h, h, h, BitVec.zero_add, ← BitVec.ofNat_add, ← BitVec.ofNat_add, ← BitVec.ofNat_add, Fin.sum_univ_four]

theorem sum_pos (f : Fin 2048 → ℕ) : ∑ p : Fin 32 × Fin 16, ∑ q : Fin 4, f (posOf p.1 p.2 q) = ∑ j, f j := by
  rw [← Finset.univ_product_univ, ← Finset.sum_product' (f := fun (p : Fin 32 × Fin 16) (q : Fin 4) => f (posOf p.1 p.2 q)), Finset.univ_product_univ, Finset.univ_product_univ]
  refine Finset.sum_nbij' (fun z => posOf z.1.1 z.1.2 z.2)
    (fun j => ((⟨j.val / 64, by have := j.isLt; omega⟩, ⟨j.val % 16, by omega⟩), ⟨j.val % 64 / 16, by omega⟩))
    (fun _ _ => Finset.mem_univ _) (fun _ _ => Finset.mem_univ _) ?_ ?_ (fun _ _ => rfl)
  · rintro ⟨⟨w, l⟩, q⟩ _
    have hw := w.isLt; have hl := l.isLt; have hq := q.isLt
    refine Prod.ext (Prod.ext (Fin.ext ?_) (Fin.ext ?_)) (Fin.ext ?_)
    · show (64 * w.val + (16 * q.val + l.val)) / 64 = w.val; omega
    · show (64 * w.val + (16 * q.val + l.val)) % 16 = l.val; omega
    · show (64 * w.val + (16 * q.val + l.val)) % 64 / 16 = q.val; omega
  · intro j _
    exact Fin.ext (by show 64 * (j.val / 64) + (16 * (j.val % 64 / 16) + j.val % 16) = j.val; omega)

theorem pay6_at (x : Vec F S32x16 .i32) (j : S1x1x1.Idx) : k1_pay6 x j = Finset.univ.fold IntOp.addi 0#32 (fun p : Fin 32 × Fin 16 => x (ix2 p.1 p.2)) := by
  pointwise [k1_pay6]
theorem pay7_at (x : Vec F S32x16 .i32) (j : S1x1x1.Idx) : k1_pay7 x j = Finset.univ.fold IntOp.addi 0#32 (fun p : Fin 32 × Fin 16 => x (ix2 p.1 p.2)) := by
  pointwise [k1_pay7]

theorem fold_counts (p : CmpIPredicate) (x : S2048.Idx → BitVec 32) (s : S16.Idx → BitVec 32) (n : BitVec 32) (hs : ∀ l, s l = n) :
    Finset.univ.fold IntOp.addi 0#32 (fun z : Fin 32 × Fin 16 => countsOf p x s (ix2 z.1 z.2)) = BitVec.ofNat 32 (∑ j, one p x n j) := by
  simp only [countsOf_at p x s n hs]
  rw [ofNat_sum, sum_pos]

theorem loW_eq (x : S2048.Idx → BitVec 32) (s : S16.Idx → BitVec 32) (n : BitVec 32) (hs : ∀ l, s l = n) :
    loW (F := F) (countsOf .slt x s) = BitVec.ofNat 32 (∑ j, one .slt x n j) := by
  unfold loW extractAt
  rw [pay6_at, fold_counts _ _ _ _ hs]
theorem hiW_eq (x : S2048.Idx → BitVec 32) (s : S16.Idx → BitVec 32) (n : BitVec 32) (hs : ∀ l, s l = n) :
    hiW (F := F) (countsOf .sle x s) = BitVec.ofNat 32 (∑ j, one .sle x n j) := by
  unfold hiW extractAt
  rw [pay7_at, fold_counts _ _ _ _ hs]

/-! ## The bounds -/

theorem one_slt (x : S2048.Idx → BitVec 32) (n : BitVec 32) (j : Fin 2048) : one .slt x n j = if (x (ix1 j)).toInt < n.toInt then 1 else 0 := by
  unfold one
  refine if_congr ?_ rfl rfl
  show BitVec.ofBool ((x (ix1 j)).slt n) = 1#1 ↔ _
  rw [ofBool_one, BitVec.slt_iff_toInt_lt]
theorem one_sle (x : S2048.Idx → BitVec 32) (n : BitVec 32) (j : Fin 2048) : one .sle x n j = if (x (ix1 j)).toInt ≤ n.toInt then 1 else 0 := by
  unfold one
  refine if_congr ?_ rfl rfl
  show BitVec.ofBool ((x (ix1 j)).sle n) = 1#1 ↔ _
  rw [ofBool_one, BitVec.sle_iff_toInt_le]

/-- How many numbers are smaller than `n`; how many are no larger. -/
def nLt (x : S2048.Idx → BitVec 32) (n : BitVec 32) : ℕ := ∑ j, one .slt x n j
def nLe (x : S2048.Idx → BitVec 32) (n : BitVec 32) : ℕ := ∑ j, one .sle x n j

theorem nLe_le (x : S2048.Idx → BitVec 32) (n : BitVec 32) : nLe x n ≤ 2048 := by
  unfold nLe
  refine (Finset.sum_le_sum (g := fun _ => 1) fun j _ => ?_).trans ?_
  · unfold one; split <;> omega
  · rw [Finset.sum_const, Finset.card_univ, Fintype.card_fin]; decide

theorem nLt_lt (x : S2048.Idx → BitVec 32) (n : BitVec 32) (i : Fin 2048) (hi : x (ix1 i) = n) : nLt x n < nLe x n := by
  unfold nLt nLe
  refine Finset.sum_lt_sum (fun j _ => ?_) ⟨i, Finset.mem_univ i, ?_⟩
  · rw [one_slt, one_sle]; split <;> split <;> omega
  · rw [one_slt, one_sle, hi, if_neg (lt_irrefl _), if_pos le_rfl]; exact Nat.one_pos

section HC
variable (a : TIn F) (lo hi : ℕ) (hlo : a.lo.toNat = lo) (hhi : a.hi.toNat = hi) (h1 : lo < hi) (h2 : hi ≤ 2048)

include hlo h1 h2 in
theorem c0_eq : a.c0 = BitVec.ofNat 32 (lo / 128) := by
  show fdivW a.lo = _
  rw [fdivW_of _ (by omega), hlo]

include hhi h1 h2 in
theorem c1_eq : a.c1 = BitVec.ofNat 32 ((hi - 1) / 128) := by
  have hs : (Scalar.subi a.hi 1#32).toNat = hi - 1 := by
    show (a.hi - 1#32).toNat = _
    rw [BitVec.toNat_sub, hhi]
    show (2 ^ 32 - 1 + hi) % 2 ^ 32 = _
    omega
  show fdivW (Scalar.subi a.hi 1#32) = _
  rw [fdivW_of _ (by omega), hs]

include hlo hhi h1 h2 in
theorem hc_of : a.HC := by
  unfold TIn.HC
  rw [c0_eq a lo hi hlo h1 h2, c1_eq a lo hi hhi h1 h2, BitVec.toNat_ofNat, BitVec.toNat_ofNat]
  omega

end HC

end Cert.Proof.Run

end
-- ==== Proof.M.Kern.lean ====
/-
  The attention kernel's result over the reals.
-/
module

public import proofs.«01_k».proof.Proof.M.Step
public import proofs.«01_k».proof.Proof.Count

@[expose] public section

set_option maxRecDepth 8192
set_option maxHeartbeats 1000000

noncomputable section

namespace Cert.Proof.Run

open Cert.KernelIdeal Cert.KernelIdeal.Gen
open Cert.Proof Idealize.ShloMosaic

/-! ## Words -/

theorem andi_one (a b : BitVec 1) : IntOp.andi a b = 1#1 ↔ a = 1#1 ∧ b = 1#1 := by
  revert a b; decide

theorem toInt_small (w : BitVec 32) (h : w.toNat < 2 ^ 31) : w.toInt = (w.toNat : ℤ) := BitVec.toInt_eq_toNat_of_lt (by omega)

theorem sge_iff (w l : BitVec 32) (hw : w.toNat < 2 ^ 31) (hl : l.toNat < 2 ^ 31) : IntOp.cmpi .sge w l = 1#1 ↔ l.toNat ≤ w.toNat := by
  show BitVec.ofBool (l.sle w) = 1#1 ↔ _
  rw [ofBool_one, BitVec.sle_iff_toInt_le, toInt_small w hw, toInt_small l hl]
  omega

theorem slt_iff (w l : BitVec 32) (hw : w.toNat < 2 ^ 31) (hl : l.toNat < 2 ^ 31) : IntOp.cmpi .slt w l = 1#1 ↔ w.toNat < l.toNat := by
  show BitVec.ofBool (w.slt l) = 1#1 ↔ _
  rw [ofBool_one, BitVec.slt_iff_toInt_lt, toInt_small w hw, toInt_small l hl]
  omega

theorem between_iff (w l h : BitVec 32) (hw : w.toNat < 2 ^ 31) (hl : l.toNat < 2 ^ 31) (hh : h.toNat < 2 ^ 31) :
    IntOp.andi (IntOp.cmpi .sge w l) (IntOp.cmpi .slt w h) = 1#1 ↔ l.toNat ≤ w.toNat ∧ w.toNat < h.toNat := by
  rw [andi_one, sge_iff w l hw hl, slt_iff w h hw hh]

theorem jval_at (lo hi base : BitVec 32) (x : Fin 128) : jval lo hi base (ix2 (0 : Fin 1) x) =
    IntOp.andi (IntOp.cmpi .sge (IntOp.addi base (BitVec.ofNat 32 x.val)) lo) (IntOp.cmpi .slt (IntOp.addi base (BitVec.ofNat 32 x.val)) hi) := by
  pointwise [jval]
theorem ival_at (lo hi base : BitVec 32) (x : Fin 128) : ival lo hi base (ix2 x (0 : Fin 1)) =
    IntOp.andi (IntOp.cmpi .sge (IntOp.addi base (BitVec.ofNat 32 x.val)) lo) (IntOp.cmpi .slt (IntOp.addi base (BitVec.ofNat 32 x.val)) hi) := by
  pointwise [ival]

theorem word_add (base : BitVec 32) (n : ℕ) (x : Fin 128) (hb : base.toNat = n) (hn : n < 4096) : (IntOp.addi base (BitVec.ofNat 32 x.val)).toNat = n + x.val := by
  show (base + BitVec.ofNat 32 x.val).toNat = _
  rw [BitVec.toNat_add, BitVec.toNat_ofNat, hb]
  omega

/-! ## The payloads at an index -/

theorem pay9_at (X : Vec Ideal S128x1024 .f32) (w : Vec Ideal S1024x1024 .f32) (b : Vec Ideal S1x1024 .f32) (r : Fin 128) (c : Fin 1024) :
    k1_pay9 X w b (ix2 r c) = (∑ k : Fin 1024, X (ix2 r k) * w (ix2 c k)) + b (ix2 (0 : Fin 1) c) := by
  pointwise [k1_pay9]
theorem pay10_at (X : Vec Ideal S128x1024 .f32) (w : Vec Ideal S1024x1024 .f32) (b : Vec Ideal S1x1024 .f32) (r : Fin 128) (c : Fin 1024) :
    k1_pay10 X w b (ix2 r c) = (∑ k : Fin 1024, X (ix2 r k) * w (ix2 c k)) + b (ix2 (0 : Fin 1) c) := by
  pointwise [k1_pay10]
theorem pay8_at (X : Vec Ideal S128x1024 .f32) (w : Vec Ideal S1024x1024 .f32) (b : Vec Ideal S1x1024 .f32) (r : Fin 128) (c : Fin 1024) :
    k1_pay8 X w b (ix2 r c) = (∑ k : Fin 1024, X (ix2 r k) * w (ix2 c k)) + b (ix2 (0 : Fin 1) c) :=
  (congrFun (shapeCast_id (k1_pay8 X w b) shapeCasts_S128x1024_S128x1024) (ix2 r c)).symm.trans (pay9_at X w b r c)
theorem pay11_at (X : Vec Ideal S128x1024 .f32) (w : Vec Ideal S1024x1024 .f32) (b : Vec Ideal S1x1024 .f32) (r : Fin 128) (c : Fin 1024) :
    k1_pay11 X w b (ix2 r c) = (∑ k : Fin 1024, X (ix2 r k) * w (ix2 c k)) + b (ix2 (0 : Fin 1) c) :=
  pay9_at X w b r c
theorem pay3_at (X : Vec Ideal S128x1024 .f32) (b : Vec Ideal S1x1024 .f32) (c : Fin 1024) :
    k1_pay3 X b (ix2 (0 : Fin 1) c) = b (ix2 (0 : Fin 1) c) + ∑ x : Fin 128, X (ix2 x c) := by
  pointwise [k1_pay3]
theorem pay4_at (X : Vec Ideal S128x1024 .f32) (d e : IVec S128x1 1) (b : Vec Ideal S1x1024 .f32) (c : Fin 1024) :
    k1_pay4 X d e b (ix2 (0 : Fin 1) c) = b (ix2 (0 : Fin 1) c) + ∑ x : Fin 128, Scalar.select (IntOp.andi (d (ix2 x (0 : Fin 1))) (e (ix2 x (0 : Fin 1)))) (X (ix2 x c)) 0 := by
  pointwise [k1_pay4]
theorem pay13_at (n l : BitVec 32) (x : Fin 128) : k1_pay13 (F := Ideal) n l (ix2 x (0 : Fin 1)) = IntOp.cmpi .sge (IntOp.addi (Scalar.muli n 128#32) (BitVec.ofNat 32 x.val)) l := by
  pointwise [k1_pay13, k1_pay12]
theorem pay14_at (n l : BitVec 32) (x : Fin 128) : k1_pay14 (F := Ideal) n l (ix2 x (0 : Fin 1)) = IntOp.cmpi .slt (IntOp.addi (Scalar.muli n 128#32) (BitVec.ofNat 32 x.val)) l := by
  pointwise [k1_pay14, k1_pay12]
theorem pay1_at (j : S1x1024.Idx) : (k1_pay1 (F := Ideal)) j = ((0 : ℝ) : EReal) := by
  pointwise [k1_pay1]
  exact EReal.coe_zero.symm
theorem pay2_at (j : S1x1024.Idx) : (k1_pay2 (F := Ideal)) j = ((0 : ℝ) : EReal) := by
  pointwise [k1_pay2]
  exact EReal.coe_zero.symm
theorem pay586_at (j : S1x1024.Idx) : (k1_pay586 (F := Ideal)) j = ((0 : ℝ) : EReal) := by
  pointwise [k1_pay586]
  exact EReal.coe_zero.symm
theorem pay585_at (X : Vec Ideal S1x1024 .f32) (w : Vec Ideal S1024x1024 .f32) (b v : Vec Ideal S1x1024 .f32) (c : Fin 1024) :
    k1_pay585 X w b v (ix2 (0 : Fin 1) c) = (∑ k : Fin 1024, X (ix2 (0 : Fin 1) k) * w (ix2 c k)) + Ideal.ofBits .f32 1157627904#32 * b (ix2 (0 : Fin 1) c) - v (ix2 (0 : Fin 1) c) := by
  pointwise [k1_pay585]
theorem pay590_at (l h : BitVec 32) (X : Vec Ideal S1x1024 .f32) (w : Vec Ideal S1024x1024 .f32) (b : Vec Ideal S1x1024 .f32) (c : Fin 1024) :
    k1_pay5 (k1_pay590 l h X) w b (ix2 (0 : Fin 1) c) = (∑ k : Fin 1024, Ideal.div (X (ix2 (0 : Fin 1) k)) (((Scalar.subi h l).toInt : ℝ) : EReal) * w (ix2 c k)) + b (ix2 (0 : Fin 1) c) := by
  pointwise [k1_pay5, k1_pay590]

/-! ## The segment's size -/

theorem count_seg (lo hi : ℕ) (hlo : lo ≤ hi) (hhi : hi ≤ 2048) : (∑ j : Fin 2048, if lo ≤ j.val ∧ j.val < hi then (1 : ℝ) else 0) = ((hi - lo : ℕ) : ℝ) := by
  rw [Fin.sum_univ_eq_sum_range (fun j => if lo ≤ j ∧ j < hi then (1 : ℝ) else 0) 2048, ← Finset.sum_filter, Finset.sum_const, nsmul_eq_mul, mul_one]
  congr 1
  rw [show (Finset.range 2048).filter (fun j => lo ≤ j ∧ j < hi) = Finset.Ico lo hi from by
    ext j; simp only [Finset.mem_filter, Finset.mem_range, Finset.mem_Ico]; omega, Nat.card_Ico]

theorem count_rest (lo hi : ℕ) (hlo : lo ≤ hi) (hhi : hi ≤ 2048) : (∑ j : Fin 2048, if lo ≤ j.val ∧ j.val < hi then (0 : ℝ) else 1) = ((2048 - (hi - lo) : ℕ) : ℝ) := by
  have h : (∑ j : Fin 2048, if lo ≤ j.val ∧ j.val < hi then (0 : ℝ) else 1) + (∑ j : Fin 2048, if lo ≤ j.val ∧ j.val < hi then (1 : ℝ) else 0) = 2048 := by
    rw [← Finset.sum_add_distrib, Finset.sum_congr rfl (fun j _ => (by by_cases h : lo ≤ j.val ∧ j.val < hi <;> simp [h] : _ = (1 : ℝ)))]
    simp
  rw [count_seg lo hi hlo hhi] at h
  rw [Nat.cast_sub (by omega)]
  push_cast
  linarith

/-! ## The result -/

section Out
variable (a : TIn Ideal) (xr : Fin 2048 → Fin 1024 → ℝ) (wq wk wv wo : Fin 1024 → Fin 1024 → ℝ) (bq bk bv bo : Fin 1024 → ℝ) (lo hi : ℕ)
  (hx : ∀ i k, a.x (ix2 i k) = ((xr i k : ℝ) : EReal))
  (hwq : ∀ i k, a.wq (ix2 i k) = ((wq i k : ℝ) : EReal)) (hwk : ∀ i k, a.wk (ix2 i k) = ((wk i k : ℝ) : EReal))
  (hwv : ∀ i k, a.wv (ix2 i k) = ((wv i k : ℝ) : EReal)) (hwo : ∀ i k, a.wo (ix2 i k) = ((wo i k : ℝ) : EReal))
  (hbq : ∀ k, a.bq (ix2 (0 : Fin 1) k) = ((bq k : ℝ) : EReal)) (hbk : ∀ k, a.bk (ix2 (0 : Fin 1) k) = ((bk k : ℝ) : EReal))
  (hbv : ∀ k, a.bv (ix2 (0 : Fin 1) k) = ((bv k : ℝ) : EReal)) (hbo : ∀ k, a.bo (ix2 (0 : Fin 1) k) = ((bo k : ℝ) : EReal))
  (hlo : a.lo.toNat = lo) (hhi : a.hi.toNat = hi) (h1 : lo < hi) (h2 : hi ≤ 2048)

include hx in
theorem xb_real (n : ℕ) (r : Fin 128) (k : Fin 1024) : a.xb n (ix2 r k) = ((xr (RealMath.bi 0 n r) k : ℝ) : EReal) := by
  unfold TIn.xb
  rw [rows_at, hx]
  have e : (⟨(128 * n + r.val) % 2048, Nat.mod_lt _ (by decide)⟩ : Fin 2048) = RealMath.bi 0 n r :=
    Fin.ext (by show (128 * n + r.val) % 2048 = (128 * (0 + n) + r.val) % 2048; rw [Nat.zero_add])
  rw [e]

theorem bi_div (y : Fin 2048) : RealMath.bi 0 (y.val / 128) (⟨y.val % 128, Nat.mod_lt _ (by decide)⟩ : Fin 128) = y :=
  Fin.ext (by show (128 * (0 + y.val / 128) + y.val % 128) % 2048 = y.val; omega)

include hx in
theorem row_real (y : Fin 2048) (k : Fin 1024) : a.xb (y.val / 128) (ix2 (⟨y.val % 128, Nat.mod_lt _ (by decide)⟩ : Fin 128) k) = ((xr y k : ℝ) : EReal) := by
  rw [xb_real a xr hx, bi_div]

theorem loc_at (y : Fin 2048) (c : Fin 1024) : TIn.loc (ix2 y c) = ix2 (⟨y.val % 128, Nat.mod_lt _ (by decide)⟩ : Fin 128) c := by
  funext i; match i with | 0 => rfl | 1 => rfl

include hx hwq hbq in
theorem qA_real (y : Fin 2048) (c : Fin 1024) : a.qA (ix2 y c) = ((RealMath.proj xr wq bq y c : ℝ) : EReal) := by
  show k1_pay9 (a.xb (y.val / 128)) a.wq a.bq (TIn.loc (ix2 y c)) = _
  rw [loc_at, pay9_at, RealMath.sum_mul_coe _ _ _ _ (fun k => row_real a xr hx y k) (fun k => hwq c k), hbq, ← EReal.coe_add]
  rfl
include hx hwk hbk in
theorem kA_real (y : Fin 2048) (c : Fin 1024) : a.kA (ix2 y c) = ((RealMath.proj xr wk bk y c : ℝ) : EReal) := by
  show k1_pay10 (a.xb (y.val / 128)) a.wk a.bk (TIn.loc (ix2 y c)) = _
  rw [loc_at, pay10_at, RealMath.sum_mul_coe _ _ _ _ (fun k => row_real a xr hx y k) (fun k => hwk c k), hbk, ← EReal.coe_add]
  rfl
include hx hwv hbv in
theorem vA_real (y : Fin 2048) (c : Fin 1024) : a.vA (ix2 y c) = ((RealMath.proj xr wv bv y c : ℝ) : EReal) := by
  show k1_pay11 (a.xb (y.val / 128)) a.wv a.bv (TIn.loc (ix2 y c)) = _
  rw [loc_at, pay11_at, RealMath.sum_mul_coe _ _ _ _ (fun k => row_real a xr hx y k) (fun k => hwv c k), hbv, ← EReal.coe_add]
  rfl

include hx in
theorem xsN_real (c : Fin 1024) : ∀ n, a.xsN n (ix2 (0 : Fin 1) c) = ((∑ t ∈ Finset.range n, ∑ x : Fin 128, xr (RealMath.bi 0 t x) c : ℝ) : EReal)
  | 0 => by rw [Finset.range_zero, Finset.sum_empty]; exact pay1_at _
  | n + 1 => by
    show k1_pay3 (a.xb n) (a.xsN n) (ix2 (0 : Fin 1) c) = _
    rw [pay3_at, xsN_real c n, Finset.sum_range_succ, EReal.coe_add, RealMath.coe_sum]
    congr 1
    rw [RealMath.coe_sum]
    exact Finset.sum_congr rfl fun x _ => xb_real a xr hx n x c

include hlo h1 h2 in
include hlo hhi h1 h2 in
theorem inN_iff (n : ℕ) (hn : n < 16) : inN n a.c0 a.c1 = 1#1 ↔ lo / 128 ≤ n ∧ n ≤ (hi - 1) / 128 := by
  rw [c0_eq a lo hi hlo h1 h2, c1_eq a lo hi hhi h1 h2]
  exact inN_eq ⟨n, hn⟩ ⟨lo / 128, by omega⟩ ⟨(hi - 1) / 128, by omega⟩

include hx hwv hbv hlo hhi h1 h2 in
theorem vsN_real (c : Fin 1024) : ∀ n ≤ 16, a.vsN n (ix2 (0 : Fin 1) c) =
    ((∑ t ∈ Finset.range n, ∑ x : Fin 128, (if lo ≤ (RealMath.bi 0 t x).val ∧ (RealMath.bi 0 t x).val < hi then RealMath.proj xr wv bv (RealMath.bi 0 t x) c else 0) : ℝ) : EReal)
  | 0, _ => by rw [Finset.range_zero, Finset.sum_empty]; exact pay2_at _
  | n + 1, hn => by
    have ih := vsN_real c n (by omega)
    have hbv' : ∀ x : Fin 128, (RealMath.bi 0 n x).val = 128 * n + x.val := fun x => by show (128 * (0 + n) + x.val) % 2048 = _; omega
    show (if inN n a.c0 a.c1 = 1#1 then k1_pay4 (k1_pay8 (a.xb n) a.wv a.bv) (k1_pay13 (F := Ideal) (BitVec.ofNat 32 n) a.lo) (k1_pay14 (F := Ideal) (BitVec.ofNat 32 n) a.hi) (a.vsN n) else a.vsN n) (ix2 (0 : Fin 1) c) = _
    rw [Finset.sum_range_succ, EReal.coe_add]
    by_cases h : inN n a.c0 a.c1 = 1#1
    · rw [if_pos h, pay4_at, ih]
      congr 1
      rw [RealMath.coe_sum]
      refine Finset.sum_congr rfl fun x _ => ?_
      have hm : (Scalar.muli (BitVec.ofNat 32 n) 128#32).toNat = 128 * n := by
        show (BitVec.ofNat 32 n * 128#32).toNat = _
        rw [BitVec.toNat_mul, BitVec.toNat_ofNat]
        show (n % 2 ^ 32 * 128) % 2 ^ 32 = _
        omega
      have hw := word_add (Scalar.muli (BitVec.ofNat 32 n) 128#32) (128 * n) x hm (by omega)
      rw [pay13_at, pay14_at, RealMath.select_eq _ (lo ≤ (RealMath.bi 0 n x).val ∧ (RealMath.bi 0 n x).val < hi) (by
        rw [between_iff _ _ _ (by omega) (by omega) (by omega), hw, hlo, hhi, hbv'])]
      by_cases hp : lo ≤ (RealMath.bi 0 n x).val ∧ (RealMath.bi 0 n x).val < hi
      · rw [if_pos hp, if_pos hp, pay8_at, RealMath.sum_mul_coe _ _ _ _ (fun k => xb_real a xr hx n x k) (fun k => hwv c k), hbv, ← EReal.coe_add]
        rfl
      · rw [if_neg hp, if_neg hp]
        exact EReal.coe_zero.symm
    · rw [if_neg h, ih]
      have hz : (∑ x : Fin 128, (if lo ≤ (RealMath.bi 0 n x).val ∧ (RealMath.bi 0 n x).val < hi then RealMath.proj xr wv bv (RealMath.bi 0 n x) c else 0)) = 0 := by
        refine Finset.sum_eq_zero fun x _ => if_neg ?_
        rw [inN_iff a lo hi hlo hhi h1 h2 n (by omega)] at h
        rw [hbv']
        intro hp
        apply h
        omega
      rw [hz, EReal.coe_zero, add_zero]

include hx hwv hbv hlo hhi h1 h2 in
theorem off_real (c : Fin 1024) : k1_pay585 (a.xsN 16) a.wv a.bv (a.vsN 16) (ix2 (0 : Fin 1) c) =
    ((∑ j, RealMath.proj xr wv bv j c - ∑ j : Fin 2048, (if lo ≤ j.val ∧ j.val < hi then RealMath.proj xr wv bv j c else 0) : ℝ) : EReal) := by
  rw [pay585_at, RealMath.sum_mul_coe _ _ _ _ (fun k => xsN_real a xr hx k 16) (fun k => hwv c k), RealMath.ofBits_2048, hbv, vsN_real a xr wv bv lo hi hx hwv hbv hlo hhi h1 h2 c 16 le_rfl,
    ← EReal.coe_mul, ← EReal.coe_add, ← EReal.coe_sub]
  congr 2
  · rw [Finset.sum_congr rfl (fun k _ => congrArg (· * wv c k) (RealMath.sum_blocks 0 16 (by omega) (fun j => xr j k) (fun j _ => by omega)))]
    unfold RealMath.proj
    rw [Finset.sum_add_distrib, Finset.sum_const, Finset.card_univ, Fintype.card_fin, nsmul_eq_mul, Finset.sum_comm]
    congr 1
    exact Finset.sum_congr rfl fun k _ => Finset.sum_mul _ _ _
  · exact RealMath.sum_blocks 0 16 (by omega) (fun j => if lo ≤ j.val ∧ j.val < hi then RealMath.proj xr wv bv j c else 0) (fun j _ => by omega)

include hlo hhi h1 h2 in
theorem size_eq : (Scalar.subi a.hi a.lo).toNat = hi - lo := by
  show (a.hi - a.lo).toNat = _
  rw [BitVec.toNat_sub, hhi, hlo]
  omega

include hlo hhi h1 h2 in
theorem rest_real : k1_pay587 (F := Ideal) a.lo a.hi = (((2048 - (hi - lo) : ℕ) : ℝ) : EReal) := by
  have hs := size_eq a lo hi hlo hhi h1 h2
  have h : (Scalar.subi 2048#32 (Scalar.subi a.hi a.lo)).toInt = ((2048 - (hi - lo) : ℕ) : ℤ) := by
    have e : (Scalar.subi 2048#32 (Scalar.subi a.hi a.lo)).toNat = 2048 - (hi - lo) := by
      show (2048#32 - Scalar.subi a.hi a.lo).toNat = _
      rw [BitVec.toNat_sub, hs]
      show (2 ^ 32 - (hi - lo) + 2048) % 2 ^ 32 = _
      omega
    rw [toInt_small _ (by omega), e]
  show (((Scalar.subi 2048#32 (Scalar.subi a.hi a.lo)).toInt : ℝ) : EReal) = _
  rw [h]
  norm_cast

/-- Whether a position lies in the segment. -/
abbrev Seg (j : Fin 2048) : Prop := lo ≤ j.val ∧ j.val < hi

include hx hwq hwk hwv hbq hbk hbv hlo hhi h1 h2 in
theorem attn_real (c : Fin 1024) : attn a.lo a.hi a.c0 a.c1 a.qA a.kA a.vA (k1_pay585 (a.xsN 16) a.wv a.bv (a.vsN 16)) (ix2 (0 : Fin 1) c) =
    ((∑ i, (if Seg lo hi i then RealMath.att (Seg lo hi) (RealMath.proj xr wq bq) (RealMath.proj xr wk bk) (RealMath.proj xr wv bv) i c else 0) : ℝ) : EReal) := by
  have e0 := c0_eq a lo hi hlo h1 h2
  have e1 := c1_eq a lo hi hhi h1 h2
  set p := lo / 128 with hp
  set r := (hi - 1) / 128 with hr
  have hpr : p ≤ r := by omega
  have hr16 : r < 16 := by omega
  have ht := trips_eq ⟨p, by omega⟩ ⟨r, hr16⟩ hpr
  have hoff := off_real a xr wv bv lo hi hx hwv hbv hlo hhi h1 h2
  generalize k1_pay585 (a.xsN 16) a.wv a.bv (a.vsN 16) = off at hoff ⊢
  have hb : ∀ t < r - p + 1, (blkW a.c0 t).toNat = 128 * (p + t) := fun t htt => by
    rw [e0]; exact blk_eq ⟨p, by omega⟩ ⟨t, by omega⟩
  have hbi : ∀ t < r - p + 1, ∀ x : Fin 128, (RealMath.bi p t x).val = 128 * (p + t) + x.val := fun t htt x => by
    show (128 * (p + t) + x.val) % 2048 = _; omega
  have hw : ∀ t < r - p + 1, ∀ x : Fin 128, (IntOp.addi (blkW a.c0 t) (BitVec.ofNat 32 x.val)).toNat = 128 * (p + t) + x.val := fun t htt x =>
    word_add _ _ x (hb t htt) (by omega)
  have hbt : ∀ t < r - p + 1, ∀ x : Fin 128, IntOp.andi (IntOp.cmpi .sge (IntOp.addi (blkW a.c0 t) (BitVec.ofNat 32 x.val)) a.lo) (IntOp.cmpi .slt (IntOp.addi (blkW a.c0 t) (BitVec.ofNat 32 x.val)) a.hi) = 1#1 ↔ Seg lo hi (RealMath.bi p t x) := fun t htt x => by
    have := hw t htt x
    rw [between_iff _ _ _ (by omega) (by omega) (by omega), this, hlo, hhi, Seg, hbi t htt]
  have hseg : ∀ j : Fin 2048, Seg lo hi j → 128 * p ≤ j.val ∧ j.val < 128 * (p + (r - p + 1)) := fun j hj => by
    obtain ⟨ha, hb⟩ := hj; omega
  have hQ := qA_real a xr wq bq hx hwq hbq
  have hK := kA_real a xr wk bk hx hwk hbk
  have hV := vA_real a xr wv bv hx hwv hbv
  have key : ∀ n ≤ r - p + 1, ∀ c, trips1 a.lo a.hi a.c0 a.c1 a.qA a.kA a.vA off (k1_pay586 (F := Ideal)) n (ix2 (0 : Fin 1) c) =
      ((∑ t ∈ Finset.range n, ∑ x : Fin 128, (if Seg lo hi (RealMath.bi p t x) then RealMath.att (Seg lo hi) (RealMath.proj xr wq bq) (RealMath.proj xr wk bk) (RealMath.proj xr wv bv) (RealMath.bi p t x) c else 0) : ℝ) : EReal) := by
    intro n
    induction n with
    | zero => intro _ c; rw [Finset.range_zero, Finset.sum_empty]; exact pay586_at _
    | succ n ih =>
      intro hn c
      have hT2 : (k1_t2_loop a.c0 a.c1).trips = r - p + 1 := by rw [e0, e1]; exact ht.2
      have hq : ∀ x c, rows (blkW a.c0 n).toNat a.qA (ix2 x c) = ((RealMath.proj xr wq bq (RealMath.bi p n x) c : ℝ) : EReal) := fun x c => by
        rw [rows_at, hb n (by omega)]; exact hQ _ _
      have hgood := trips2_good a.lo a.hi a.c0 (rows (blkW a.c0 n).toNat a.qA) a.kA a.vA (Seg lo hi) (RealMath.proj xr wq bq) (RealMath.proj xr wk bk) (RealMath.proj xr wv bv)
        (fun x => RealMath.bi p n x) p hq hK hV (r - p + 1) hb (fun t htt x => by rw [jval_at]; exact hbt t htt x) (r - p + 1) le_rfl
      show trip1 a.lo a.hi a.c0 a.c1 a.qA a.kA a.vA off n (trips1 a.lo a.hi a.c0 a.c1 a.qA a.kA a.vA off (k1_pay586 (F := Ideal)) n) (ix2 (0 : Fin 1) c) = _
      unfold trip1
      rw [hT2, Finset.sum_range_succ]
      exact out_real (Seg lo hi) _ _ _ (fun x => RealMath.bi p n x) p off _ _ _ _ (r - p + 1) (by omega) _ _ _ hgood hseg hoff (fun _ => rfl)
        (rest_real a lo hi hlo hhi h1 h2) (count_rest lo hi (by omega) h2).symm (ih (by omega)) (fun x => by rw [ival_at]; exact hbt n (by omega) x) c
  unfold attn
  rw [show (k1_t1_loop a.c0 a.c1).trips = r - p + 1 from by rw [e0, e1]; exact ht.1, key _ le_rfl c]
  congr 1
  exact RealMath.sum_blocks p (r - p + 1) (by omega) (fun i => if Seg lo hi i then RealMath.att (Seg lo hi) (RealMath.proj xr wq bq) (RealMath.proj xr wk bk) (RealMath.proj xr wv bv) i c else 0)
    (fun j hj => hseg j (by by_contra h; exact hj (if_neg h)))

include hx hwq hwk hwv hwo hbq hbk hbv hbo hlo hhi h1 h2 in
/-- The kernel's result: the segment's rows' attention, averaged, projected. -/
theorem mean_eq (o : Fin 1024) : a.out (ix2 (0 : Fin 1) o) =
    ((∑ c, (∑ i, (if Seg lo hi i then RealMath.att (Seg lo hi) (RealMath.proj xr wq bq) (RealMath.proj xr wk bk) (RealMath.proj xr wv bv) i c else 0)) / ((hi - lo : ℕ) : ℝ) * wo o c + bo o : ℝ) : EReal) := by
  have hs := size_eq a lo hi hlo hhi h1 h2
  have hn : (((Scalar.subi a.hi a.lo).toInt : ℝ)) = ((hi - lo : ℕ) : ℝ) := by
    rw [toInt_small _ (by omega), hs]; norm_cast
  have hz : ((hi - lo : ℕ) : ℝ) ≠ 0 := by exact_mod_cast (show hi - lo ≠ 0 by omega)
  unfold TIn.out
  rw [pay590_at, hn, EReal.coe_add, hbo]
  congr 1
  refine RealMath.sum_mul_coe _ _ _ _ (fun c => ?_) (fun c => hwo o c)
  rw [attn_real a xr wq wk wv bq bk bv lo hi hx hwq hwk hwv hbq hbk hbv hlo hhi h1 h2 c, RealMath.div_coe _ _ hz]

end Out

end Cert.Proof.Run

end
-- ==== Proof.Tc.Obl.lean ====
/-
  The attention kernel's pipeline.
-/
module

public import Idealize.ShloMosaic.Lib.Pipeline.Regions
public import proofs.«01_k».proof.Proof.Tc.Data

@[expose] public section

set_option maxRecDepth 8192

noncomputable section

namespace Cert.Proof.Run

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

set_option maxHeartbeats 600000

/-- What a TensorCore's unscoped buffers hold when the pipeline is entered. -/
abbrev VV (F : FTy → Type) : Type := (c : Dev nD) → (b : Ref sig .tc) → Buf (Elt F) ((c : Thread nD τ).loc b)

/-- The operands among them. -/
def tin (V : VV F) (c : Dev nD) : TIn F :=
  ⟨V c main_v2_0, V c main_v2_1, V c main_arg0, V c main_arg3, V c main_arg5, V c main_arg7, V c main_arg9, V c main_v3, V c main_v4, V c main_v5, V c main_v6⟩

/-- The contents `a`'s points keep of the buffers they share. -/
def good (a : TIn F) (n : ℕ) (f13 : Vec F S8 .i32) (Q K V : Vec F S2048x1024 .f32) (xs vs : Vec F S1x1024 .f32) : Prop :=
  0 < n → metaOK f13 a.lo a.hi a.c0 a.c1 ∧ a.OK n Q a.qA ∧ a.OK n K a.kA ∧ a.OK n V a.vA ∧ xs = a.xsN n ∧ vs = a.vsN n

/-- The invariant before point `n`. -/
def PhiS (a : TIn F) (c : Dev nD) (n : ℕ) : sProp 𝕄 :=
  iprop(∃ f13 Q K V xs vs, ⌜good a n f13 Q K V xs vs⌝ ∗ (mMeta.view.loc (c : Thread nD τ) ↦[mMeta.view.set]{fullShare} f13)
    ∗ (mQ.view.loc (c : Thread nD τ) ↦[mQ.view.set]{fullShare} Q) ∗ (mK.view.loc (c : Thread nD τ) ↦[mK.view.set]{fullShare} K)
    ∗ (mV.view.loc (c : Thread nD τ) ↦[mV.view.set]{fullShare} V) ∗ (mX.view.loc (c : Thread nD τ) ↦[mX.view.set]{fullShare} xs)
    ∗ (mS.view.loc (c : Thread nD τ) ↦[mS.view.set]{fullShare} vs)
    ∗ (∃ f, (mOff.view.loc (c : Thread nD τ) ↦[mOff.view.set]{fullShare} f)) ∗ (∃ f, (mM.view.loc (c : Thread nD τ) ↦[mM.view.set]{fullShare} f))
    ∗ (∃ f, (mL.view.loc (c : Thread nD τ) ↦[mL.view.set]{fullShare} f)) ∗ (∃ f, (mA.view.loc (c : Thread nD τ) ↦[mA.view.set]{fullShare} f))
    ∗ (∃ f, (mO.view.loc (c : Thread nD τ) ↦[mO.view.set]{fullShare} f)))

/-- The pairs the TensorCore has waited for: those of the SparseCore call's handshake, and its own. -/
def recd (c : Dev nD) : Set (SemLoc sig × HIx 1) := {p | (K (F := F)).lev ((c : Thread nD τ), p.1) p.2 ≤ 8}

/-- The pipeline's proof data. -/
def dats (V : VV F) (_ : Fin 1) (c : Dev nD) : Pipeline.Dat τ (Elt F) (HIx 1) ℕ UU ℕ cfg1 c where
  A w := V c (Pipeline.arrRef spec1 w)
  after w t := match w with
    | ⟨0,_⟩ => (tin V c).LT
    | ⟨1,_⟩ => (tin V c).LE
    | ⟨2,_⟩ => (tin V c).xb t.val
    | ⟨3,_⟩ => (tin V c).wq
    | ⟨4,_⟩ => (tin V c).wk
    | ⟨5,_⟩ => (tin V c).wv
    | ⟨6,_⟩ => (tin V c).wo
    | ⟨7,_⟩ => (tin V c).bq
    | ⟨8,_⟩ => (tin V c).bk
    | ⟨9,_⟩ => (tin V c).bv
    | ⟨10,_⟩ => (tin V c).bo
    | ⟨11,_⟩ => (tin V c).out
  Φ t := PhiS (tin V c) c t.val
  q _ := fullShare
  owed _ := 0
  recorded _ := recd (F := F) c

theorem A_eq (V : VV F) (c : Dev nD) (w : Fin cfg1.W) : (dats V 0 c).A w = V c (Pipeline.arrRef spec1 w) := by
  dsimp only [dats]

/-- An index of a block of an array is the index of the array it names. -/
theorem block_whole {s : Shape} {α : Type} (f : s.Idx → α) (g : s.Idx → s.Idx) (h : ∀ x a, (g x a).val = (x a).val) : (fun x => f (g x)) = f :=
  funext fun x => congrArg f (funext fun a => Fin.ext (h x a))

theorem blk_0 (V : VV F) (c : Dev nD) (t : Fin cfg1.N) : (dats V 0 c).blockOf 0 t = (tin V c).LT :=
  block_whole (V c main_v2_0) (((Memref.whole main_v2_0).access (Rect.block (s := (win1_0).block) (win1_0).block.size (cc1_transform_0 (grid1.coords t)) (hinb1_0 (grid1.coords t)))).emb) (fun x a => by
    fin_cases a
    · show 0 * _ + 1 * (x 0).val = (x 0).val
      omega
    · show 0 * _ + 1 * (x 1).val = (x 1).val
      omega)
theorem before_0 (V : VV F) (c : Dev nD) (t : Fin cfg1.N) (d) : (dats V 0 c).before 0 t d = (dats V 0 c).after 0 t :=
  ((dats V 0 c).before_in_eq_fetched 0 rfl (fun _ => rfl) (fun _ _ _ => rfl) (fun t => (blk_0 V c t).symm) t d).trans (blk_0 V c t)
theorem blk_1 (V : VV F) (c : Dev nD) (t : Fin cfg1.N) : (dats V 0 c).blockOf 1 t = (tin V c).LE :=
  block_whole (V c main_v2_1) (((Memref.whole main_v2_1).access (Rect.block (s := (win1_1).block) (win1_1).block.size (cc1_transform_1 (grid1.coords t)) (hinb1_1 (grid1.coords t)))).emb) (fun x a => by
    fin_cases a
    · show 0 * _ + 1 * (x 0).val = (x 0).val
      omega
    · show 0 * _ + 1 * (x 1).val = (x 1).val
      omega)
theorem before_1 (V : VV F) (c : Dev nD) (t : Fin cfg1.N) (d) : (dats V 0 c).before 1 t d = (dats V 0 c).after 1 t :=
  ((dats V 0 c).before_in_eq_fetched 1 rfl (fun _ => rfl) (fun _ _ _ => rfl) (fun t => (blk_1 V c t).symm) t d).trans (blk_1 V c t)
theorem blk_3 (V : VV F) (c : Dev nD) (t : Fin cfg1.N) : (dats V 0 c).blockOf 3 t = (tin V c).wq :=
  block_whole (V c main_arg3) (((Memref.whole main_arg3).access (Rect.block (s := (win1_3).block) (win1_3).block.size (cc1_transform_3 (grid1.coords t)) (hinb1_3 (grid1.coords t)))).emb) (fun x a => by
    fin_cases a
    · show 0 * _ + 1 * (x 0).val = (x 0).val
      omega
    · show 0 * _ + 1 * (x 1).val = (x 1).val
      omega)
theorem before_3 (V : VV F) (c : Dev nD) (t : Fin cfg1.N) (d) : (dats V 0 c).before 3 t d = (dats V 0 c).after 3 t :=
  ((dats V 0 c).before_in_eq_fetched 3 rfl (fun _ => rfl) (fun _ _ _ => rfl) (fun t => (blk_3 V c t).symm) t d).trans (blk_3 V c t)
theorem blk_4 (V : VV F) (c : Dev nD) (t : Fin cfg1.N) : (dats V 0 c).blockOf 4 t = (tin V c).wk :=
  block_whole (V c main_arg5) (((Memref.whole main_arg5).access (Rect.block (s := (win1_4).block) (win1_4).block.size (cc1_transform_4 (grid1.coords t)) (hinb1_4 (grid1.coords t)))).emb) (fun x a => by
    fin_cases a
    · show 0 * _ + 1 * (x 0).val = (x 0).val
      omega
    · show 0 * _ + 1 * (x 1).val = (x 1).val
      omega)
theorem before_4 (V : VV F) (c : Dev nD) (t : Fin cfg1.N) (d) : (dats V 0 c).before 4 t d = (dats V 0 c).after 4 t :=
  ((dats V 0 c).before_in_eq_fetched 4 rfl (fun _ => rfl) (fun _ _ _ => rfl) (fun t => (blk_4 V c t).symm) t d).trans (blk_4 V c t)
theorem blk_5 (V : VV F) (c : Dev nD) (t : Fin cfg1.N) : (dats V 0 c).blockOf 5 t = (tin V c).wv :=
  block_whole (V c main_arg7) (((Memref.whole main_arg7).access (Rect.block (s := (win1_5).block) (win1_5).block.size (cc1_transform_5 (grid1.coords t)) (hinb1_5 (grid1.coords t)))).emb) (fun x a => by
    fin_cases a
    · show 0 * _ + 1 * (x 0).val = (x 0).val
      omega
    · show 0 * _ + 1 * (x 1).val = (x 1).val
      omega)
theorem before_5 (V : VV F) (c : Dev nD) (t : Fin cfg1.N) (d) : (dats V 0 c).before 5 t d = (dats V 0 c).after 5 t :=
  ((dats V 0 c).before_in_eq_fetched 5 rfl (fun _ => rfl) (fun _ _ _ => rfl) (fun t => (blk_5 V c t).symm) t d).trans (blk_5 V c t)
theorem blk_6 (V : VV F) (c : Dev nD) (t : Fin cfg1.N) : (dats V 0 c).blockOf 6 t = (tin V c).wo :=
  block_whole (V c main_arg9) (((Memref.whole main_arg9).access (Rect.block (s := (win1_6).block) (win1_6).block.size (cc1_transform_6 (grid1.coords t)) (hinb1_6 (grid1.coords t)))).emb) (fun x a => by
    fin_cases a
    · show 0 * _ + 1 * (x 0).val = (x 0).val
      omega
    · show 0 * _ + 1 * (x 1).val = (x 1).val
      omega)
theorem before_6 (V : VV F) (c : Dev nD) (t : Fin cfg1.N) (d) : (dats V 0 c).before 6 t d = (dats V 0 c).after 6 t :=
  ((dats V 0 c).before_in_eq_fetched 6 rfl (fun _ => rfl) (fun _ _ _ => rfl) (fun t => (blk_6 V c t).symm) t d).trans (blk_6 V c t)
theorem blk_7 (V : VV F) (c : Dev nD) (t : Fin cfg1.N) : (dats V 0 c).blockOf 7 t = (tin V c).bq :=
  block_whole (V c main_v3) (((Memref.whole main_v3).access (Rect.block (s := (win1_7).block) (win1_7).block.size (cc1_transform_7 (grid1.coords t)) (hinb1_7 (grid1.coords t)))).emb) (fun x a => by
    fin_cases a
    · show 0 * _ + 1 * (x 0).val = (x 0).val
      omega
    · show 0 * _ + 1 * (x 1).val = (x 1).val
      omega)
theorem before_7 (V : VV F) (c : Dev nD) (t : Fin cfg1.N) (d) : (dats V 0 c).before 7 t d = (dats V 0 c).after 7 t :=
  ((dats V 0 c).before_in_eq_fetched 7 rfl (fun _ => rfl) (fun _ _ _ => rfl) (fun t => (blk_7 V c t).symm) t d).trans (blk_7 V c t)
theorem blk_8 (V : VV F) (c : Dev nD) (t : Fin cfg1.N) : (dats V 0 c).blockOf 8 t = (tin V c).bk :=
  block_whole (V c main_v4) (((Memref.whole main_v4).access (Rect.block (s := (win1_8).block) (win1_8).block.size (cc1_transform_8 (grid1.coords t)) (hinb1_8 (grid1.coords t)))).emb) (fun x a => by
    fin_cases a
    · show 0 * _ + 1 * (x 0).val = (x 0).val
      omega
    · show 0 * _ + 1 * (x 1).val = (x 1).val
      omega)
theorem before_8 (V : VV F) (c : Dev nD) (t : Fin cfg1.N) (d) : (dats V 0 c).before 8 t d = (dats V 0 c).after 8 t :=
  ((dats V 0 c).before_in_eq_fetched 8 rfl (fun _ => rfl) (fun _ _ _ => rfl) (fun t => (blk_8 V c t).symm) t d).trans (blk_8 V c t)
theorem blk_9 (V : VV F) (c : Dev nD) (t : Fin cfg1.N) : (dats V 0 c).blockOf 9 t = (tin V c).bv :=
  block_whole (V c main_v5) (((Memref.whole main_v5).access (Rect.block (s := (win1_9).block) (win1_9).block.size (cc1_transform_9 (grid1.coords t)) (hinb1_9 (grid1.coords t)))).emb) (fun x a => by
    fin_cases a
    · show 0 * _ + 1 * (x 0).val = (x 0).val
      omega
    · show 0 * _ + 1 * (x 1).val = (x 1).val
      omega)
theorem before_9 (V : VV F) (c : Dev nD) (t : Fin cfg1.N) (d) : (dats V 0 c).before 9 t d = (dats V 0 c).after 9 t :=
  ((dats V 0 c).before_in_eq_fetched 9 rfl (fun _ => rfl) (fun _ _ _ => rfl) (fun t => (blk_9 V c t).symm) t d).trans (blk_9 V c t)
theorem blk_10 (V : VV F) (c : Dev nD) (t : Fin cfg1.N) : (dats V 0 c).blockOf 10 t = (tin V c).bo :=
  block_whole (V c main_v6) (((Memref.whole main_v6).access (Rect.block (s := (win1_10).block) (win1_10).block.size (cc1_transform_10 (grid1.coords t)) (hinb1_10 (grid1.coords t)))).emb) (fun x a => by
    fin_cases a
    · show 0 * _ + 1 * (x 0).val = (x 0).val
      omega
    · show 0 * _ + 1 * (x 1).val = (x 1).val
      omega)
theorem before_10 (V : VV F) (c : Dev nD) (t : Fin cfg1.N) (d) : (dats V 0 c).before 10 t d = (dats V 0 c).after 10 t :=
  ((dats V 0 c).before_in_eq_fetched 10 rfl (fun _ => rfl) (fun _ _ _ => rfl) (fun t => (blk_10 V c t).symm) t d).trans (blk_10 V c t)

end Cert.Proof.Run
end
-- ==== Proof.Tc.Step.lean ====
/-
  One grid point of the attention kernel, over the pipeline's invariant.
-/
module

public import proofs.«01_k».proof.Proof.Tc.BodyA
public import proofs.«01_k».proof.Proof.Tc.BodyC
public import proofs.«01_k».proof.Proof.Tc.Obl

@[expose] public section

set_option maxRecDepth 8192

noncomputable section

namespace Cert.Proof.Run

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

set_option maxHeartbeats 600000

theorem cond1 : ∀ i : grid1.Coords, Scalar.cmpi .ne (Scalar.extui (Scalar.cmpi .eq (BitVec.ofNat 32 (i 0).val) 0#32)) 0#32 = 1#1 ↔ (i 0).val = 0 := by
  intro i
  have h : ∀ n : Fin 16, Scalar.cmpi .ne (Scalar.extui (Scalar.cmpi .eq (BitVec.ofNat 32 n.val) 0#32)) 0#32 = 1#1 ↔ n.val = 0 := by decide +kernel
  exact h ⟨(i 0).val, (i 0).isLt⟩

theorem cond4 : ∀ i : grid1.Coords, k1_cond4 i = 1#1 ↔ (i 0).val = 15 := by
  intro i
  have h : ∀ n : Fin 16, Scalar.cmpi .ne (Scalar.extui (Scalar.cmpi .eq (BitVec.ofNat 32 n.val) 15#32)) 0#32 = 1#1 ↔ n.val = 15 := by decide +kernel
  exact h ⟨(i 0).val, (i 0).isLt⟩

/-- One point keeps the agreement with the pure values. -/
theorem good_step (a : TIn F) (n : ℕ) (g : Vec F S8 .i32) (Q K V : Vec F S2048x1024 .f32) (xs vs : Vec F S1x1024 .f32)
    (h : 0 < n → a.OK n Q a.qA ∧ a.OK n K a.kA ∧ a.OK n V a.vA)
    (h' : n = n → metaOK g a.lo a.hi a.c0 a.c1 ∧ xs = a.xsN n ∧ vs = a.vsN n) :
    good a (n + 1) g (if inN n a.c0 a.c1 = 1#1 then putRows n (k1_pay9 (a.xb n) a.wq a.bq) Q else Q)
      (if inN n a.c0 a.c1 = 1#1 then putRows n (k1_pay10 (a.xb n) a.wk a.bk) K else K)
      (if inN n a.c0 a.c1 = 1#1 then putRows n (k1_pay11 (a.xb n) a.wv a.bv) V else V)
      (k1_pay3 (a.xb n) xs)
      (if inN n a.c0 a.c1 = 1#1 then k1_pay4 (k1_pay8 (a.xb n) a.wv a.bv) (k1_pay13 (F := F) (BitVec.ofNat 32 n) a.lo) (k1_pay14 (F := F) (BitVec.ofNat 32 n) a.hi) vs else vs) := by
  intro _
  obtain ⟨hm, rfl, rfl⟩ := h' rfl
  have H : a.OK n Q a.qA ∧ a.OK n K a.kA ∧ a.OK n V a.vA := by
    rcases Nat.eq_zero_or_pos n with rfl | hp
    · exact ⟨fun _ h => absurd h (Nat.not_lt_zero _), fun _ h => absurd h (Nat.not_lt_zero _), fun _ h => absurd h (Nat.not_lt_zero _)⟩
    · exact h hp
  obtain ⟨hQ, hK, hV⟩ := H
  refine ⟨hm, putRows_ok a n _ Q _ hQ fun _ y e => ?_, putRows_ok a n _ K _ hK fun _ y e => ?_, putRows_ok a n _ V _ hV fun _ y e => ?_, rfl, rfl⟩
  · unfold TIn.qA; rw [e]
  · unfold TIn.kA; rw [e]
  · unfold TIn.vA; rw [e]

theorem good_next (a : TIn F) (n : ℕ) (hn : 0 < n) (g : Vec F S8 .i32) (Q K V : Vec F S2048x1024 .f32) (xs vs : Vec F S1x1024 .f32) (h : good a n g Q K V xs vs) :
    good a (n + 1) g (if inN n (rd g 2 inb_S8_S1_2) (rd g 3 inb_S8_S1_3) = 1#1 then putRows n (k1_pay9 (a.xb n) a.wq a.bq) Q else Q)
      (if inN n (rd g 2 inb_S8_S1_2) (rd g 3 inb_S8_S1_3) = 1#1 then putRows n (k1_pay10 (a.xb n) a.wk a.bk) K else K)
      (if inN n (rd g 2 inb_S8_S1_2) (rd g 3 inb_S8_S1_3) = 1#1 then putRows n (k1_pay11 (a.xb n) a.wv a.bv) V else V)
      (k1_pay3 (a.xb n) xs)
      (if inN n (rd g 2 inb_S8_S1_2) (rd g 3 inb_S8_S1_3) = 1#1 then k1_pay4 (k1_pay8 (a.xb n) a.wv a.bv) (k1_pay13 (F := F) (BitVec.ofNat 32 n) (rd g 0 inb_S8_S1_0)) (k1_pay14 (F := F) (BitVec.ofNat 32 n) (rd g 1 inb_S8_S1_1)) vs else vs) := by
  obtain ⟨hm, hQ, hK, hV, hx, hv⟩ := h hn
  have hm' := hm
  obtain ⟨e0, e1, e2, e3⟩ := hm'
  rw [e0, e1, e2, e3]
  exact good_step a n g Q K V xs vs (fun _ => ⟨hQ, hK, hV⟩) fun _ => ⟨hm, hx, hv⟩

theorem out_eq (a : TIn F) (hc : a.HC) (g : Vec F S8 .i32) (Q K V : Vec F S2048x1024 .f32) (xs vs : Vec F S1x1024 .f32) (h : good a 16 g Q K V xs vs) :
    k1_pay5 (k1_pay590 a.lo a.hi (attn a.lo a.hi a.c0 a.c1 Q K V (k1_pay585 xs a.wv a.bv vs))) a.wo a.bo = a.out := by
  obtain ⟨-, hQ, hK, hV, rfl, rfl⟩ := h (by decide)
  rw [attn_congr a hc Q K V hQ hK hV]
  rfl

/-- One grid point, from the invariant before it to the invariant after it. -/
theorem step (𝒱 : Variants) (c : Dev nD) (bd : Option 𝒱.V) (E : Set ℕ) (i : grid1.Coords) (arg1 : Memref sig .tc .vmem S32x16 .i32) (harg1 : arg1.IsWhole) (arg2 : Memref sig .tc .vmem S32x16 .i32) (harg2 : arg2.IsWhole) (arg3 : Memref sig .tc .vmem S128x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole)  (f1 : arg1.view.ty.Contents (Elt F)) (f2 : arg2.view.ty.Contents (Elt F)) (f3 : arg3.view.ty.Contents (Elt F)) (f4 : arg4.view.ty.Contents (Elt F)) (f5 : arg5.view.ty.Contents (Elt F)) (f6 : arg6.view.ty.Contents (Elt F)) (f7 : arg7.view.ty.Contents (Elt F)) (f8 : arg8.view.ty.Contents (Elt F)) (f9 : arg9.view.ty.Contents (Elt F)) (f10 : arg10.view.ty.Contents (Elt F)) (f11 : arg11.view.ty.Contents (Elt F)) (f12 : arg12.view.ty.Contents (Elt F)) (a : TIn F) (hc : a.HC) (h1 : arg1.view.read (Elt F) f1 = a.LT) (h2 : arg2.view.read (Elt F) f2 = a.LE) (h3 : arg3.view.read (Elt F) f3 = a.xb (i 0).val) (h4 : arg4.view.read (Elt F) f4 = a.wq) (h5 : arg5.view.read (Elt F) f5 = a.wk) (h6 : arg6.view.read (Elt F) f6 = a.wv) (h7 : arg7.view.read (Elt F) f7 = a.wo) (h8 : arg8.view.read (Elt F) f8 = a.bq) (h9 : arg9.view.read (Elt F) f9 = a.bk) (h10 : arg10.view.read (Elt F) f10 = a.bv) (h11 : arg11.view.read (Elt F) f11 = a.bo) :
   iprop(PhiS a c (i 0).val ∗ (arg1.view.loc (c : Thread nD τ) ↦[arg1.view.set]{fullShare} f1 : sProp 𝕄) ∗ (arg2.view.loc (c : Thread nD τ) ↦[arg2.view.set]{fullShare} f2 : sProp 𝕄) ∗ (arg3.view.loc (c : Thread nD τ) ↦[arg3.view.set]{fullShare} f3 : sProp 𝕄) ∗ (arg4.view.loc (c : Thread nD τ) ↦[arg4.view.set]{fullShare} f4 : sProp 𝕄) ∗ (arg5.view.loc (c : Thread nD τ) ↦[arg5.view.set]{fullShare} f5 : sProp 𝕄) ∗ (arg6.view.loc (c : Thread nD τ) ↦[arg6.view.set]{fullShare} f6 : sProp 𝕄) ∗ (arg7.view.loc (c : Thread nD τ) ↦[arg7.view.set]{fullShare} f7 : sProp 𝕄) ∗ (arg8.view.loc (c : Thread nD τ) ↦[arg8.view.set]{fullShare} f8 : sProp 𝕄) ∗ (arg9.view.loc (c : Thread nD τ) ↦[arg9.view.set]{fullShare} f9 : sProp 𝕄) ∗ (arg10.view.loc (c : Thread nD τ) ↦[arg10.view.set]{fullShare} f10 : sProp 𝕄) ∗ (arg11.view.loc (c : Thread nD τ) ↦[arg11.view.set]{fullShare} f11 : sProp 𝕄) ∗ (arg12.view.loc (c : Thread nD τ) ↦[arg12.view.set]{fullShare} f12 : sProp 𝕄))
   ⊢ wp frame (wpE (defs₀ (F := F)) 𝒱 (c : Thread nD τ) bd) E (cc1__fused_kernel (F := F) i arg1 harg1 arg2 harg2 arg3 harg3 arg4 harg4 arg5 harg5 arg6 harg6 arg7 harg7 arg8 harg8 arg9 harg9 arg10 harg10 arg11 harg11 arg12 harg12 (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _))
     (fun _ => iprop(PhiS a c ((i 0).val + 1) ∗ (arg1.view.loc (c : Thread nD τ) ↦[arg1.view.set]{fullShare} f1 : sProp 𝕄) ∗ (arg2.view.loc (c : Thread nD τ) ↦[arg2.view.set]{fullShare} f2 : sProp 𝕄) ∗ (arg3.view.loc (c : Thread nD τ) ↦[arg3.view.set]{fullShare} f3 : sProp 𝕄) ∗ (arg4.view.loc (c : Thread nD τ) ↦[arg4.view.set]{fullShare} f4 : sProp 𝕄) ∗ (arg5.view.loc (c : Thread nD τ) ↦[arg5.view.set]{fullShare} f5 : sProp 𝕄) ∗ (arg6.view.loc (c : Thread nD τ) ↦[arg6.view.set]{fullShare} f6 : sProp 𝕄) ∗ (arg7.view.loc (c : Thread nD τ) ↦[arg7.view.set]{fullShare} f7 : sProp 𝕄) ∗ (arg8.view.loc (c : Thread nD τ) ↦[arg8.view.set]{fullShare} f8 : sProp 𝕄) ∗ (arg9.view.loc (c : Thread nD τ) ↦[arg9.view.set]{fullShare} f9 : sProp 𝕄) ∗ (arg10.view.loc (c : Thread nD τ) ↦[arg10.view.set]{fullShare} f10 : sProp 𝕄) ∗ (arg11.view.loc (c : Thread nD τ) ↦[arg11.view.set]{fullShare} f11 : sProp 𝕄) ∗ (∃ g, (arg12.view.loc (c : Thread nD τ) ↦[arg12.view.set]{fullShare} g : sProp 𝕄) ∗ ⌜((i 0).val ≠ 15 → arg12.view.read (Elt F) g = arg12.view.read (Elt F) f12) ∧ ((i 0).val = 15 → arg12.view.read (Elt F) g = a.out)⌝))) := by
  unfold PhiS
  iintro ⟨⟨%f13, %Q, %K, %V, %xs, %vs, %hG, H13, H14, H15, H16, H17, H18, ⟨%foff, HOff⟩, ⟨%fM, HM⟩, ⟨%fL, HL⟩, ⟨%fA, HA⟩, ⟨%fO, HO⟩⟩, H1, H2, H3, H4, H5, H6, H7, H8, H9, H10, H11, H12⟩
  by_cases hn : (i 0).val = 0
  · skip
    iapply (wp_wand frame (wpE (defs₀ (F := F)) 𝒱 (c : Thread nD τ) bd) E) $$ [H1 H2 H3 H4 H5 H6 H7 H8 H9 H10 H11 H12 H13 H14 H15 H16 H17 H18]
    · iapply (bodyA 𝒱 c bd E i arg1 harg1 arg2 harg2 arg3 harg3 arg4 harg4 arg5 harg5 arg6 harg6 arg7 harg7 arg8 harg8 arg9 harg9 arg10 harg10 arg11 harg11 arg12 harg12 f1 f2 f3 f4 f5 f6 f7 f8 f9 f10 f11 f12 f13 Q K V xs vs (cond1 i |>.mpr hn) (fun h => absurd ((cond4 i).mp h) (by omega)) a.LT a.LE ((load_whole arg1.view ![0, 0] inb_S32x16_S32x16_0_0 f1).trans h1) ((load_whole arg2.view ![0, 0] inb_S32x16_S32x16_0_0 f2).trans h2) (chk_of a hc i))
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      iexact H18
    iintro %_u ⟨H1, H2, H3, H4, H5, H6, H7, H8, H9, H10, H11, H12, ⟨%g, H13, %hg⟩, H14, H15, H16, H17, H18⟩
    isplitl [H13 H14 H15 H16 H17 H18 HOff HM HL HA HO]
    · iexists _, _, _, _, _, _
      isplitr; swap
      · isplitl [H13]; · iexact H13
        isplitl [H14]; · iexact H14
        isplitl [H15]; · iexact H15
        isplitl [H16]; · iexact H16
        isplitl [H17]; · iexact H17
        isplitl [H18]; · iexact H18
        isplitl [HOff]; · iexists _; iexact HOff
        isplitl [HM]; · iexists _; iexact HM
        isplitl [HL]; · iexists _; iexact HL
        isplitl [HA]; · iexists _; iexact HA
        iexists _; iexact HO
      · ipureintro
        rw [h3, h4, h5, h6, h8, h9, h10]
        exact good_step a (i 0).val _ _ _ _ _ _ (fun h => absurd hn (by omega)) (fun _ => ⟨hg, by rw [hn]; rfl, by rw [hn]; rfl⟩)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexists f12
    isplitl [H12]; · iexact H12
    ipureintro
    exact ⟨fun _ => rfl, fun h => absurd h (by omega)⟩

  by_cases hn' : (i 0).val = 15
  · replace hn := hn'
    have hck : k1_chk1 i (rd f13 2 inb_S8_S1_2) (rd f13 3 inb_S8_S1_3) := by
      obtain ⟨-, -, e2, e3⟩ := (hG (by omega)).1
      rw [e2, e3]; exact chk_of a hc i
    iapply (wp_wand frame (wpE (defs₀ (F := F)) 𝒱 (c : Thread nD τ) bd) E) $$ [H3 H4 H5 H6 H7 H8 H9 H10 H11 H12 H13 H14 H15 H16 H17 H18 HOff HM HL HA HO]
    · iapply (bodyC 𝒱 c bd E i arg1 harg1 arg2 harg2 arg3 harg3 arg4 harg4 arg5 harg5 arg6 harg6 arg7 harg7 arg8 harg8 arg9 harg9 arg10 harg10 arg11 harg11 arg12 harg12 f1 f2 f3 f4 f5 f6 f7 f8 f9 f10 f11 f12 f13 Q K V xs vs (fun h => absurd ((cond1 i).mp h) (by omega)) ((cond4 i).mpr hn) hck foff fO fM fL fA)
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [HOff]; · iexact HOff
      isplitl [HM]; · iexact HM
      isplitl [HL]; · iexact HL
      isplitl [HA]; · iexact HA
      iexact HO
    iintro %_u ⟨H3, H4, H5, H6, H7, H8, H9, H10, H11, ⟨%g, H12, %hg⟩, H13, H14, H15, H16, H17, H18, ⟨%foff, HOff⟩, ⟨%fM, HM⟩, ⟨%fL, HL⟩, ⟨%fA, HA⟩, ⟨%fO, HO⟩⟩
    isplitl [H13 H14 H15 H16 H17 H18 HOff HM HL HA HO]
    · iexists _, _, _, _, _, _
      isplitr; swap
      · isplitl [H13]; · iexact H13
        isplitl [H14]; · iexact H14
        isplitl [H15]; · iexact H15
        isplitl [H16]; · iexact H16
        isplitl [H17]; · iexact H17
        isplitl [H18]; · iexact H18
        isplitl [HOff]; · iexists _; iexact HOff
        isplitl [HM]; · iexists _; iexact HM
        isplitl [HL]; · iexists _; iexact HL
        isplitl [HA]; · iexists _; iexact HA
        iexists _; iexact HO
      · ipureintro
        rw [h3, h4, h5, h6, h8, h9, h10]
        exact good_next a (i 0).val (by omega) _ _ _ _ _ _ hG
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexists g
    isplitl [H12]; · iexact H12
    ipureintro
    refine ⟨fun h => absurd hn h, fun _ => hg.trans ?_⟩
    rw [h3, h4, h5, h6, h7, h8, h9, h10, h11]
    have hG2 := good_next a (i 0).val (by omega) _ _ _ _ _ _ hG
    rw [hn] at hG2
    rw [show inW i = inN (i 0).val from rfl, hn]
    obtain ⟨e0, e1, e2, e3⟩ := (hG (by omega)).1
    rw [e0, e1, e2, e3] at hG2 ⊢
    exact out_eq a hc _ _ _ _ _ _ hG2

  have hck : k1_chk1 i (rd f13 2 inb_S8_S1_2) (rd f13 3 inb_S8_S1_3) := by
    obtain ⟨-, -, e2, e3⟩ := (hG (by omega)).1
    rw [e2, e3]; exact chk_of a hc i
  iapply (wp_wand frame (wpE (defs₀ (F := F)) 𝒱 (c : Thread nD τ) bd) E) $$ [H3 H4 H5 H6 H7 H8 H9 H10 H11 H12 H13 H14 H15 H16 H17 H18]
  · iapply (bodyB 𝒱 c bd E i arg1 harg1 arg2 harg2 arg3 harg3 arg4 harg4 arg5 harg5 arg6 harg6 arg7 harg7 arg8 harg8 arg9 harg9 arg10 harg10 arg11 harg11 arg12 harg12 f1 f2 f3 f4 f5 f6 f7 f8 f9 f10 f11 f12 f13 Q K V xs vs (fun h => hn ((cond1 i).mp h)) (fun h => hn' ((cond4 i).mp h)) hck)
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18
  iintro %_u ⟨H3, H4, H5, H6, H7, H8, H9, H10, H11, H12, H13, H14, H15, H16, H17, H18⟩
  isplitl [H13 H14 H15 H16 H17 H18 HOff HM HL HA HO]
  · iexists _, _, _, _, _, _
    isplitr; swap
    · isplitl [H13]; · iexact H13
      isplitl [H14]; · iexact H14
      isplitl [H15]; · iexact H15
      isplitl [H16]; · iexact H16
      isplitl [H17]; · iexact H17
      isplitl [H18]; · iexact H18
      isplitl [HOff]; · iexists _; iexact HOff
      isplitl [HM]; · iexists _; iexact HM
      isplitl [HL]; · iexists _; iexact HL
      isplitl [HA]; · iexists _; iexact HA
      iexists _; iexact HO
    · ipureintro
      rw [h3, h4, h5, h6, h8, h9, h10]
      exact good_next a (i 0).val (by omega) _ _ _ _ _ _ hG
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexists f12
  isplitl [H12]; · iexact H12
  ipureintro
  exact ⟨fun _ => rfl, fun h => absurd h (by omega)⟩

end Cert.Proof.Run
end
-- ==== Proof.Tc.Obl2.lean ====
/-
  The attention kernel's body meets the pipeline's obligation.
-/
module

public import proofs.«01_k».proof.Proof.Tc.Step

@[expose] public section

set_option maxRecDepth 8192

noncomputable section

namespace Cert.Proof.Run

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

set_option maxHeartbeats 600000

theorem coords_val : ∀ t : Fin cfg1.N, (grid1.coords t 0).val = t.val := by
  show ∀ t : Fin grid1.N, (grid1.coords t 0).val = t.val
  decide +kernel

theorem block_rows {α : Type} (n : ℕ) (hn : n < 16) (f : S2048x1024.Idx → α) (g : S128x1024.Idx → S2048x1024.Idx)
    (h0 : ∀ x, (g x 0).val = n * 128 + 1 * (x 0).val) (h1 : ∀ x, (g x 1).val = 0 * 1024 + 1 * (x 1).val) :
    (fun x => f (g x)) = fun x : S128x1024.Idx => f fun
      | 0 => (⟨(128 * n + (x 0).val) % 2048, Nat.mod_lt _ (by decide)⟩ : Fin 2048)
      | 1 => (x 1 : Fin 1024) := by
  funext x
  refine congrArg f (funext fun a => Fin.ext ?_)
  have hx : (x 0).val < 128 := (x 0).isLt
  fin_cases a
  · show (g x 0).val = (128 * n + (x 0).val) % 2048
    rw [h0]; omega
  · show (g x 1).val = (x 1).val
    rw [h1]; omega

theorem tr2 (i : grid1.Coords) : cc1_transform_2 i 0 = (i 0).val := by
  have h : (i 0).val < 16 := (i 0).isLt
  show (BitVec.ofNat 32 (i 0).val).toNat = _
  rw [BitVec.toNat_ofNat]
  omega

theorem blk_2 (V : VV F) (c : Dev nD) (t : Fin cfg1.N) : (dats V 0 c).blockOf 2 t = (tin V c).xb t.val := by
  rw [← coords_val t]
  exact block_rows (grid1.coords t 0).val (grid1.coords t 0).isLt (V c main_arg0) (((Memref.whole main_arg0).access (Rect.block (s := S2048x1024) (win1_2).block.size (cc1_transform_2 (grid1.coords t)) (hinb1_2 (grid1.coords t)))).emb) (fun x => by
    show cc1_transform_2 (grid1.coords t) 0 * 128 + 1 * (x 0).val = _
    rw [tr2]) (fun x => rfl)

theorem before_2 (V : VV F) (c : Dev nD) (t : Fin cfg1.N) (d) : (dats V 0 c).before 2 t d = (dats V 0 c).after 2 t := by
  unfold Pipeline.Dat.before
  rw [if_pos (fetch1_2 t)]
  exact blk_2 V c t

theorem body_obligation (V : VV F) (c : Dev nD) (hc : (tin V c).HC) :
    Pipeline.BodyObligation (dats V 0 c) (defs₀ (F := F)) 𝒱₀ (none : HIx 1) Set.univ := fun t => by
  rw [bigSep_W1, bigSep_W1]
  rw [show (dats V 0 c).Φ t.castSucc = PhiS (tin V c) c (grid1.coords t 0).val from by rw [coords_val]; rfl,
    show (dats V 0 c).Φ t.succ = PhiS (tin V c) c ((grid1.coords t 0).val + 1) from by rw [coords_val]; rfl]
  unfold owns
  iintro ⟨HΦ, HOw, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩, ⟨%d6, %f6, %h6, H6⟩, ⟨%d7, %f7, %h7, H7⟩, ⟨%d8, %f8, %h8, H8⟩, ⟨%d9, %f9, %h9, H9⟩, ⟨%d10, %f10, %h10, H10⟩, ⟨%d11, %f11, %h11, H11⟩⟩
  rw [before_0] at h0
  rw [before_1] at h1
  rw [before_2] at h2
  rw [before_3] at h3
  rw [before_4] at h4
  rw [before_5] at h5
  rw [before_6] at h6
  rw [before_7] at h7
  rw [before_8] at h8
  rw [before_9] at h9
  rw [before_10] at h10
  iapply (wp_wand frame (wpE (defs₀ (F := F)) 𝒱₀ (c : Thread nD τ) none) Set.univ) $$ [HΦ H0 H1 H2 H3 H4 H5 H6 H7 H8 H9 H10 H11]
  · iapply (step 𝒱₀ c none Set.univ (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (win1_11.stage (cfg1.slots t 11)) (hstage1_11 ((cfg1.slots t 11).cast nbuf1_11)) f0 f1 f2 f3 f4 f5 f6 f7 f8 f9 f10 f11 (tin V c) hc h0 h1 (h2.trans (congrArg (tin V c).xb (coords_val t).symm)) h3 h4 h5 h6 h7 h8 h9 h10)
    isplitl [HΦ]; · iexact HΦ
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  iintro %_u ⟨HΦ, H0, H1, H2, H3, H4, H5, H6, H7, H8, H9, H10, ⟨%g, H11, %hg⟩⟩
  isplitl [HΦ]; · iexact HΦ
  isplitl [HOw]; · iexact HOw
  isplitl [H0]; · iexists f0; isplitr; swap; (· iexact H0); ipureintro; exact h0
  isplitl [H1]; · iexists f1; isplitr; swap; (· iexact H1); ipureintro; exact h1
  isplitl [H2]; · iexists f2; isplitr; swap; (· iexact H2); ipureintro; exact h2
  isplitl [H3]; · iexists f3; isplitr; swap; (· iexact H3); ipureintro; exact h3
  isplitl [H4]; · iexists f4; isplitr; swap; (· iexact H4); ipureintro; exact h4
  isplitl [H5]; · iexists f5; isplitr; swap; (· iexact H5); ipureintro; exact h5
  isplitl [H6]; · iexists f6; isplitr; swap; (· iexact H6); ipureintro; exact h6
  isplitl [H7]; · iexists f7; isplitr; swap; (· iexact H7); ipureintro; exact h7
  isplitl [H8]; · iexists f8; isplitr; swap; (· iexact H8); ipureintro; exact h8
  isplitl [H9]; · iexists f9; isplitr; swap; (· iexact H9); ipureintro; exact h9
  isplitl [H10]; · iexists f10; isplitr; swap; (· iexact H10); ipureintro; exact h10
  by_cases h15 : (grid1.coords t 0).val = 15
  · have hi : cfg1.idle 11 (cfg1.grid.coords t) = false := by
      show (!(k1_cond4 (grid1.coords t) == 1#1)) = false
      rw [(cond4 _).mpr h15]; rfl
    rw [hi]
    iexists g
    isplitr; · ipureintro; exact hg.2 h15
    iexact H11
  · have hi : cfg1.idle 11 (cfg1.grid.coords t) = true := by
      show (!(k1_cond4 (grid1.coords t) == 1#1)) = true
      rw [Bool.not_eq_true', beq_eq_false_iff_ne]
      exact fun h => h15 ((cond4 _).mp h)
    have hfl : (cfg1.win 11).flush t = false := by
      rw [Bool.eq_false_iff]
      intro h
      have := (flush1_11 t).mp h
      have ht : t.val < 16 := t.isLt
      rw [coords_val] at h15
      omega
    rw [hi, hfl]
    iexists d11
    iexists g
    isplitr; · ipureintro; exact (hg.1 h15).trans h11
    iexact H11

end Cert.Proof.Run
end
-- ==== Proof.Tc.Region.lean ====
/-
  The attention kernel's region: from every unscoped buffer at any contents to the same with the result written.
-/
module

public import proofs.«01_k».proof.Proof.Tc.Obl2
public import Idealize.ShloMosaic.Lib.Pipeline.FrameTail

@[expose] public section

set_option maxRecDepth 8192

noncomputable section

namespace Cert.Proof.Run

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

open Idealize.ShloMosaic.Pipeline (arrRef afterRegion)

omit [FloatOps F] in
/-- A whole scratch memref's points-to, as the launch deals it. -/
theorem pt_whole {e : EltTy} {s : Shape} {sp : Space} (M : Memref sig .tc sp s e) (h : M.IsWhole) (c : Dev nD) (f : Buf (Elt F) (M.view.loc (c : Thread nD τ))) :
    (M.view.loc (c : Thread nD τ) ↦[M.view.set]{fullShare} f : sProp 𝕄) = (M.view.loc (c : Thread nD τ) ↦{fullShare} f) := by
  rw [h.set_eq_univ]

theorem good_zero (a : TIn F) (f13 Q K V xs vs) : good a 0 f13 Q K V xs vs := fun h => absurd h (Nat.lt_irrefl 0)

/-- A whole scratch memref held at some contents, read either way. -/
theorem to_set {e : EltTy} {s : Shape} {sp : Space} (M : Memref sig .tc sp s e) (h : M.IsWhole) (c : Dev nD) (f : Buf (Elt F) (M.view.loc (c : Thread nD τ))) :
    (M.view.loc (c : Thread nD τ) ↦{fullShare} f : sProp 𝕄) ⊢ (M.view.loc (c : Thread nD τ) ↦[M.view.set]{fullShare} f) := Entails.of_eq (pt_whole M h c f).symm
theorem of_set {e : EltTy} {s : Shape} {sp : Space} (M : Memref sig .tc sp s e) (h : M.IsWhole) (c : Dev nD) (f : Buf (Elt F) (M.view.loc (c : Thread nD τ))) :
    (M.view.loc (c : Thread nD τ) ↦[M.view.set]{fullShare} f : sProp 𝕄) ⊢ (M.view.loc (c : Thread nD τ) ↦{fullShare} f) := Entails.of_eq (pt_whole M h c f)

/-- The scratch buffers at anything are the invariant before the first point, -/
theorem phi_in (a : TIn F) (c : Dev nD) : (Pipeline.scopedRest (Ix := HIx 1) (Name := ℕ) (U := UU) (Lvl := ℕ) (Val := Elt F) spec1 c : sProp 𝕄) ⊢ PhiS a c 0 := by
  rw [scopedRest1_eq]
  unfold PhiS
  iintro ⟨⟨%q, Hq⟩, ⟨%k, Hk⟩, ⟨%v, Hv⟩, ⟨%x, Hx⟩, ⟨%s, Hs⟩, ⟨%f6, H6⟩, ⟨%f7, H7⟩, ⟨%f8, H8⟩, ⟨%f9, H9⟩, ⟨%f10, H10⟩, ⟨%mt, Hm⟩⟩
  iexists mt, q, k, v, x, s
  isplitr; · ipureintro; exact good_zero _ _ _ _ _ _ _
  isplitl [Hm]; · iapply (to_set mMeta (Memref.isWhole_whole _) c mt); iexact Hm
  isplitl [Hq]; · iapply (to_set mQ (Memref.isWhole_whole _) c q); iexact Hq
  isplitl [Hk]; · iapply (to_set mK (Memref.isWhole_whole _) c k); iexact Hk
  isplitl [Hv]; · iapply (to_set mV (Memref.isWhole_whole _) c v); iexact Hv
  isplitl [Hx]; · iapply (to_set mX (Memref.isWhole_whole _) c x); iexact Hx
  isplitl [Hs]; · iapply (to_set mS (Memref.isWhole_whole _) c s); iexact Hs
  isplitl [H6]; · iexists _; iapply (to_set mOff (Memref.isWhole_whole _) c f6); iexact H6
  isplitl [H7]; · iexists _; iapply (to_set mM (Memref.isWhole_whole _) c f7); iexact H7
  isplitl [H8]; · iexists _; iapply (to_set mL (Memref.isWhole_whole _) c f8); iexact H8
  isplitl [H9]; · iexists _; iapply (to_set mA (Memref.isWhole_whole _) c f9); iexact H9
  iexists _; iapply (to_set mO (Memref.isWhole_whole _) c f10); iexact H10

/-- and the invariant after any point gives them back. -/
theorem phi_out (a : TIn F) (c : Dev nD) (n : ℕ) : PhiS a c n ⊢ (Pipeline.scopedRest (Ix := HIx 1) (Name := ℕ) (U := UU) (Lvl := ℕ) (Val := Elt F) spec1 c : sProp 𝕄) := by
  rw [scopedRest1_eq]
  unfold PhiS
  iintro ⟨%mt, %q, %k, %v, %x, %s, -, Hm, Hq, Hk, Hv, Hx, Hs, ⟨%f6, H6⟩, ⟨%f7, H7⟩, ⟨%f8, H8⟩, ⟨%f9, H9⟩, ⟨%f10, H10⟩⟩
  isplitl [Hq]; · iexists _; iapply (of_set mQ (Memref.isWhole_whole _) c q); iexact Hq
  isplitl [Hk]; · iexists _; iapply (of_set mK (Memref.isWhole_whole _) c k); iexact Hk
  isplitl [Hv]; · iexists _; iapply (of_set mV (Memref.isWhole_whole _) c v); iexact Hv
  isplitl [Hx]; · iexists _; iapply (of_set mX (Memref.isWhole_whole _) c x); iexact Hx
  isplitl [Hs]; · iexists _; iapply (of_set mS (Memref.isWhole_whole _) c s); iexact Hs
  isplitl [H6]; · iexists _; iapply (of_set mOff (Memref.isWhole_whole _) c f6); iexact H6
  isplitl [H7]; · iexists _; iapply (of_set mM (Memref.isWhole_whole _) c f7); iexact H7
  isplitl [H8]; · iexists _; iapply (of_set mL (Memref.isWhole_whole _) c f8); iexact H8
  isplitl [H9]; · iexists _; iapply (of_set mA (Memref.isWhole_whole _) c f9); iexact H9
  isplitl [H10]; · iexists _; iapply (of_set mO (Memref.isWhole_whole _) c f10); iexact H10
  iexists _; iapply (of_set mMeta (Memref.isWhole_whole _) c mt); iexact Hm

/-- The prefetched tables' admissible contents: there is no table. -/
abbrev adm : (p : Fin 1) → (pcfgs (F := F) p).Adm := fun p => (cfgs p).toPCfg_adm

/-- Every device's buffers by name, off a valuation of each. -/
abbrev atRefs (W : Dev nD → Valuation τ sig (Elt F)) : VV F := fun c b => W c (Proc.devRef .tc b)

/-- The TensorCore owing nothing, its waits so far those of the SparseCore call. -/
abbrev idle (c : Dev nD) : sProp 𝕄 := iprop(∃ W, ⌜(K (F := F)).WBelow (SparseCore.T c) W 8⌝ ∗ owes (SparseCore.T c) (0 : CellTallies nD τ sig (HIx 1)) W)

variable (W : Dev nD → Valuation τ sig (Elt F)) (hc : ∀ c, (tin (atRefs W) c).HC)

/-- Every buffer after the region. -/
def afterTc (c : Dev nD) : Valuation τ sig (Elt F) := afterRegion (dats (atRefs W) 0 c) (W c)

set_option backward.isDefEq.respectTransparency.types false in
/-- The attention kernel's region: entered from every unscoped buffer at `W`, left with the result written. -/
def reg1 : Pipeline.RegionSeg (pcfgs (F := F)) adm (dats (atRefs W)) (none : HIx 1) defs₀ 𝒱₀ (K (F := F)).L (K (F := F)).lev 0 where
  win := launch1.win.to₀
  block_pos := launch1.block_pos
  stage_whole := launch1.stage_whole
  K := PEmpty
  osem := fun k => k.elim
  ho := Pipeline.OwnSemFacts.none _
  hbody c := (body_obligation (atRefs W) c (hc c)).loose
  hwaits := Pipeline.hwaits_of_owed_zero _ _ _ _ _ _ 0 fun _ _ => rfl
  pre c := iprop(StableHlo.held (c : Thread nD τ) (Pipeline.ucRefs τ sig) (W c) ∗ idle c)
  post c := iprop(StableHlo.held (c : Thread nD τ) (Pipeline.ucRefs τ sig) (afterTc W c) ∗ idle c)
  X c := iprop(emp)
  Y c := iprop(emp)
  Z c := Pipeline.unscopedRest (Ix := HIx 1) (Name := ℕ) (U := UU) (Lvl := ℕ) spec1 c (atRefs W c)
  hentry c := by
    rw [Pipeline.ownSems0_none,
      show StableHlo.held (c : Thread nD τ) (Pipeline.ucRefs τ sig) (W c) = unscopedBufs c (atRefs W c)
        from (Pipeline.unscopedBufs_held (Ix := HIx 1) (Name := ℕ) (U := UU) (Lvl := ℕ) c (W c)).symm]
    have hsplit := Pipeline.arrays_of_unscopedBufs (p := 0) (pcfgs (F := F)) adm (dats (atRefs W)) launch1.win launch1.arr_whole c
      ((dats (atRefs W) 0 c).share_full fun _ => rfl) (atRefs W c) (A_eq (atRefs W) c)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Ws, %hW, HO⟩
      iexists Ws; isplitr; · ipureintro; exact fun p hp => Or.inl (hW p hp)
      iexact HO
    isplitr; · iempintro
    iexact Hrest
  hin c := by
    rw [show (dats (atRefs W) 0 c).Φ 0 = PhiS (tin (atRefs W) c) c 0 from rfl]
    iintro ⟨-, -, Hr⟩
    iapply (phi_in (tin (atRefs W) c) c); iexact Hr
  hout c := by
    rw [Pipeline.ownSems0_none, show (dats (atRefs W) 0 c).Φ (Fin.last cfg1.N) = PhiS (tin (atRefs W) c) c cfg1.N from rfl]
    iintro H
    isplitr; · iempintro
    isplitr; · iempintro
    iapply (phi_out (tin (atRefs W) c) c cfg1.N); iexact H
  hexit c := by
    have hjoin := Pipeline.unscopedBufs_of_arrays (p := 0) (pcfgs (F := F)) adm (Ix := HIx 1) (Name := ℕ) (U := UU) (Lvl := ℕ)
      launch1.win launch1.arr_whole c (dats (atRefs W)) ((dats (atRefs W) 0 c).share_full fun _ => rfl)
      (atRefs W c) (atRefs (afterTc W) c) ((dats (atRefs W) 0 c).arrAt · cfg1.N)
      (fun w => (Pipeline.afterRegion_arr (dats (atRefs W) 0 c) (W c) launch1.win.arr_inj w).symm)
      (fun b hb => Pipeline.afterRegion_of_not_arr (dats (atRefs W) 0 c) (W c)
        fun w h => hb (h ▸ Finset.mem_image.mpr ⟨w, Finset.mem_univ _, rfl⟩))
    rw [show StableHlo.held (c : Thread nD τ) (Pipeline.ucRefs τ sig) (afterTc W c) = unscopedBufs c (atRefs (afterTc W) c)
        from (Pipeline.unscopedBufs_held (Ix := HIx 1) (Name := ℕ) (U := UU) (Lvl := ℕ) c (afterTc W c)).symm]
    iintro ⟨Ha, HO, -, Hrest⟩
    imodintro
    isplitl [Ha Hrest]
    · iapply hjoin; isplitl [Ha] <;> iassumption
    unfold Pipeline.Dat.owesAt Pipeline.owesWithin
    icases HO with ⟨%Ws, %hW, HO⟩
    iexists Ws; isplitr
    · ipureintro
      intro p hp
      rcases hW hp with h | h
      · exact h
      · obtain ⟨w, sl, rfl⟩ := h
        exact Nat.zero_le _
    iexact HO

end Cert.Proof.Run
end
-- ==== Proof.Call.lean ====
/-
  The attention kernel's call in the program.
-/
module

public import proofs.«01_k».proof.Proof.Tc.Region

@[expose] public section

set_option maxRecDepth 8192

noncomputable section

namespace Cert.Proof.Run

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

open Idealize.ShloMosaic.Pipeline (ucRefs pin)

abbrev pinned : Fin 1 → Pipeline.Cfg sig Λ₀ := pin (pcfgs (F := F)) adm

set_option backward.isDefEq.respectTransparency.types false in
theorem region_run [∀ e, Nonempty (Elt F e)] (W : Dev nD → Valuation τ sig (Elt F)) (hW : ∀ c, (tin (atRefs W) c).HC) (d : Dev nD) (Q : PUnit.{1} → sProp 𝕄) :
    iprop((iprop(boundary (d.tc : Thread nD τ) ∗ (reg1 W hW).post d) -∗ wp frame (wpE (D (F := F)) 𝒱 (d.tc : Thread nD τ) none) Set.univ (Prog.ret ⟨⟩) Q)
        ∗ boundary (d.tc : Thread nD τ) ∗ (reg1 W hW).pre d
        ∗ levAts (K (F := F)).L (K (F := F)).lev ∗ Pipeline.cellsGhost (pinned (F := F)) EP 0 d ∗ Pipeline.toksInit (pinned (F := F)) EP 0 d)
      ⊢ wp frame (wpE (D (F := F)) 𝒱 (d.tc : Thread nD τ) none) Set.univ
          (.op (.customCall (Pipeline.entry 0) ()) fun x => .ret x) Q :=
  Pipeline.RegionSeg.wp (pcfgs (F := F)) adm (dats (atRefs W)) (none : HIx 1) cellOf_inj EP defs₀ 𝒱₀ (K (F := F)).L (K (F := F)).lev
    (reg1 W hW) d none (fun u hu => absurd hu (Option.not_mem_none u)) (fun x => Prog.ret x) Q

set_option backward.isDefEq.respectTransparency.types false in
theorem call_run [∀ e, Nonempty (Elt F e)] (W : Dev nD → Valuation τ sig (Elt F)) (hW : ∀ c, (tin (atRefs W) c).HC) (d : Dev nD) (Q : PUnit.{1} → sProp 𝕄) :
    iprop((iprop(boundary (d.tc : Thread nD τ) ∗ (reg1 W hW).post d) -∗ Q ⟨⟩)
        ∗ boundary (d.tc : Thread nD τ) ∗ (reg1 W hW).pre d
        ∗ levAts (K (F := F)).L (K (F := F)).lev ∗ Pipeline.cellsGhost (pinned (F := F)) EP 0 d ∗ Pipeline.toksInit (pinned (F := F)) EP 0 d)
      ⊢ wp frame (wpE ((K (F := F)).defs (D (F := F))) 𝒱 (d.tc : Thread nD τ) none) Set.univ
          (Prog.lift (.customCall (SparseCore.inner (Pipeline.entry 0)) ())) Q := by
  have h2 := (K (F := F)).wp_liftProg (D (F := F)) 𝒱 (d.tc : Thread nD τ) Set.univ none (.op (.customCall (Pipeline.entry 0) ()) fun x => .ret x) Q
  refine BIBase.Entails.trans ?_ ((region_run W hW d Q).trans h2)
  iintro ⟨Hk, Hr⟩
  isplitl [Hk]
  · iintro H
    rw [wp_ret]
    imodintro
    iapply Hk
    iexact H
  iexact Hr

theorem reg1_pre (W : Dev nD → Valuation τ sig (Elt F)) (hW : ∀ c, (tin (atRefs W) c).HC) (d : Dev nD) :
    (reg1 W hW).pre d = iprop(StableHlo.held (d.tc : Thread nD τ) (ucRefs τ sig) (W d) ∗ idle d) := rfl
theorem reg1_post (W : Dev nD → Valuation τ sig (Elt F)) (hW : ∀ c, (tin (atRefs W) c).HC) (d : Dev nD) :
    (reg1 W hW).post d = iprop(StableHlo.held (d.tc : Thread nD τ) (ucRefs τ sig) (afterTc W d) ∗ idle d) := rfl
end Cert.Proof.Run
end
-- ==== Proof.ScRun.lean ====
/-
  The bounds kernel's launch: the two SparseCores take the segment numbers, the sought number and the two tables of
  counts tile by tile, and the tables come back at the counts.
-/
module

public import proofs.«01_k».proof.Proof.ScTile

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-- The four arrays of the call when it starts. -/
structure SIn (F : FTy → Type) where
  x : (d : Dev nD) → Buf (Elt F) (xLoc d)
  s : (d : Dev nD) → Buf (Elt F) (sLoc d)
  a : (d : Dev nD) → Buf (Elt F) (aLoc d)
  b : (d : Dev nD) → Buf (Elt F) (bLoc d)

variable (I : SIn F)

omit [FloatOps F] in
theorem nCore_zero : (K (F := F)).nCore 0 = 2 := rfl
omit [FloatOps F] in
theorem nSub_zero : (K (F := F)).nSub 0 = 16 := rfl

/-- Tile `i` of SparseCore `c`. -/
abbrev tileOf (c : Fin ((K (F := F)).nCore 0)) (i : Fin ((K (F := F)).nSub 0)) : grid0.Coords :=
  coordsV (Fin.cast (nCore_zero (F := F)) c) (Fin.cast (nSub_zero (F := F)) i)

/-- The tables of counts the call leaves. -/
abbrev ltOf (d : Dev nD) : Buf (Elt F) (aLoc d) := countsOf .slt (I.x d) (I.s d)
abbrev leOf (d : Dev nD) : Buf (Elt F) (bLoc d) := countsOf .sle (I.x d) (I.s d)

/-- What a tile is handed and what it hands back. -/
abbrev inRow (d : Dev nD) (L : grid0.Coords) : sProp 𝕄 :=
  iprop(xPts d L (I.x d) ∗ sPts d L (I.s d) ∗ aPts d L (I.a d) ∗ bPts d L (I.b d))
abbrev outRow (d : Dev nD) (L : grid0.Coords) : sProp 𝕄 :=
  iprop(xPts d L (I.x d) ∗ sPts d L (I.s d) ∗ aPts d L (ltOf I d) ∗ bPts d L (leOf I d))

/-- The call takes its arrays tile by tile, each SparseCore its sixteen tiles' shares. -/
def P : (K (F := F)).Pay (nD := nD) (Val := Elt F) (Name := ℕ) (U := UU) where
  st := fun q d c => match q with | 0 => bigSep Finset.univ fun i : Fin ((K (F := F)).nSub 0) => inRow I d (tileOf (F := F) c i)
  dn := fun q d c => match q with | 0 => bigSep Finset.univ fun i : Fin ((K (F := F)).nSub 0) => outRow I d (tileOf (F := F) c i)
  go := fun q d c i => match q with | 0 => inRow I d (tileOf (F := F) c i)
  td := fun q d c i => match q with | 0 => outRow I d (tileOf (F := F) c i)
  x := fun _ _ => iprop(emp)

instance P_storable : (P (F := F) I).IsStorable where
  st q d c := match q with
    | 0 => (inferInstance : BI.Storable (upEmb : UEmb _ 𝕄) (bigSep Finset.univ fun i : Fin ((K (F := F)).nSub 0) => inRow I d (tileOf (F := F) c i)))
  dn q d c := match q with
    | 0 => (inferInstance : BI.Storable (upEmb : UEmb _ 𝕄) (bigSep Finset.univ fun i : Fin ((K (F := F)).nSub 0) => outRow I d (tileOf (F := F) c i)))
  go q d c i := match q with
    | 0 => (inferInstance : BI.Storable (upEmb : UEmb _ 𝕄) (inRow I d (tileOf (F := F) c i)))
  td q d c i := match q with
    | 0 => (inferInstance : BI.Storable (upEmb : UEmb _ 𝕄) (outRow I d (tileOf (F := F) c i)))

/-! ## The tile's obligation -/

theorem defs₀_vector (c : Fin τ.nSC) (s : Fin τ.nSub) :
    defs₀ (F := F) (.scVector c s) 0 ()
      = SparseCore.onTile hcore0 hsub0 (fun c s => cc0_bounds_kernel (coordsV c s)
          xV (Memref.isWhole_whole _) sV (Memref.isWhole_whole _) aV (Memref.isWhole_whole _) bV (Memref.isWhole_whole _)
          tX (Memref.isWhole_whole _) tS (Memref.isWhole_whole _) tA (Memref.isWhole_whole _) tB (Memref.isWhole_whole _)
          cc0_scoped0 cc0_scoped1 cc0_scoped2 cc0_scoped3) ⟨⟩ c s := rfl

theorem tileObl (hF : (K (F := F)).Facts) : (K (F := F)).TileObl (D (F := F)) 𝒱 (P I) v₀ 0 := by
  intro d c i O W hO _ _
  simp only [show (P I).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) hF O W hO (I.x d) (I.s d) (I.a d) (I.b d)

/-! ## The arrays split into the tiles' shares -/

theorem vecSplit : (K (F := F)).VecSplit' (P I) 0 := by
  intro d c
  show (bigSep Finset.univ fun i : Fin ((K (F := F)).nSub 0) => inRow I d (tileOf (F := F) c i)) ⊢ |={Set.univ}=> iprop(
      (bigSep Finset.univ fun i : Fin ((K (F := F)).nSub 0) => inRow I d (tileOf (F := F) c i))
      ∗ ((bigSep Finset.univ fun i : Fin ((K (F := F)).nSub 0) => outRow I d (tileOf (F := F) c i))
          -∗ bigSep Finset.univ fun i : Fin ((K (F := F)).nSub 0) => outRow I d (tileOf (F := F) c i)))
  iintro H; imodintro
  isplitl [H]; · iexact H
  iintro H; iexact H

/-- The tile of a pair. -/
abbrev pairTile (p : Fin 2 × Fin 16) : grid0.Coords := coordsV p.1 p.2

omit [FloatOps F] in
theorem wid_pair (p : Fin 2 × Fin 16) : (wid (pairTile p)).val = 2 * p.2.val + p.1.val := rfl

omit [FloatOps F] in
theorem wid_inj (p q : Fin 2 × Fin 16) (h : wid (pairTile p) = wid (pairTile q)) : p = q := by
  have e := congrArg Fin.val h
  rw [wid_pair, wid_pair] at e
  have := p.1.isLt; have := q.1.isLt
  exact Prod.ext (Fin.ext (by omega)) (Fin.ext (by omega))

omit [FloatOps F] in
theorem wid_surj (w : Fin 32) : ∃ p, wid (pairTile p) = w :=
  ⟨(⟨w.val % 2, Nat.mod_lt _ (by decide)⟩, ⟨w.val / 2, by have := w.isLt; omega⟩), Fin.ext (by rw [wid_pair]; show 2 * (w.val / 2) + w.val % 2 = _; omega)⟩

omit [FloatOps F] in
theorem mem_xSet (L : grid0.Coords) (i : S2048.Idx) : i ∈ xSet L ↔ (i 0).val / 64 = (wid L).val := by
  constructor
  · intro h
    obtain ⟨k, -, rfl⟩ := Finset.mem_map.mp h
    rw [xRow_emb]
    show (64 * (wid L).val + (k 0).val) / 64 = _
    have : (k 0).val < 64 := (k 0).isLt
    omega
  · intro h
    refine Finset.mem_map.mpr ⟨fun | 0 => (⟨(i 0).val % 64, Nat.mod_lt _ (by decide)⟩ : Fin 64), Finset.mem_univ _, ?_⟩
    rw [xRow_emb]
    funext a
    match a with
    | 0 => exact Fin.ext (by show 64 * (wid L).val + (i 0).val % 64 = _; omega)

omit [FloatOps F] in
theorem mem_aSet (L : grid0.Coords) (i : S32x16.Idx) : i ∈ aSet L ↔ (i 0 : Fin 32) = wid L := by
  constructor
  · intro h
    obtain ⟨k, -, rfl⟩ := Finset.mem_map.mp h
    exact (aRow_emb L k).1
  · intro h
    refine Finset.mem_map.mpr ⟨fun | 0 => (i 1 : Fin 16), Finset.mem_univ _, ?_⟩
    funext a
    match a with
    | 0 => exact (aRow_emb L _).1.trans h.symm
    | 1 => exact (aRow_emb L _).2

omit [FloatOps F] in
theorem mem_bSet (L : grid0.Coords) (i : S32x16.Idx) : i ∈ bSet L ↔ (i 0 : Fin 32) = wid L := by
  constructor
  · intro h
    obtain ⟨k, -, rfl⟩ := Finset.mem_map.mp h
    exact (bRow_emb L k).1
  · intro h
    refine Finset.mem_map.mpr ⟨fun | 0 => (i 1 : Fin 16), Finset.mem_univ _, ?_⟩
    funext a
    match a with
    | 0 => exact (bRow_emb L _).1.trans h.symm
    | 1 => exact (bRow_emb L _).2

omit [FloatOps F] in
theorem xCover : ((Finset.univ : Finset (Fin 2 × Fin 16)).biUnion fun p => xSet (pairTile p)) = Finset.univ :=
  Finset.eq_univ_iff_forall.mpr fun i => by
    have hi : (i 0).val < 2048 := (i 0).isLt
    obtain ⟨p, hp⟩ := wid_surj ⟨(i 0).val / 64, by omega⟩
    exact Finset.mem_biUnion.mpr ⟨p, Finset.mem_univ _, (mem_xSet _ i).mpr (by rw [hp])⟩

omit [FloatOps F] in
theorem xPts_tiles (d : Dev nD) (f : Buf (Elt F) (xLoc d)) :
    (xLoc d ↦{fullShare} f : sProp 𝕄) = bigSep Finset.univ fun p : Fin 2 × Fin 16 => xLoc d ↦[xSet (pairTile p)]{fullShare} f := by
  rw [← pointsTo_biUnion Finset.univ (ℓ := xLoc d) (fun p => xSet (pairTile p)) fun p _ q _ hpq => Finset.disjoint_left.mpr fun i hi hj =>
    hpq (wid_inj p q (Fin.ext (((mem_xSet _ i).mp hi).symm.trans ((mem_xSet _ i).mp hj)))), xCover]

omit [FloatOps F] in
theorem aCover : ((Finset.univ : Finset (Fin 2 × Fin 16)).biUnion fun p => aSet (pairTile p)) = Finset.univ :=
  Finset.eq_univ_iff_forall.mpr fun i => by
    obtain ⟨p, hp⟩ := wid_surj (i 0)
    exact Finset.mem_biUnion.mpr ⟨p, Finset.mem_univ _, (mem_aSet _ i).mpr hp.symm⟩

omit [FloatOps F] in
theorem aPts_tiles (d : Dev nD) (f : Buf (Elt F) (aLoc d)) :
    (aLoc d ↦{fullShare} f : sProp 𝕄) = bigSep Finset.univ fun p : Fin 2 × Fin 16 => aLoc d ↦[aSet (pairTile p)]{fullShare} f := by
  rw [← pointsTo_biUnion Finset.univ (ℓ := aLoc d) (fun p => aSet (pairTile p)) fun p _ q _ hpq => Finset.disjoint_left.mpr fun i hi hj =>
    hpq (wid_inj p q (((mem_aSet _ i).mp hi).symm.trans ((mem_aSet _ i).mp hj))), aCover]

omit [FloatOps F] in
theorem bCover : ((Finset.univ : Finset (Fin 2 × Fin 16)).biUnion fun p => bSet (pairTile p)) = Finset.univ :=
  Finset.eq_univ_iff_forall.mpr fun i => by
    obtain ⟨p, hp⟩ := wid_surj (i 0)
    exact Finset.mem_biUnion.mpr ⟨p, Finset.mem_univ _, (mem_bSet _ i).mpr hp.symm⟩

omit [FloatOps F] in
theorem bPts_tiles (d : Dev nD) (f : Buf (Elt F) (bLoc d)) :
    (bLoc d ↦{fullShare} f : sProp 𝕄) = bigSep Finset.univ fun p : Fin 2 × Fin 16 => bLoc d ↦[bSet (pairTile p)]{fullShare} f := by
  rw [← pointsTo_biUnion Finset.univ (ℓ := bLoc d) (fun p => bSet (pairTile p)) fun p _ q _ hpq => Finset.disjoint_left.mpr fun i hi hj =>
    hpq (wid_inj p q (((mem_bSet _ i).mp hi).symm.trans ((mem_bSet _ i).mp hj))), bCover]

omit [FloatOps F] in
/-- The sought number's vector dealt out to the tiles. -/
theorem sPts_tiles (d : Dev nD) (f : Buf (Elt F) (sLoc d)) :
    (sLoc d ↦{fullShare} f : sProp 𝕄) = bigSep Finset.univ fun p : Fin 2 × Fin 16 => sPts d (pairTile p) f := by
  rw [bigSep_univ_prod, Transfers.pointsTo_deal (Finset.univ : Finset (Fin 2)) ⟨0, Finset.mem_univ _⟩ fullShare]
  refine bigSep_congr fun c _ => ?_
  rw [Transfers.pointsTo_deal (Finset.univ : Finset (Fin 16)) ⟨0, Finset.mem_univ _⟩]
  rfl

/-- The tiles' shares, SparseCore by SparseCore, are the four arrays whole. -/
theorem st0_eq (d : Dev nD) :
    (bigSep Finset.univ fun c : Fin ((K (F := F)).nCore 0) => (P I).st 0 d c)
      = iprop((xLoc d ↦{fullShare} I.x d) ∗ (sLoc d ↦{fullShare} I.s d) ∗ (aLoc d ↦{fullShare} I.a d) ∗ bLoc d ↦{fullShare} I.b d) := by
  rw [xPts_tiles, sPts_tiles, aPts_tiles, bPts_tiles, ← bigSep_sep', ← bigSep_sep', ← bigSep_sep', bigSep_univ_prod]; rfl
theorem dn0_eq (d : Dev nD) :
    (bigSep Finset.univ fun c : Fin ((K (F := F)).nCore 0) => (P I).dn 0 d c)
      = iprop((xLoc d ↦{fullShare} I.x d) ∗ (sLoc d ↦{fullShare} I.s d) ∗ (aLoc d ↦{fullShare} ltOf I d) ∗ bLoc d ↦{fullShare} leOf I d) := by
  rw [xPts_tiles, sPts_tiles, aPts_tiles, bPts_tiles, ← bigSep_sep', ← bigSep_sep', ← bigSep_sep', bigSep_univ_prod]; rfl

end Cert.Proof.Run
end
-- ==== Proof.Whole.lean ====
/-
  The whole program: the host operations, the bounds kernel and the attention kernel, run to their end.
-/
module

public import proofs.«01_k».proof.Proof.Call
public import proofs.«01_k».proof.Proof.ScRun

@[expose] public section

set_option maxRecDepth 8192

noncomputable section

namespace Cert.Proof.Run

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

open Idealize.ShloMosaic.Pipeline (ucRefs pin)

/-! ## The program as lines of host operations around the two calls -/

/-- Before the SparseCore call: the sought segment's number, by the dynamic index, and its vector. -/
def opsA : List (HloOp τ sig (Elt F)) :=
  [StableHlo.TRef.nullary main_call0.c (constantI S_ 32 0#32),
   StableHlo.TRef.binary (.of main_arg2 : StableHlo.TRef sig ⟨S_, .i32⟩) main_call0.c main_call0.v0 (cmpi .slt),
   StableHlo.TRef.nullary main_call0.c_0 (constantI S_ 32 2048#32),
   StableHlo.TRef.binary (.of main_arg2 : StableHlo.TRef sig ⟨S_, .i32⟩) main_call0.c_0 main_call0.v1 addi,
   StableHlo.TRef.ternary main_call0.v0 main_call0.v1 (.of main_arg2 : StableHlo.TRef sig ⟨S_, .i32⟩) main_call0.v2 select,
   StableHlo.TRef.unaryIndexed (.of main_arg1 : StableHlo.TRef sig ⟨S2048, .i32⟩) ![main_call0.v2] main_call0.v3 (fun x i => Host.dynamicSlice S1 x (fun k => (i k (Shape.Idx.first h_S_)).toInt) sliceFits_S2048_S1),
   StableHlo.TRef.reshape main_call0.v3 main_call0.v4 (rfl : (.i32 : EltTy) = .i32) shapeCasts_S1_S_,
   StableHlo.unary main_v0 main_v1 (broadcastInDim S16 ![] bcast_S_S16 : (⟨S_, .i32⟩ : BufTy).Contents (Elt F) → (⟨S16, .i32⟩ : BufTy).Contents (Elt F))]

/-- Between the calls: the four biases laid out as rows. -/
def opsB : List (HloOp τ sig (Elt F)) :=
  [StableHlo.reshape main_arg4 main_v3 (rfl : (.f32 : EltTy) = .f32) shapeCasts_S1024_S1x1024,
   StableHlo.reshape main_arg6 main_v4 (rfl : (.f32 : EltTy) = .f32) shapeCasts_S1024_S1x1024,
   StableHlo.reshape main_arg8 main_v5 (rfl : (.f32 : EltTy) = .f32) shapeCasts_S1024_S1x1024,
   StableHlo.reshape main_arg10 main_v6 (rfl : (.f32 : EltTy) = .f32) shapeCasts_S1024_S1x1024]

/-- After them: the result's row laid out as a vector. -/
def opsC : List (HloOp τ sig (Elt F)) :=
  [StableHlo.reshape main_v7 main_v8 (rfl : (.f32 : EltTy) = .f32) shapeCasts_S1x1024_S1024]

theorem main_eq (d : Dev nD) : main (F := F) d
    = (StableHlo.seq opsA >>= fun _ => (K (F := F)).run d 0 >>= fun _ => StableHlo.seq opsB >>= fun _ =>
        (Prog.lift (.customCall (SparseCore.inner (Pipeline.entry 0)) ())) >>= fun _ => StableHlo.seq opsC >>= fun _ => pure ⟨⟩) := by
  simp only [main, fn_dynamic_index_in_dim.body, opsA, opsB, opsC, StableHlo.seq, bind_assoc, pure_bind]

theorem subA : ∀ op ∈ opsA (F := F), op.bufs ⊆ ucRefs τ sig := by
  intro op h
  refine Pipeline.sub_ucRefs op ?_
  unfold opsA at h
  simp only [List.mem_cons, List.mem_nil_iff, or_false] at h
  rcases h with rfl | rfl | rfl | rfl | rfl | rfl | rfl | rfl
  · exact StableHlo.nullary_bufs_sub ..
  · exact StableHlo.binary_bufs_sub ..
  · exact StableHlo.nullary_bufs_sub ..
  · exact StableHlo.binary_bufs_sub ..
  · exact StableHlo.ternary_bufs_sub ..
  · exact StableHlo.unaryIndexed_bufs_sub ..
  · exact StableHlo.reshape_bufs_sub ..
  · exact StableHlo.unary_bufs_sub ..

theorem subB : ∀ op ∈ opsB (F := F), op.bufs ⊆ ucRefs τ sig := by
  intro op h
  refine Pipeline.sub_ucRefs op ?_
  unfold opsB at h
  simp only [List.mem_cons, List.mem_nil_iff, or_false] at h
  rcases h with rfl | rfl | rfl | rfl <;> exact StableHlo.reshape_bufs_sub ..

theorem subC : ∀ op ∈ opsC (F := F), op.bufs ⊆ ucRefs τ sig := by
  intro op h
  refine Pipeline.sub_ucRefs op ?_
  unfold opsC at h
  simp only [List.mem_cons, List.mem_nil_iff, or_false] at h
  subst h
  exact StableHlo.reshape_bufs_sub ..

theorem freshA : ∀ op ∈ opsA (F := F), op.fresh = ∅ := by
  intro _ h; unfold opsA at h; (repeat (cases h with | head => rfl | tail _ h => ?_)); exact nomatch h
theorem freshB : ∀ op ∈ opsB (F := F), op.fresh = ∅ := by
  intro _ h; unfold opsB at h; (repeat (cases h with | head => rfl | tail _ h => ?_)); exact nomatch h
theorem freshC : ∀ op ∈ opsC (F := F), op.fresh = ∅ := by
  intro _ h; unfold opsC at h; (repeat (cases h with | head => rfl | tail _ h => ?_)); exact nomatch h

/-! ## The buffers, step by step -/

variable (m : (ℓ : Loc nD τ sig) → Buf (Elt F) ℓ) (ρ : Dev nD → PrngReg)

abbrev rX : DevRef τ sig := Proc.devRef .tc main_arg1
abbrev rS : DevRef τ sig := Proc.devRef .tc main_v1
abbrev rA : DevRef τ sig := Proc.devRef .tc main_v2_0
abbrev rB : DevRef τ sig := Proc.devRef .tc main_v2_1

/-- At launch, and when the SparseCore call starts. -/
abbrev V0 (d : Dev nD) : Valuation τ sig (Elt F) := fun b => m (d, b)
def V1 (d : Dev nD) : Valuation τ sig (Elt F) := StableHlo.after opsA (V0 m d)

/-- The call's arrays. -/
def inA : SIn F where
  x d := V1 m d rX
  s d := V1 m d rS
  a d := V1 m d rA
  b d := V1 m d rB

/-- After the call, before the attention kernel, after it, and at the end. -/
def V2 (d : Dev nD) : Valuation τ sig (Elt F) :=
  Function.update (Function.update (V1 m d) rA (ltOf (inA m) d)) rB (leOf (inA m) d)
def V3 (d : Dev nD) : Valuation τ sig (Elt F) := StableHlo.after opsB (V2 m d)
def V4 (d : Dev nD) : Valuation τ sig (Elt F) := afterTc (V3 m) d
def V5 (d : Dev nD) : Valuation τ sig (Elt F) := StableHlo.after opsC (V4 m d)

/-- The call's four arrays among the buffers. -/
def four : Finset (DevRef τ sig) := {rX, rS, rA, rB}

theorem four_sub : four ⊆ ucRefs τ sig := by
  intro b hb
  unfold four at hb
  simp only [Finset.mem_insert, Finset.mem_singleton] at hb
  rcases hb with rfl | rfl | rfl | rfl <;> exact Pipeline.devRef_mem_ucRefs rfl

theorem ne_of {a b : Ref sig .tc} (h : a ≠ b) : (Proc.devRef .tc a : DevRef τ sig) ≠ Proc.devRef .tc b := StableHlo.devRef_ne_of_ne h

theorem held_four (d : Dev nD) (V : Valuation τ sig (Elt F)) :
    (StableHlo.held (d.tc : Thread nD τ) four V : sProp 𝕄)
      = iprop((xLoc d ↦{fullShare} V rX) ∗ (sLoc d ↦{fullShare} V rS) ∗ (aLoc d ↦{fullShare} V rA) ∗ bLoc d ↦{fullShare} V rB) := by
  unfold StableHlo.held four
  rw [SparseCore.bigSep_insert' (by simp only [Finset.mem_insert, Finset.mem_singleton, not_or]; exact ⟨ne_of (by decide), ne_of (by decide), ne_of (by decide)⟩),
    SparseCore.bigSep_insert' (by simp only [Finset.mem_insert, Finset.mem_singleton, not_or]; exact ⟨ne_of (by decide), ne_of (by decide)⟩),
    SparseCore.bigSep_insert' (by simp only [Finset.mem_singleton]; exact ne_of (by decide)), bigSep_singleton]

theorem V2_X (d : Dev nD) : V2 m d rX = V1 m d rX := by
  unfold V2
  rw [Function.update_of_ne (ne_of (by decide)), Function.update_of_ne (ne_of (by decide))]
theorem V2_S (d : Dev nD) : V2 m d rS = V1 m d rS := by
  unfold V2
  rw [Function.update_of_ne (ne_of (by decide)), Function.update_of_ne (ne_of (by decide))]
theorem V2_A (d : Dev nD) : V2 m d rA = ltOf (inA m) d := by
  unfold V2
  rw [Function.update_of_ne (ne_of (by decide)), Function.update_self]
theorem V2_B (d : Dev nD) : V2 m d rB = leOf (inA m) d := by
  unfold V2
  rw [Function.update_self]
theorem V2_else (d : Dev nD) (b : DevRef τ sig) (h1 : b ≠ rA) (h2 : b ≠ rB) : V2 m d b = V1 m d b := by
  unfold V2
  rw [Function.update_of_ne h2, Function.update_of_ne h1]

theorem held_rest (d : Dev nD) :
    (StableHlo.held (d.tc : Thread nD τ) (ucRefs τ sig \ four) (V1 m d) : sProp 𝕄) = StableHlo.held (d.tc : Thread nD τ) (ucRefs τ sig \ four) (V2 m d) := by
  unfold StableHlo.held
  refine bigSep_congr fun b hb => ?_
  have hn := (Finset.mem_sdiff.mp hb).2
  unfold four at hn
  simp only [Finset.mem_insert, Finset.mem_singleton, not_or] at hn
  rw [V2_else m d b hn.2.2.1 hn.2.2.2]

/-! ## The launch element -/

def u₀ : UU := (Rounds.initOf (K (F := F)).hsCells (K (F := F)).hsToks,
  (Rounds.initOf (Pipeline.cells (pinned (F := F)) cellOf_inj) (Pipeline.launchToks (pinned (F := F)) cellOf_inj), 1))

/-- What the launch deals each TensorCore for its pipeline. -/
abbrev G (d : Dev nD) : sProp 𝕄 := iprop(Pipeline.cellsGhost (pinned (F := F)) EP 0 d ∗ Pipeline.toksInit (pinned (F := F)) EP 0 d)

omit [FloatOps F] in
theorem emps {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (Rounds.initOf (K (F := F)).hsCells (K (F := F)).hsToks)) ∗ (bigSep Finset.univ fun d : Dev nD => G (F := F) d)
        ∗ bigSep Finset.univ fun thr : Thread nD τ => bigSep Finset.univ fun q : Fin 1 => (P (inA m)).x q thr) := by
  unfold u₀
  iintro Hu
  ihave H := (ownU_pair _ _) $$ Hu
  icases H with ⟨HH, HP⟩
  ihave H := (own_pair_emb (embR : Emb (UP × Counters) 𝕄) _ _) $$ HP
  icases H with ⟨HP, -⟩
  imod (Pipeline.fund_ghost (pinned (F := F)) EP cellOf_inj) $$ HP with ⟨Hg, Ht⟩
  imodintro
  isplitl [HH]; · iexact HH
  isplitl [Hg Ht]
  · rw [bigSep_sep']
    isplitl [Hg]
    · rw [show (bigSep Finset.univ fun d : Dev nD => Pipeline.cellsGhost (pinned (F := F)) EP 0 d) = (bigSep Finset.univ fun d : Dev nD => bigSep Finset.univ fun p : Fin 1 => Pipeline.cellsGhost (pinned (F := F)) EP p d) from
        bigSep_congr fun d _ => (bigSep_univ_of_subsingleton (Φ := fun p : Fin 1 => Pipeline.cellsGhost (pinned (F := F)) EP p d) (0 : Fin 1)).symm]
      iexact Hg
    · rw [show (bigSep Finset.univ fun d : Dev nD => Pipeline.toksInit (pinned (F := F)) EP 0 d) = (bigSep Finset.univ fun d : Dev nD => bigSep Finset.univ fun p : Fin 1 => Pipeline.toksInit (pinned (F := F)) EP p d) from
        bigSep_congr fun d _ => (bigSep_univ_of_subsingleton (Φ := fun p : Fin 1 => Pipeline.toksInit (pinned (F := F)) EP p d) (0 : Fin 1)).symm]
      iexact Ht
  rw [show (bigSep Finset.univ fun thr : Thread nD τ => bigSep Finset.univ fun q : Fin 1 => (P (inA m)).x q thr) = bigSep Finset.univ fun _ => iprop(emp) from
    bigSep_congr fun _ _ => bigSep_univ_of_subsingleton (0 : Fin 1), emps]
  iempintro

/-! ## The run -/

/-- What the attention kernel's loops need of the counts. -/
abbrev Bounded : Prop := ∀ c, (tin (atRefs (V3 m)) c).HC

abbrev FIN (d : Dev nD) : sProp 𝕄 := StableHlo.held (d.tc : Thread nD τ) (ucRefs τ sig) (V5 m d)

theorem otc_one (d : Dev nD) : (K (F := F)).Otc d 1 = 0 := (K (F := F)).Otc_end d (le_refl 1)

/-- The call's arrays out of the buffers, and back with its results. -/
theorem held_in (d : Dev nD) : (StableHlo.held (d.tc : Thread nD τ) (ucRefs τ sig) (V1 m d) : sProp 𝕄)
    = iprop((bigSep Finset.univ fun c : Fin ((K (F := F)).nCore 0) => (P (inA m)).st 0 d c) ∗ StableHlo.held (d.tc : Thread nD τ) (ucRefs τ sig \ four) (V2 m d)) := by
  rw [StableHlo.held_sub_split (d.tc : Thread nD τ) four_sub (V1 m d), held_four, held_rest, st0_eq]
  rfl
theorem held_out (d : Dev nD) : (StableHlo.held (d.tc : Thread nD τ) (ucRefs τ sig) (V2 m d) : sProp 𝕄)
    = iprop((bigSep Finset.univ fun c : Fin ((K (F := F)).nCore 0) => (P (inA m)).dn 0 d c) ∗ StableHlo.held (d.tc : Thread nD τ) (ucRefs τ sig \ four) (V2 m d)) := by
  rw [StableHlo.held_sub_split (d.tc : Thread nD τ) four_sub (V2 m d), held_four, dn0_eq, V2_X, V2_S, V2_A, V2_B]
  rfl

end Cert.Proof.Run
end
-- ==== Proof.Main.lean ====
/-
  The whole program runs to its end.
-/
module

public import proofs.«01_k».proof.Proof.Whole

@[expose] public section

set_option maxRecDepth 8192

noncomputable section

namespace Cert.Proof.Run

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

open Idealize.ShloMosaic.Pipeline (ucRefs pin)
variable (m : (ℓ : Loc nD τ sig) → Buf (Elt F) ℓ) (ρ : Dev nD → PrngReg)

set_option backward.isDefEq.respectTransparency.types false in
theorem hmain [∀ e, Nonempty (Elt F e)] (hc : Bounded m) (κ : GSem nD τ sig → ℕ) (d : Dev nD) :
    iprop((K (F := F)).ctx EH (P (inA m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [Pipeline.unscopedBufs_held (Ix := HIx 1) (Name := ℕ) (U := UU) (Lvl := ℕ) d (V0 m d), main_eq]
  iintro ⟨#Hctx, Hst, ⟨Hb, Hh, Hts, -⟩, Hg⟩
  iapply (StableHlo.wp_seq 𝒱 none Set.univ d (ucRefs τ sig) _ opsA subA freshA (V0 m d)) $$ [Hb Hh]
  · isplitl [Hb]; · iexact Hb
    iexact Hh
  iintro ⟨Hb, Hh⟩
  rw [show StableHlo.after opsA (V0 m d) = V1 m d from rfl]
  ihave Hh := (Entails.of_eq (held_in m d)) $$ Hh
  icases Hh with ⟨Hs, Hr⟩
  rw [wp_bind]
  iapply ((K (F := F)).wp_run (D (F := F)) 𝒱 (EH := EH) (P := P (inA m)) κ d 0) $$ [Hst Hs Hr Hb Hts Hg]
  isplitr; · iexact Hctx
  isplitl [Hst]; · iexact Hst
  isplitl [Hs]; · iexact Hs
  iintro ⟨Hst, Hdn⟩
  ihave Hh := (Entails.of_eq (held_out m d).symm) $$ [Hdn Hr]
  · isplitl [Hdn] <;> iassumption
  iapply (StableHlo.wp_seq 𝒱 none Set.univ d (ucRefs τ sig) _ opsB subB freshB (V2 m d)) $$ [Hb Hh]
  · isplitl [Hb]; · iexact Hb
    iexact Hh
  iintro ⟨Hb, Hh⟩
  rw [show StableHlo.after opsB (V2 m d) = V3 m d from rfl]
  unfold SparseCore.Cfg.tcSt
  rw [show ((0 : Fin 1).val + 1) = 1 from rfl, otc_one]
  icases Hst with ⟨HO, Hrest⟩
  ihave Hlev := (SparseCore.Cfg.ctx_levAts κ) $$ Hctx
  icases Hg with ⟨Hg, Ht⟩
  rw [wp_bind]
  iapply (call_run (V3 m) hc d _) $$ [Hb Hh HO Hrest Hts Hg Ht Hlev]
  rw [reg1_pre, reg1_post]
  isplitl [Hts Hrest]
  · iintro ⟨Hb, Hh, HO⟩
    rw [show afterTc (V3 m) d = V4 m d from rfl]
    iapply (StableHlo.wp_seq 𝒱 none Set.univ d (ucRefs τ sig) _ opsC subC freshC (V4 m d)) $$ [Hb Hh]
    · isplitl [Hb]; · iexact Hb
      iexact Hh
    iintro ⟨Hb, Hh⟩
    rw [show StableHlo.after opsC (V4 m d) = V5 m d from rfl, wp_pure]
    imodintro
    isplitl [HO Hrest]
    · isplitl [HO]; · iexact HO
      iexact Hrest
    isplitl [Hh]; · iexact Hh
    isplitl [Hb] <;> iassumption
  isplitl [Hb]; · iexact Hb
  isplitl [Hh HO]
  · isplitl [Hh]; · iexact Hh
    iexact HO
  isplitl [Hlev]; · iexact Hlev
  isplitl [Hg] <;> iassumption

def fq (d : Dev nD) (s' : Phys nD τ sig (Elt F)) : Prop := ∀ b ∈ ucRefs τ sig, s'.mem.mem (d, b) = V5 m d b

theorem hfin (d : Dev nD) (s' : Phys nD τ sig (Elt F)) : iprop(FIN m d ∗ SI s') ⊢ (⌜fq m d s'⌝ : sProp 𝕄) := by
  unfold FIN StableHlo.held
  iintro ⟨Hh, HSI⟩
  ihave Hr := (pointsTo_read_all (ucRefs τ sig) (fun b => ((d.tc : Thread nD τ).1, b)) (V5 m d) s') $$ [Hh HSI]
  · isplitl [Hh] <;> iassumption
  icases Hr with ⟨%h, -⟩
  ipureintro; exact h

/-! ## The program's run -/

/-- Every TensorCore buffer ends at its last stage, and every counter at zero. -/
def QC : PUnit × MemSt nD τ sig (Elt F) → Prop := fun r =>
  (∀ c : Dev nD, ∀ b ∈ ucRefs τ sig, r.2.mem (c, b) = V5 m c b) ∧ r.2.sem = fun _ => 0

theorem run_main [∀ e, Nonempty (Elt F e)] (hc : Bounded m) : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (inA m)) (A := ∅) scFacts v₀
    (fun q hq => match q with | 0 => nomatch hq)
    (fun q _ => match q with | 0 => tileObl (inA m) scFacts)
    (fun q _ => match q with | 0 => SparseCore.Cfg.VecSplit.of_plain (vecSplit (inA m)))
    m ρ main (fun d => G (F := F) d) (FIN m) (u₀ (F := F)) (sep_elim_left.trans (hu₀ m)) (hmain m ρ hc) (fq m) (hfin m) (QC m) (fun _ h hz => ⟨h, hz⟩)

end Cert.Proof.Run
end
-- ==== Proof.Final.lean ====
/-
  What the buffers hold at the end: the arguments as at launch, and the result by the counts of the bounds kernel.
-/
module

public import proofs.«01_k».proof.Proof.Main
public import proofs.«01_k».proof.Proof.Count
public import Idealize.ShloMosaic.Lib.StableHlo.RunClose

@[expose] public section

set_option maxRecDepth 8192

noncomputable section

namespace Cert.Proof.Run

open Cert.KernelIdeal Cert.KernelIdeal.Gen

open Idealize.ShloMosaic Idealize.ShloMosaic.TcCoe Idealize.ShloMosaic.StableHlo
open Idealize.ShloMosaic.Pipeline (ucRefs)

variable {F : FTy → Type} [FloatOps F]
variable (m : (ℓ : Loc nD τ sig) → Buf (Elt F) ℓ) (d : Dev nD)

/-- The number of the segment asked for. -/
def kSid (ids : IVec S2048 32) (pos : IVec S_ 32) : IVec S_ 32 :=
  shapeCast S_ (Host.dynamicSlice S1 ids (fun k => (((![select (cmpi .slt pos (constantI S_ 32 0#32)) (addi pos (constantI S_ 32 2048#32)) pos] : Fin 1 → IVec S_ 32)) k (Shape.Idx.first h_S_)).toInt) sliceFits_S2048_S1) shapeCasts_S1_S_

/-- It is one of the list. -/
theorem kSid_mem (ids : IVec S2048 32) (pos : IVec S_ 32) (j : S_.Idx) : ∃ i : Fin 2048, ids (ix1 i) = kSid ids pos j := by
  unfold kSid shapeCast Host.dynamicSlice
  exact ⟨_, congrArg ids (funext fun a => match a with | 0 => rfl)⟩

/-- The host operations' writes. -/
theorem notA (r : Ref sig .tc) (h : r ∉ [main_call0.c.ref, main_call0.v0.ref, main_call0.c_0.ref, main_call0.v1.ref, main_call0.v2.ref, main_call0.v3.ref, main_call0.v4.ref, main_v1]) : V1 m d (Proc.devRef .tc r) = m (d, Proc.devRef .tc r) := by
  unfold V1
  exact after_of_writes_sub (W := [main_call0.c.ref, main_call0.v0.ref, main_call0.c_0.ref, main_call0.v1.ref, main_call0.v2.ref, main_call0.v3.ref, main_call0.v4.ref, main_v1]) opsA (V0 m d) (forall_writes_sub_of_map rfl) h

theorem V1_sid : V1 m d rS = broadcastInDim S16 ![] bcast_S_S16 (kSid (m (d, Proc.devRef .tc main_arg1)) (m (d, Proc.devRef .tc main_arg2))) := by
  unfold V1 opsA
  simp only [TRef.ternary, TRef.unary, TRef.binary, TRef.nullary, TRef.toBuf, TRef.ofBuf, cast_eq]
  after_results_simp_entrywise
  rfl

theorem kept3 (r : Ref sig .tc) (h : r ∉ [main_v3, main_v4, main_v5, main_v6]) : V3 m d (Proc.devRef .tc r) = V2 m d (Proc.devRef .tc r) := by
  unfold V3
  exact after_of_writes_sub (W := [main_v3, main_v4, main_v5, main_v6]) opsB (V2 m d) (forall_writes_sub_of_map rfl) h
theorem kept2 (r : Ref sig .tc) (h1 : r ≠ main_v2_0) (h2 : r ≠ main_v2_1) : V2 m d (Proc.devRef .tc r) = V1 m d (Proc.devRef .tc r) :=
  V2_else m d _ (ne_of h1) (ne_of h2)
theorem kept5 (r : Ref sig .tc) (h : r ∉ [main_v8]) : V5 m d (Proc.devRef .tc r) = V4 m d (Proc.devRef .tc r) := by
  unfold V5
  exact after_of_writes_sub (W := [main_v8]) opsC (V4 m d) (forall_writes_sub_of_map rfl) h

/-- A buffer no host operation before the attention kernel writes, nor the bounds kernel. -/
def Plain (r : Ref sig .tc) : Prop := r ∉ [main_call0.c.ref, main_call0.v0.ref, main_call0.c_0.ref, main_call0.v1.ref, main_call0.v2.ref, main_call0.v3.ref, main_call0.v4.ref, main_v1]
  ∧ r ≠ main_v2_0 ∧ r ≠ main_v2_1 ∧ r ∉ [main_v3, main_v4, main_v5, main_v6] ∧ r ∉ [main_v8]
instance (r : Ref sig .tc) : Decidable (Plain r) := by unfold Plain; infer_instance

theorem plain3 (r : Ref sig .tc) (h : Plain r) : V3 m d (Proc.devRef .tc r) = m (d, Proc.devRef .tc r) :=
  (kept3 m d r h.2.2.2.1).trans ((kept2 m d r h.2.1 h.2.2.1).trans (notA m d r h.1))

theorem V3_LT : V3 m d (Proc.devRef .tc main_v2_0) = ltOf (inA m) d := (kept3 m d _ (by decide)).trans (V2_A m d)
theorem V3_LE : V3 m d (Proc.devRef .tc main_v2_1) = leOf (inA m) d := (kept3 m d _ (by decide)).trans (V2_B m d)

theorem V3_bq : V3 m d (Proc.devRef .tc main_v3) = shapeCast S1x1024 (m (d, Proc.devRef .tc main_arg4)) shapeCasts_S1024_S1x1024 := by
  rw [← (kept2 m d main_arg4 (by decide) (by decide)).trans (notA m d main_arg4 (by decide))]
  unfold V3 opsB
  after_results_simp
  rfl
theorem V3_bk : V3 m d (Proc.devRef .tc main_v4) = shapeCast S1x1024 (m (d, Proc.devRef .tc main_arg6)) shapeCasts_S1024_S1x1024 := by
  rw [← (kept2 m d main_arg6 (by decide) (by decide)).trans (notA m d main_arg6 (by decide))]
  unfold V3 opsB
  after_results_simp
  rfl
theorem V3_bv : V3 m d (Proc.devRef .tc main_v5) = shapeCast S1x1024 (m (d, Proc.devRef .tc main_arg8)) shapeCasts_S1024_S1x1024 := by
  rw [← (kept2 m d main_arg8 (by decide) (by decide)).trans (notA m d main_arg8 (by decide))]
  unfold V3 opsB
  after_results_simp
  rfl
theorem V3_bo : V3 m d (Proc.devRef .tc main_v6) = shapeCast S1x1024 (m (d, Proc.devRef .tc main_arg10)) shapeCasts_S1024_S1x1024 := by
  rw [← (kept2 m d main_arg10 (by decide) (by decide)).trans (notA m d main_arg10 (by decide))]
  unfold V3 opsB
  after_results_simp
  rfl

/-- The attention kernel's operands, of the launch contents. -/
abbrev aOf : TIn F := tin (atRefs (V3 m)) d

theorem sid_all (l : S16.Idx) : (inA m).s d l = kSid (m (d, Proc.devRef .tc main_arg1)) (m (d, Proc.devRef .tc main_arg2)) ix0 := by
  show V1 m d rS l = _
  rw [V1_sid]
  exact congrArg (kSid _ _) (funext fun a => a.elim0)

theorem inA_x : (inA m).x d = m (d, Proc.devRef .tc main_arg1) := notA m d main_arg1 (by decide)

theorem lo_eq : (aOf m d).lo = BitVec.ofNat 32 (nLt (m (d, Proc.devRef .tc main_arg1)) (kSid (m (d, Proc.devRef .tc main_arg1)) (m (d, Proc.devRef .tc main_arg2)) ix0)) := by
  show loW (V3 m d (Proc.devRef .tc main_v2_0)) = _
  rw [V3_LT]
  show loW (countsOf .slt ((inA m).x d) ((inA m).s d)) = _
  rw [loW_eq _ _ _ (sid_all m d), inA_x]
  rfl
theorem hi_eq : (aOf m d).hi = BitVec.ofNat 32 (nLe (m (d, Proc.devRef .tc main_arg1)) (kSid (m (d, Proc.devRef .tc main_arg1)) (m (d, Proc.devRef .tc main_arg2)) ix0)) := by
  show hiW (V3 m d (Proc.devRef .tc main_v2_1)) = _
  rw [V3_LE]
  show hiW (countsOf .sle ((inA m).x d) ((inA m).s d)) = _
  rw [hiW_eq _ _ _ (sid_all m d), inA_x]
  rfl

/-- The segment's bounds. -/
abbrev loN : ℕ := nLt (m (d, Proc.devRef .tc main_arg1)) (kSid (m (d, Proc.devRef .tc main_arg1)) (m (d, Proc.devRef .tc main_arg2)) ix0)
abbrev hiN : ℕ := nLe (m (d, Proc.devRef .tc main_arg1)) (kSid (m (d, Proc.devRef .tc main_arg1)) (m (d, Proc.devRef .tc main_arg2)) ix0)

theorem hiN_le : hiN m d ≤ 2048 := nLe_le _ _
theorem loN_lt : loN m d < hiN m d := by
  obtain ⟨i, hi⟩ := kSid_mem (m (d, Proc.devRef .tc main_arg1)) (m (d, Proc.devRef .tc main_arg2)) ix0
  exact nLt_lt _ _ i hi
theorem lo_toNat : (aOf m d).lo.toNat = loN m d := by
  have h1 := hiN_le m d; have h2 := loN_lt m d
  rw [lo_eq, BitVec.toNat_ofNat]
  exact Nat.mod_eq_of_lt (show loN m d < 2 ^ 32 by omega)
theorem hi_toNat : (aOf m d).hi.toNat = hiN m d := by
  have h1 := hiN_le m d
  rw [hi_eq, BitVec.toNat_ofNat]
  exact Nat.mod_eq_of_lt (show hiN m d < 2 ^ 32 by omega)

/-- The attention kernel's loops stay within the blocks. -/
theorem bounded : Bounded m := fun c => hc_of (aOf m c) (loN m c) (hiN m c) (lo_toNat m c) (hi_toNat m c) (loN_lt m c) (hiN_le m c)

/-! ## The attention kernel's result in its buffer -/

def tLast : Fin cfg1.N := ⟨15, by decide⟩

theorem out_final (V : VV F) (c : Dev nD) : (dats V 0 c).arrAt (11 : Fin 12) cfg1.N = (tin V c).out := by
  have hN : cfg1.N = tLast.val + 1 := by decide
  have ho : ((cfg1.win (11 : Fin 12)).blk tLast).view.read (Elt F) ((dats V 0 c).arrAt (11 : Fin 12) cfg1.N)
      = (dats V 0 c).flushed (11 : Fin 12) tLast := by
    rw [hN, (dats V 0 c).arrAt_succ (11 : Fin 12) tLast]
    rw [show (cfg1.win (11 : Fin 12)).flush tLast = true from (flush1_11 _).mpr (by decide), if_pos rfl]
    exact View.read_write_univ _ _
  have hz : (fun a => (win1_11.index tLast) a * main_v7.ty.shape.size a) = fun _ => 0 :=
    funext fun a => by fin_cases a <;> rfl
  have hr := fun f => Memref.read_access_unit_zero (Elt F) main_v7 hz (fun a => by fin_cases a <;> decide) f
  exact (hr _).symm.trans (ho.trans rfl)

theorem V4_out : V4 m d (Proc.devRef .tc main_v7) = (aOf m d).out :=
  (Pipeline.afterRegion_arr (dats (atRefs (V3 m)) 0 d) (V3 m d) launch1.win.arr_inj (11 : Fin 12)).trans (out_final _ d)

theorem V4_in (w : Fin 12) (hw : (cfg1.win w).isOut = false) : V4 m d (Proc.devRef .tc (Pipeline.arrRef cfg1.spec w)) = V3 m d (Proc.devRef .tc (Pipeline.arrRef cfg1.spec w)) :=
  (Pipeline.afterRegion_arr (dats (atRefs (V3 m)) 0 d) (V3 m d) launch1.win.arr_inj w).trans ((dats (atRefs (V3 m)) 0 d).arrAt_in w hw _)

theorem V4_not (r : Ref sig .tc) (h : ∀ w, r ≠ Pipeline.arrRef cfg1.spec w) : V4 m d (Proc.devRef .tc r) = V3 m d (Proc.devRef .tc r) :=
  Pipeline.afterRegion_of_not_arr (dats (atRefs (V3 m)) 0 d) (V3 m d) h

theorem V5_out : V5 m d (Proc.devRef .tc main_v8) = shapeCast S1024 (aOf m d).out shapeCasts_S1x1024_S1024 := by
  rw [← V4_out]
  unfold V5 opsC
  after_results_simp
  rfl

theorem end_of (r : Ref sig .tc) (hp : Plain r) (h : V4 m d (Proc.devRef .tc r) = V3 m d (Proc.devRef .tc r)) : V5 m d (Proc.devRef .tc r) = m (d, Proc.devRef .tc r) :=
  (kept5 m d r hp.2.2.2.2).trans (h.trans (plain3 m d r hp))

/-- The arguments at the end are those at launch. -/
theorem args_kept (r : Ref sig .tc) (h : r ∈ [main_arg0, main_arg1, main_arg2, main_arg3, main_arg4, main_arg5, main_arg6, main_arg7, main_arg8, main_arg9, main_arg10]) :
    V5 m d (Proc.devRef .tc r) = m (d, Proc.devRef .tc r) := by
  simp only [List.mem_cons, List.mem_nil_iff, or_false] at h
  rcases h with rfl | rfl | rfl | rfl | rfl | rfl | rfl | rfl | rfl | rfl | rfl
  · exact end_of m d _ (by decide) (V4_in m d (2 : Fin 12) rfl)
  · exact end_of m d _ (by decide) (V4_not m d _ (by decide))
  · exact end_of m d _ (by decide) (V4_not m d _ (by decide))
  · exact end_of m d _ (by decide) (V4_in m d (3 : Fin 12) rfl)
  · exact end_of m d _ (by decide) (V4_not m d _ (by decide))
  · exact end_of m d _ (by decide) (V4_in m d (4 : Fin 12) rfl)
  · exact end_of m d _ (by decide) (V4_not m d _ (by decide))
  · exact end_of m d _ (by decide) (V4_in m d (5 : Fin 12) rfl)
  · exact end_of m d _ (by decide) (V4_not m d _ (by decide))
  · exact end_of m d _ (by decide) (V4_in m d (6 : Fin 12) rfl)
  · exact end_of m d _ (by decide) (V4_not m d _ (by decide))

end Cert.Proof.Run

end
-- ==== Proof.M.Match.lean ====
/-
  The two programs' results agree: over finite arguments and a list that ascends.
-/
module

public import proofs.«01_k».proof.Proof.M.Kern
public import proofs.«01_k».proof.Proof.M.Ref
public import proofs.«01_k».proof.Proof.Final
public import proofs.«01_k».proof.Proof.Gen.Pre_ascending_and_finite
public import Idealize.ShloMosaic.Lib.ReduceAll

@[expose] public section

set_option maxRecDepth 8192

noncomputable section

namespace Cert.Proof.Run

open Idealize.ShloMosaic Idealize.ShloMosaic.TcCoe
open Cert.Proof

/-! ## The precondition read -/

theorem real_of (a : Ideal .f32) (e : FloatOps.cmpf .olt (FloatOps.hostAbsf a) (FloatOps.ofBits (F := Ideal) .f32 0x7F800000#32) = 1#1) : ∃ r : ℝ, a = (r : EReal) := by
  have htop : Ideal.ofBits .f32 0x7F800000#32 = ⊤ := by simp [Ideal.ofBits, Ideal.ieee]
  have e' : Ideal.cmp .olt (max (a : EReal) (-(a : EReal))) (Ideal.ofBits .f32 0x7F800000#32) = 1#1 := e
  rw [htop] at e'
  have h : max (a : EReal) (-(a : EReal)) < ⊤ := by
    by_contra hc
    rw [show Ideal.cmp .olt (max (a : EReal) (-(a : EReal))) ⊤ = BitVec.ofBool (decide (max (a : EReal) (-(a : EReal)) < ⊤)) from rfl, decide_eq_false hc] at e'
    exact absurd e' (by decide)
  have h1 : (a : EReal) < ⊤ := (le_max_left _ _).trans_lt h
  have h2 : -(a : EReal) < ⊤ := (le_max_right _ _).trans_lt h
  have h3 : (a : EReal) ≠ ⊥ := by
    intro hb
    rw [hb] at h2
    exact absurd h2 (by simp)
  exact ⟨EReal.toReal a, (EReal.coe_toReal h1.ne h3).symm⟩

/-- What it says of the list. -/
def Asc (ids : Fin 2048 → BitVec 32) : Prop := Monotone fun j => (ids j).toInt

theorem asc_of (ids : Fin 2048 → BitVec 32) (h : ∀ j : Fin 2047, IntOp.cmpi .sle (ids ⟨j.val, by omega⟩) (ids ⟨j.val + 1, by omega⟩) = 1#1) : Asc ids := by
  refine (Fin.monotone_iff_le_succ (n := 2047) (f := fun j : Fin (2047 + 1) => (ids j).toInt)).mpr fun i => ?_
  have e : BitVec.ofBool ((ids ⟨i.val, by omega⟩).sle (ids ⟨i.val + 1, by omega⟩)) = 1#1 := h i
  rw [ofBool_one, BitVec.sle_iff_toInt_le] at e
  exact e

section
open Cert.Pre_ascending_and_finite

theorem pre_read (x : FVec Ideal S2048x1024 .f32) (ids : IVec S2048 32) (pos : IVec S_ 32) (wq : FVec Ideal S1024x1024 .f32) (bq : FVec Ideal S1024 .f32)
    (wk : FVec Ideal S1024x1024 .f32) (bk : FVec Ideal S1024 .f32) (wv : FVec Ideal S1024x1024 .f32) (bv : FVec Ideal S1024 .f32) (wo : FVec Ideal S1024x1024 .f32) (bo : FVec Ideal S1024 .f32)
    (h : fn (F := Ideal) x ids pos wq bq wk bk wv bv wo bo = fun _ => 1#1) :
    Asc (fun j => ids (ix1 j)) ∧ (∀ i, ∃ r : ℝ, x i = (r : EReal)) ∧ (∀ i, ∃ r : ℝ, wq i = (r : EReal)) ∧ (∀ i, ∃ r : ℝ, bq i = (r : EReal)) ∧ (∀ i, ∃ r : ℝ, wk i = (r : EReal))
      ∧ (∀ i, ∃ r : ℝ, bk i = (r : EReal)) ∧ (∀ i, ∃ r : ℝ, wv i = (r : EReal)) ∧ (∀ i, ∃ r : ℝ, bv i = (r : EReal)) ∧ (∀ i, ∃ r : ℝ, wo i = (r : EReal)) ∧ (∀ i, ∃ r : ℝ, bo i = (r : EReal)) := by
  haveI : Subsingleton S_.Idx := ⟨fun a b => funext fun k => k.elim0⟩
  have h0 := congrFun h ix0
  unfold fn fn_part1 fn_part2 at h0
  obtain ⟨h9, e10⟩ := (andi_one _ _).mp h0
  obtain ⟨h8, e9⟩ := (andi_one _ _).mp h9
  obtain ⟨h7, e8⟩ := (andi_one _ _).mp h8
  obtain ⟨h6, e7⟩ := (andi_one _ _).mp h7
  obtain ⟨h5, e6⟩ := (andi_one _ _).mp h6
  obtain ⟨h4, e5⟩ := (andi_one _ _).mp h5
  obtain ⟨h3, e4⟩ := (andi_one _ _).mp h4
  obtain ⟨h2, e3⟩ := (andi_one _ _).mp h3
  obtain ⟨e1, e2⟩ := (andi_one _ _).mp h2
  refine ⟨asc_of _ fun j => ?_, fun i => real_of _ (Host.reduce_andi_all _ _ _ _ _ e2 i), fun i => real_of _ (Host.reduce_andi_all _ _ _ _ _ e3 i),
    fun i => real_of _ (Host.reduce_andi_all _ _ _ _ _ e4 i), fun i => real_of _ (Host.reduce_andi_all _ _ _ _ _ e5 i), fun i => real_of _ (Host.reduce_andi_all _ _ _ _ _ e6 i),
    fun i => real_of _ (Host.reduce_andi_all _ _ _ _ _ e7 i), fun i => real_of _ (Host.reduce_andi_all _ _ _ _ _ e8 i), fun i => real_of _ (Host.reduce_andi_all _ _ _ _ _ e9 i),
    fun i => real_of _ (Host.reduce_andi_all _ _ _ _ _ e10 i)⟩
  refine Eq.trans (congrArg₂ (IntOp.cmpi .sle) (congrArg ids ?_) (congrArg ids ?_)) (Host.reduce_andi_all _ _ _ _ _ e1 (ix1 j))
  · funext a; match a with | 0 => exact Fin.ext (Nat.zero_add _).symm
  · funext a; match a with | 0 => exact Fin.ext (Nat.add_comm _ _)
end

/-! ## The segment -/

/-- Of a set closed downwards, a number is in it just when it is below the set's size. -/
theorem mem_iff_lt_count (D : Fin 2048 → Prop) [DecidablePred D] (hD : ∀ i j, i ≤ j → D j → D i) (j : Fin 2048) : D j ↔ j.val < ∑ k, if D k then 1 else 0 := by
  rw [Finset.sum_boole, Nat.cast_id]
  constructor
  · intro h
    have := Finset.card_le_card (s := Finset.Iic j) (t := Finset.univ.filter D) fun i hi => Finset.mem_filter.mpr ⟨Finset.mem_univ _, hD i j (Finset.mem_Iic.mp hi) h⟩
    rw [Fin.card_Iic] at this
    exact this
  · intro h
    by_contra hc
    have := Finset.card_le_card (s := Finset.univ.filter D) (t := Finset.Iio j) fun i hi => Finset.mem_Iio.mpr (by
      by_contra hij
      exact hc (hD j i (not_lt.mp hij) (Finset.mem_filter.mp hi).2))
    rw [Fin.card_Iio] at this
    exact absurd h (not_lt.mpr this)

theorem seg_iff (ids : Cert.KernelIdeal.S2048.Idx → BitVec 32) (n : BitVec 32) (h : Asc fun j => ids (ix1 j)) (j : Fin 2048) : ids (ix1 j) = n ↔ Seg (nLt ids n) (nLe ids n) j := by
  have e1 := mem_iff_lt_count (fun j => (ids (ix1 j)).toInt < n.toInt) (fun i j hij hj => lt_of_le_of_lt (h hij) hj) j
  have e2 := mem_iff_lt_count (fun j => (ids (ix1 j)).toInt ≤ n.toInt) (fun i j hij hj => le_trans (h hij) hj) j
  unfold Seg nLt nLe
  simp only [one_slt, one_sle]
  rw [← e2, ← not_lt, ← e1]
  constructor
  · intro e; rw [e]; exact ⟨lt_irrefl _, le_rfl⟩
  · intro e; exact BitVec.eq_of_toInt_eq (le_antisymm e.2 (not_lt.mp e.1))

/-! ## The mean of the projected rows is the projection of the mean row -/

theorem mean_proj (S : Fin 2048 → Prop) [DecidablePred S] (n b : ℝ) (hn : (∑ i, if S i then (1 : ℝ) else 0) = n) (hn0 : n ≠ 0) (g : Fin 2048 → Fin 1024 → ℝ) (w : Fin 1024 → ℝ) :
    (∑ i, (∑ e, g i e * w e + b) * (if S i then 1 else 0)) / (∑ i, if S i then (1 : ℝ) else 0) = ∑ c, (∑ i, if S i then g i c else 0) / n * w c + b := by
  rw [hn, div_eq_iff hn0, add_mul, Finset.sum_mul]
  have hb : b * n = ∑ i, b * (if S i then (1 : ℝ) else 0) := by rw [← hn, Finset.mul_sum]
  have hc : ∀ c, (∑ i, if S i then g i c else 0) / n * w c * n = ∑ i, g i c * w c * (if S i then (1 : ℝ) else 0) := fun c => by
    rw [mul_right_comm, div_mul_cancel₀ _ hn0, Finset.sum_mul]
    exact Finset.sum_congr rfl fun i _ => by split <;> ring
  simp only [hc]
  rw [Finset.sum_comm, hb, ← Finset.sum_add_distrib]
  exact Finset.sum_congr rfl fun i _ => by rw [add_mul, Finset.sum_mul]

/-! ## The results -/

section
open Cert.KernelIdeal Cert.KernelIdeal.Gen
variable (m : (ℓ : Loc nD τ sig) → Buf (Elt Ideal) ℓ) (d : Dev nD)

theorem cast_bias (b : FVec Ideal S1024 .f32) (k : Fin 1024) : shapeCast S1x1024 b shapeCasts_S1024_S1x1024 (ix2 (0 : Fin 1) k) = b (ix1 k) := by pointwise
theorem cast_out (b : FVec Ideal S1x1024 .f32) (k : Fin 1024) : shapeCast S1024 b shapeCasts_S1x1024_S1024 (ix1 k) = b (ix2 (0 : Fin 1) k) := by pointwise

theorem kernel_reference
    (h : Cert.Pre_ascending_and_finite.fn (F := Ideal) (m (d, Proc.devRef .tc main_arg0)) (m (d, Proc.devRef .tc main_arg1)) (m (d, Proc.devRef .tc main_arg2)) (m (d, Proc.devRef .tc main_arg3)) (m (d, Proc.devRef .tc main_arg4)) (m (d, Proc.devRef .tc main_arg5)) (m (d, Proc.devRef .tc main_arg6)) (m (d, Proc.devRef .tc main_arg7)) (m (d, Proc.devRef .tc main_arg8)) (m (d, Proc.devRef .tc main_arg9)) (m (d, Proc.devRef .tc main_arg10)) = fun _ => 1#1) :
    V5 m d (Proc.devRef .tc main_v8) = Ref.rOut (F := Ideal) (m (d, Proc.devRef .tc main_arg0)) (m (d, Proc.devRef .tc main_arg1)) (m (d, Proc.devRef .tc main_arg2)) (m (d, Proc.devRef .tc main_arg3)) (m (d, Proc.devRef .tc main_arg4)) (m (d, Proc.devRef .tc main_arg5)) (m (d, Proc.devRef .tc main_arg6)) (m (d, Proc.devRef .tc main_arg7)) (m (d, Proc.devRef .tc main_arg8)) (m (d, Proc.devRef .tc main_arg9)) (m (d, Proc.devRef .tc main_arg10)) := by
  obtain ⟨hasc, hx, hwq, hbq, hwk, hbk, hwv, hbv, hwo, hbo⟩ := pre_read _ _ _ _ _ _ _ _ _ _ _ h
  choose x hx using hx
  choose wq hwq using hwq
  choose bq hbq using hbq
  choose wk hwk using hwk
  choose bk hbk using hbk
  choose wv hwv using hwv
  choose bv hbv using hbv
  choose wo hwo using hwo
  choose bo hbo using hbo
  have h1 := loN_lt m d
  have h2 := hiN_le m d
  have hsid : ∀ j, m (d, Proc.devRef .tc main_arg1) (ix1 j) = Ref.rSid (m (d, Proc.devRef .tc main_arg1)) (m (d, Proc.devRef .tc main_arg2)) ix0 ↔ Seg (loN m d) (hiN m d) j :=
    fun j => seg_iff _ _ hasc j
  have hin : ∀ (r : Ref sig .tc), Plain r → V3 m d (Proc.devRef .tc r) = m (d, Proc.devRef .tc r) := plain3 m d
  funext o
  obtain ⟨c, rfl⟩ : ∃ c : Fin 1024, o = ix1 c := ⟨o 0, funext fun a => match a with | 0 => rfl⟩
  rw [V5_out, cast_out]
  refine (mean_eq (aOf m d) (fun i k => x (ix2 i k)) (fun i k => wq (ix2 i k)) (fun i k => wk (ix2 i k)) (fun i k => wv (ix2 i k)) (fun i k => wo (ix2 i k))
    (fun k => bq (ix1 k)) (fun k => bk (ix1 k)) (fun k => bv (ix1 k)) (fun k => bo (ix1 k)) (loN m d) (hiN m d)
    (fun i k => (congrFun (hin main_arg0 (by decide)) (ix2 i k)).trans (hx _)) (fun i k => (congrFun (hin main_arg3 (by decide)) (ix2 i k)).trans (hwq _))
    (fun i k => (congrFun (hin main_arg5 (by decide)) (ix2 i k)).trans (hwk _)) (fun i k => (congrFun (hin main_arg7 (by decide)) (ix2 i k)).trans (hwv _))
    (fun i k => (congrFun (hin main_arg9 (by decide)) (ix2 i k)).trans (hwo _))
    (fun k => ((congrFun (V3_bq m d) _).trans (cast_bias _ k)).trans (hbq _)) (fun k => ((congrFun (V3_bk m d) _).trans (cast_bias _ k)).trans (hbk _))
    (fun k => ((congrFun (V3_bv m d) _).trans (cast_bias _ k)).trans (hbv _)) (fun k => ((congrFun (V3_bo m d) _).trans (cast_bias _ k)).trans (hbo _))
    (lo_toNat m d) (hi_toNat m d) h1 h2 c).trans ?_
  refine Eq.symm ((Ref.rOut_real _ _ _ _ _ _ _ _ _ _ _ (fun i k => x (ix2 i k)) (fun i k => wq (ix2 i k)) (fun i k => wk (ix2 i k)) (fun i k => wv (ix2 i k)) (fun i k => wo (ix2 i k))
    (fun k => bq (ix1 k)) (fun k => bk (ix1 k)) (fun k => bv (ix1 k)) (fun k => bo (ix1 k)) (fun i k => hx _) (fun i k => hwq _) (fun i k => hwk _) (fun i k => hwv _) (fun i k => hwo _)
    (fun k => hbq _) (fun k => hbk _) (fun k => hbv _) (fun k => hbo _) (kSid_mem _ _ ix0) c).trans (congrArg _ ?_))
  have hn : (∑ j : Fin 2048, if Seg (loN m d) (hiN m d) j then (1 : ℝ) else 0) = ((hiN m d - loN m d : ℕ) : ℝ) := count_seg _ _ h1.le h2
  simp only [hsid]
  rw [← mean_proj (Seg (loN m d) (hiN m d)) _ (bo (ix1 c)) hn (Nat.cast_ne_zero.mpr (by omega)) _ fun e => wo (ix2 c e)]
  refine congrArg (· / _) (Finset.sum_congr rfl fun i _ => ?_)
  by_cases hi : Seg (loN m d) (hiN m d) i
  · unfold RealMath.att
    simp only [if_pos hi, (hsid i).mpr hi, hsid]
  · simp only [if_neg hi, mul_zero]
end

end Cert.Proof.Run
-- ==== Proof.lean ====
/-
  The certificate: both printings of the kernel and the reference run to quiescence with the arguments kept, and over
  finite arguments whose list of segments ascends the kernel's result is the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_ascending_and_finite
public import proofs.«01_k».proof.Proof.B.Final
public import proofs.«01_k».proof.Proof.M.RefRun
public import proofs.«01_k».proof.Proof.M.Match
public import Idealize.ShloMosaic.Adequacy
public import Idealize.ShloMosaic.Init

@[expose] public section

set_option maxRecDepth 8192

noncomputable section

namespace Cert.Proof

open Idealize.ShloMosaic Idealize.ShloMosaic.TcCoe Idealize.SL.Sem

theorem keep_kernel (m : (ℓ : Loc Cert.Kernel.nD Cert.Kernel.τ Cert.Kernel.sig) → Buf (Elt Bits) ℓ) (r) (h : RunBits.QC (F := Bits) m r) (c : Dev Cert.Kernel.nD) (b : Ref Cert.Kernel.sig .tc)
    (hb : b ∈ [Cert.Kernel.main_arg0, Cert.Kernel.main_arg1, Cert.Kernel.main_arg2, Cert.Kernel.main_arg3, Cert.Kernel.main_arg4, Cert.Kernel.main_arg5, Cert.Kernel.main_arg6, Cert.Kernel.main_arg7, Cert.Kernel.main_arg8, Cert.Kernel.main_arg9, Cert.Kernel.main_arg10]) (hu : b.isScoped = false) :
    r.2.mem ((c.tc : Thread Cert.Kernel.nD Cert.Kernel.τ).loc b) = m ((c.tc : Thread Cert.Kernel.nD Cert.Kernel.τ).loc b) :=
  (h.1 c (Proc.devRef .tc b) (Pipeline.devRef_mem_ucRefs hu)).trans (RunBits.args_kept m c b hb)

theorem keep_kernelIdeal (m : (ℓ : Loc Cert.KernelIdeal.nD Cert.KernelIdeal.τ Cert.KernelIdeal.sig) → Buf (Elt Ideal) ℓ) (r) (h : Run.QC (F := Ideal) m r) (c : Dev Cert.KernelIdeal.nD) (b : Ref Cert.KernelIdeal.sig .tc)
    (hb : b ∈ [Cert.KernelIdeal.main_arg0, Cert.KernelIdeal.main_arg1, Cert.KernelIdeal.main_arg2, Cert.KernelIdeal.main_arg3, Cert.KernelIdeal.main_arg4, Cert.KernelIdeal.main_arg5, Cert.KernelIdeal.main_arg6, Cert.KernelIdeal.main_arg7, Cert.KernelIdeal.main_arg8, Cert.KernelIdeal.main_arg9, Cert.KernelIdeal.main_arg10]) (hu : b.isScoped = false) :
    r.2.mem ((c.tc : Thread Cert.KernelIdeal.nD Cert.KernelIdeal.τ).loc b) = m ((c.tc : Thread Cert.KernelIdeal.nD Cert.KernelIdeal.τ).loc b) :=
  (h.1 c (Proc.devRef .tc b) (Pipeline.devRef_mem_ucRefs hu)).trans (Run.args_kept m c b hb)

theorem frame_kernel : Cert.quiescent_Kernel := fun m ρ _ =>
  (θ_run Cert.Kernel.defs _ _).mono (fun r h => ⟨fun c => ⟨keep_kernel m r h c _ (by decide) rfl, keep_kernel m r h c _ (by decide) rfl, keep_kernel m r h c _ (by decide) rfl, keep_kernel m r h c _ (by decide) rfl, keep_kernel m r h c _ (by decide) rfl, keep_kernel m r h c _ (by decide) rfl, keep_kernel m r h c _ (by decide) rfl, keep_kernel m r h c _ (by decide) rfl, keep_kernel m r h c _ (by decide) rfl, keep_kernel m r h c _ (by decide) rfl, keep_kernel m r h c _ (by decide) rfl⟩, h.2⟩) (RunBits.run_main (F := Bits) m ρ (RunBits.bounded m))

theorem ideal_run (m : (ℓ : Loc Cert.KernelIdeal.nD Cert.KernelIdeal.τ Cert.KernelIdeal.sig) → Buf (Elt Ideal) ℓ) (ρ) : θ_run (Cert.KernelIdeal.defs (F := Ideal)) (Cert.KernelIdeal.threads (F := Ideal)) ⟨m, fun _ => 0, ρ⟩ (Run.QC (F := Ideal) m) :=
  Run.run_main (F := Ideal) m ρ (Run.bounded m)

theorem frame_kernelIdeal : Cert.quiescent_KernelIdeal := fun m ρ _ =>
  (θ_run Cert.KernelIdeal.defs _ _).mono (fun r h => ⟨fun c => ⟨keep_kernelIdeal m r h c _ (by decide) rfl, keep_kernelIdeal m r h c _ (by decide) rfl, keep_kernelIdeal m r h c _ (by decide) rfl, keep_kernelIdeal m r h c _ (by decide) rfl, keep_kernelIdeal m r h c _ (by decide) rfl, keep_kernelIdeal m r h c _ (by decide) rfl, keep_kernelIdeal m r h c _ (by decide) rfl, keep_kernelIdeal m r h c _ (by decide) rfl, keep_kernelIdeal m r h c _ (by decide) rfl, keep_kernelIdeal m r h c _ (by decide) rfl, keep_kernelIdeal m r h c _ (by decide) rfl⟩, h.2⟩) (ideal_run m ρ)

theorem frame_kernelIdeal_pre : Cert.quiescent_KernelIdeal_pre_ascending_and_finite := fun m ρ _ => frame_kernelIdeal m ρ trivial

/-- The reference declares no semaphore. -/
theorem frame_reference : Cert.quiescent_ReferenceIdeal := fun m ρ _ =>
  (θ_run Cert.ReferenceIdeal.defs _ _).mono (fun r h => ⟨fun c => ⟨(h c).2 _ (by decide), (h c).2 _ (by decide), (h c).2 _ (by decide), (h c).2 _ (by decide), (h c).2 _ (by decide), (h c).2 _ (by decide), (h c).2 _ (by decide), (h c).2 _ (by decide), (h c).2 _ (by decide), (h c).2 _ (by decide), (h c).2 _ (by decide)⟩, sem_eq_zero_of_no_sems (by decide) r.2⟩)
    (Ref.ref_run (F := Ideal) m ρ)

theorem frame_reference_pre : Cert.quiescent_ReferenceIdeal_pre_ascending_and_finite := fun m ρ _ => frame_reference m ρ trivial

/-- The shared result is the reference's, of the kernel's arguments. -/
theorem same : Cert.algebraic_KernelIdeal_ReferenceIdeal_pre_ascending_and_finite := fun m ρ m' ρ' hpre hagree => by
  refine ⟨fun c => Run.V5 m c (Proc.devRef .tc Cert.KernelIdeal.main_v8),
    (θ_run Cert.KernelIdeal.defs _ _).mono (fun r h c => ⟨h.1 c (Proc.devRef .tc Cert.KernelIdeal.main_v8) (Pipeline.devRef_mem_ucRefs rfl), ⟨keep_kernelIdeal m r h c _ (by decide) rfl, keep_kernelIdeal m r h c _ (by decide) rfl, keep_kernelIdeal m r h c _ (by decide) rfl, keep_kernelIdeal m r h c _ (by decide) rfl, keep_kernelIdeal m r h c _ (by decide) rfl, keep_kernelIdeal m r h c _ (by decide) rfl, keep_kernelIdeal m r h c _ (by decide) rfl, keep_kernelIdeal m r h c _ (by decide) rfl, keep_kernelIdeal m r h c _ (by decide) rfl, keep_kernelIdeal m r h c _ (by decide) rfl, keep_kernelIdeal m r h c _ (by decide) rfl⟩⟩) (ideal_run m ρ),
    (θ_run Cert.ReferenceIdeal.defs _ _).mono (fun r h c => ⟨(h c).1.trans ?_, (h c).2 _ (by decide), (h c).2 _ (by decide), (h c).2 _ (by decide), (h c).2 _ (by decide), (h c).2 _ (by decide), (h c).2 _ (by decide), (h c).2 _ (by decide), (h c).2 _ (by decide), (h c).2 _ (by decide), (h c).2 _ (by decide), (h c).2 _ (by decide)⟩) (Ref.ref_run (F := Ideal) m' ρ')⟩
  obtain ⟨e0, e1, e2, e3, e4, e5, e6, e7, e8, e9, e10⟩ := hagree c
  rw [e0, e1, e2, e3, e4, e5, e6, e7, e8, e9, e10]
  exact (Run.kernel_reference m c (hpre c)).symm

theorem claim : Cert.Claim := ⟨Cert.Kernel.Gen.facts, Cert.KernelIdeal.Gen.facts, Cert.ReferenceIdeal.Gen.facts, Cert.Pre_ascending_and_finite.Gen.facts,
  frame_kernel, frame_kernelIdeal, frame_kernelIdeal_pre, frame_reference, frame_reference_pre, trivial, same⟩

end Cert.Proof

end
